-- ==== Defs.lean ====
def Pre_Kernel [hPre_earlier_heads : Cert.Pre_earlier_heads.Facts] (m : (ℓ : Loc Cert.Kernel.nD Cert.Kernel.τ Cert.Kernel.sig) → Buf (Elt Bits) ℓ) : Prop :=
  ∀ c : Dev Cert.Kernel.nD,
    (Cert.Pre_earlier_heads.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_earlier_heads : Cert.Pre_earlier_heads.Facts] (m : (ℓ : Loc Cert.KernelIdeal.nD Cert.KernelIdeal.τ Cert.KernelIdeal.sig) → Buf (Elt Ideal) ℓ) : Prop :=
  ∀ c : Dev Cert.KernelIdeal.nD,
    (Cert.Pre_earlier_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_earlier_heads [hPre_earlier_heads : Cert.Pre_earlier_heads.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_earlier_heads.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_earlier_heads : Cert.Pre_earlier_heads.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_earlier_heads : Cert.Pre_earlier_heads.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_earlier_heads [hReferenceIdeal : Cert.ReferenceIdeal.Facts] [hPre_earlier_heads : Cert.Pre_earlier_heads.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_earlier_heads m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_earlier_heads : Cert.Pre_earlier_heads.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_earlier_heads : Cert.Pre_earlier_heads.Facts),
    quiescent_Kernel (hKernel := hKernel) (hPre_earlier_heads := hPre_earlier_heads)
    ∧ quiescent_KernelIdeal (hKernelIdeal := hKernelIdeal) (hPre_earlier_heads := hPre_earlier_heads)
    ∧ quiescent_ReferenceIdeal (hReferenceIdeal := hReferenceIdeal)
    ∧ quiescent_ReferenceIdeal_pre_earlier_heads (hReferenceIdeal := hReferenceIdeal) (hPre_earlier_heads := hPre_earlier_heads)
    ∧ preserves_Kernel_KernelIdeal
    ∧ algebraic_KernelIdeal_ReferenceIdeal (hKernelIdeal := hKernelIdeal) (hReferenceIdeal := hReferenceIdeal) (hPre_earlier_heads := hPre_earlier_heads)
-- ==== Pre_earlier_heads.lean ====
abbrev S256x64x512 : Shape := ⟨3, ![256, 64, 512]⟩
abbrev S64x256 : Shape := ⟨2, ![64, 256]⟩
abbrev S512x1536 : Shape := ⟨2, ![512, 1536]⟩
abbrev S1536 : Shape := ⟨1, ![1536]⟩
abbrev S256 : Shape := ⟨1, ![256]⟩
abbrev S1x256 : Shape := ⟨2, ![1, 256]⟩
abbrev S_ : Shape := ⟨0, ![]⟩

class Facts : Prop where
  bcast_S256_S1x256_1 : S256.BroadcastsInDim S1x256 (![1] : Fin 1 → Fin S1x256.rank)
  bcast_S_S64x256 : S_.BroadcastsInDim S64x256 (![] : Fin 0 → Fin S64x256.rank)
  bcast_S1x256_S64x256_0_1 : S1x256.BroadcastsInDim S64x256 (![0, 1] : Fin 2 → Fin S64x256.rank)
  reducesTo_S64x256_S_d0_1 : S64x256.ReducesTo [0, 1] S_
  h_S_ : 0 < S_.numel

variable [Facts]

def fn {F : FTy → Type} [FloatOps F] (main_arg0 : FVec F S256x64x512 .f32) (main_arg1 : IVec S64x256 32) (main_arg2 : FVec F S512x1536 .f32) (main_arg3 : FVec F S512x1536 .f32) (main_arg4 : FVec F S1536 .f32) (main_arg5 : FVec F S512x1536 .f32) (main_arg6 : FVec F S512x1536 .f32) (main_arg7 : FVec F S1536 .f32) : IVec S_ 1 :=
  let main_v0 : IVec S256 32 := iotaInDim S256 32 0
  let main_v1 : IVec S1x256 32 := broadcastInDim S1x256 ![1] bcast_S256_S1x256_1 main_v0
  let main_c : IVec S_ 32 := constantI S_ 32 0#32
  let main_v2 : IVec S64x256 32 := broadcastInDim S64x256 ![] bcast_S_S64x256 main_c
  let main_v3 : IVec S64x256 1 := cmpi .sge main_arg1 main_v2
  let main_v4 : IVec S64x256 32 := broadcastInDim S64x256 ![0, 1] bcast_S1x256_S64x256_0_1 main_v1
  let main_v5 : IVec S64x256 1 := cmpi .slt main_arg1 main_v4
  let main_c_0 : IVec S_ 32 := constantI S_ 32 256#32
  let main_v6 : IVec S64x256 32 := broadcastInDim S64x256 ![] bcast_S_S64x256 main_c_0
  let main_v7 : IVec S64x256 1 := cmpi .eq main_arg1 main_v6
  let main_v8 : IVec S64x256 1 := ori main_v5 main_v7
  let main_v9 : IVec S64x256 1 := andi main_v3 main_v8
  let main_c_1 : IVec S_ 1 := constantI S_ 1 1#1
  let main_v10 : IVec S_ 1 := (fun x v => Host.reduce IntOp.andi x v reducesTo_S64x256_S_d0_1 h_S_) main_v9 main_c_1
  main_v10
-- ==== Kernel.lean ====
abbrev S256x64x512 : Shape := ⟨3, ![256, 64, 512]⟩
abbrev S64x256 : Shape := ⟨2, ![64, 256]⟩
abbrev S512x1536 : Shape := ⟨2, ![512, 1536]⟩
abbrev S1536 : Shape := ⟨1, ![1536]⟩
abbrev S1x1536 : Shape := ⟨2, ![1, 1536]⟩
abbrev S8x64x512 : Shape := ⟨3, ![8, 64, 512]⟩
abbrev S257x64x512 : Shape := ⟨3, ![257, 64, 512]⟩
abbrev S64x512 : Shape := ⟨2, ![64, 512]⟩
abbrev S1x64x512 : Shape := ⟨3, ![1, 64, 512]⟩
abbrev S512x512 : Shape := ⟨2, ![512, 512]⟩
abbrev S1x1 : Shape := ⟨2, ![1, 1]⟩
abbrev S1x1x512 : Shape := ⟨3, ![1, 1, 512]⟩
abbrev S512 : Shape := ⟨1, ![512]⟩
abbrev S1x512 : Shape := ⟨2, ![1, 512]⟩
abbrev S2x512 : Shape := ⟨2, ![2, 512]⟩
abbrev S64x1536 : Shape := ⟨2, ![64, 1536]⟩
abbrev S1x2x512 : Shape := ⟨3, ![1, 2, 512]⟩
abbrev S256x64x1024 : Shape := ⟨3, ![256, 64, 1024]⟩
abbrev S64x256x1024 : Shape := ⟨3, ![64, 256, 1024]⟩
abbrev S64x1024 : Shape := ⟨2, ![64, 1024]⟩
abbrev S1x64x1024 : Shape := ⟨3, ![1, 64, 1024]⟩

abbrev nBuf : Space → Nat
  | .hbm => 21
  | .vmem => 19
  | .smem => 1
  | _ => 0

abbrev bufTy : (tb : Table) → Fin (tcTables nBuf tb) → BufTy
  | .hbm, ⟨0, _⟩ => ⟨S256x64x512, .f32⟩
  | .hbm, ⟨1, _⟩ => ⟨S512x1536, .f32⟩
  | .hbm, ⟨2, _⟩ => ⟨S512x1536, .f32⟩
  | .hbm, ⟨3, _⟩ => ⟨S1536, .f32⟩
  | .hbm, ⟨4, _⟩ => ⟨S512x1536, .f32⟩
  | .hbm, ⟨5, _⟩ => ⟨S512x1536, .f32⟩
  | .hbm, ⟨6, _⟩ => ⟨S1536, .f32⟩
  | .hbm, ⟨7, _⟩ => ⟨S1x1536, .f32⟩
  | .hbm, ⟨8, _⟩ => ⟨S1x1536, .f32⟩
  | .hbm, ⟨9, _⟩ => ⟨S256x64x512, .bf16⟩
  | .hbm, ⟨10, _⟩ => ⟨S256x64x512, .bf16⟩
  | .hbm, ⟨11, _⟩ => ⟨S256x64x1024, .bf16⟩
  | .hbm, ⟨12, _⟩ => ⟨S64x256x1024, .bf16⟩
  | .hbm, ⟨13, _⟩ => ⟨S64x256x1024, .f32⟩
  | .hbm, ⟨14, _⟩ => ⟨S1x64x512, .bf16⟩
  | .hbm, ⟨15, _⟩ => ⟨S64x512, .bf16⟩
  | .hbm, ⟨16, _⟩ => ⟨S1x64x512, .bf16⟩
  | .hbm, ⟨17, _⟩ => ⟨S64x512, .bf16⟩
  | .hbm, ⟨18, _⟩ => ⟨S64x1024, .bf16⟩
  | .hbm, ⟨19, _⟩ => ⟨S1x64x1024, .bf16⟩
  | .hbm, ⟨20, _⟩ => ⟨S1x64x1024, .f32⟩
  | .local _ .vmem, ⟨0, _⟩ => ⟨S8x64x512, .f32⟩
  | .local _ .vmem, ⟨1, _⟩ => ⟨S8x64x512, .f32⟩
  | .local _ .vmem, ⟨2, _⟩ => ⟨S8x64x512, .f32⟩
  | .local _ .vmem, ⟨3, _⟩ => ⟨S8x64x512, .f32⟩
  | .local _ .vmem, ⟨4, _⟩ => ⟨S512x1536, .f32⟩
  | .local _ .vmem, ⟨5, _⟩ => ⟨S512x1536, .f32⟩
  | .local _ .vmem, ⟨6, _⟩ => ⟨S1x1536, .f32⟩
  | .local _ .vmem, ⟨7, _⟩ => ⟨S512x1536, .f32⟩
  | .local _ .vmem, ⟨8, _⟩ => ⟨S512x1536, .f32⟩
  | .local _ .vmem, ⟨9, _⟩ => ⟨S1x1536, .f32⟩
  | .local _ .vmem, ⟨10, _⟩ => ⟨S8x64x512, .bf16⟩
  | .local _ .vmem, ⟨11, _⟩ => ⟨S8x64x512, .bf16⟩
  | .local _ .vmem, ⟨12, _⟩ => ⟨S8x64x512, .bf16⟩
  | .local _ .vmem, ⟨13, _⟩ => ⟨S8x64x512, .bf16⟩
  | .local _ .vmem, ⟨14, _⟩ => ⟨S257x64x512, .bf16⟩
  | .local _ .vmem, ⟨15, _⟩ => ⟨S257x64x512, .bf16⟩
  | .local _ .vmem, ⟨16, _⟩ => ⟨S512x1536, .f32⟩
  | .local _ .vmem, ⟨17, _⟩ => ⟨S512x1536, .f32⟩
  | .local _ .vmem, ⟨18, _⟩ => ⟨S64x512, .bf16⟩
  | .local _ .smem, ⟨0, _⟩ => ⟨S64x256, .i32⟩
  | _, _ => ⟨S256x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_24 : BitVec 32 := 0#32
  let c8_i32_25 : BitVec 32 := 8#32
  let v26 : BitVec 32 := Scalar.addi c0_i32_24 c8_i32_25
  let c1_i32 : BitVec 32 := 1#32
  ⟨c0_i32_24, v26, c1_i32⟩
def k0_off1 (i : grid0.Coords) (k0_t1 : Fin k0_t1_loop.trips) : Fin 2 → Nat :=
  let c0_27 : Index := 0#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v30 : Index := Scalar.indexCast v29
  ![0, v30.toNat]
def k0_off2 (v31 : BitVec 32) : Fin 3 → Nat :=
  let v32 : Index := Scalar.indexCast v31
  let c0_28 : Index := 0#32
  let c0_29 : Index := 0#32
  ![v32.toNat, 0, 0]

def k0_chk1 (v31 : BitVec 32) : Prop :=
  (∀ a, (k0_off2 v31) a + S1x1x512.size a ≤ S257x64x512.size a)
theorem k0_off2_inb : ∀ (v31 : BitVec 32) (k0_hw1 : k0_chk1 v31), ∀ a, (k0_off2 v31) a + S1x1x512.size a ≤ S257x64x512.size a := fun v31 k0_hw1 => k0_hw1

def k0_off3 (i : grid0.Coords) (k0_t1 : Fin k0_t1_loop.trips) : Fin 2 → Nat :=
  let c1 : Index := 1#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v38 : Index := Scalar.indexCast v29
  ![1, v38.toNat]
def k0_off4 (v39 : BitVec 32) : Fin 3 → Nat :=
  let v40 : Index := Scalar.indexCast v39
  let c1_32 : Index := 1#32
  let c0_33 : Index := 0#32
  ![v40.toNat, 1, 0]

def k0_chk2 (v39 : BitVec 32) : Prop :=
  (∀ a, (k0_off4 v39) a + S1x1x512.size a ≤ S257x64x512.size a)
theorem k0_off4_inb : ∀ (v39 : BitVec 32) (k0_hw2 : k0_chk2 v39), ∀ a, (k0_off4 v39) a + S1x1x512.size a ≤ S257x64x512.size a := fun v39 k0_hw2 => k0_hw2

def k0_off5 (i : grid0.Coords) (k0_t1 : Fin k0_t1_loop.trips) : Fin 2 → Nat :=
  let c2 : Index := 2#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v46 : Index := Scalar.indexCast v29
  ![2, v46.toNat]
def k0_off6 (v47 : BitVec 32) : Fin 3 → Nat :=
  let v48 : Index := Scalar.indexCast v47
  let c2_36 : Index := 2#32
  let c0_37 : Index := 0#32
  ![v48.toNat, 2, 0]

def k0_chk3 (v47 : BitVec 32) : Prop :=
  (∀ a, (k0_off6 v47) a + S1x1x512.size a ≤ S257x64x512.size a)
theorem k0_off6_inb : ∀ (v47 : BitVec 32) (k0_hw3 : k0_chk3 v47), ∀ a, (k0_off6 v47) a + S1x1x512.size a ≤ S257x64x512.size a := fun v47 k0_hw3 => k0_hw3

def k0_off7 (i : grid0.Coords) (k0_t1 : Fin k0_t1_loop.trips) : Fin 2 → Nat :=
  let c3 : Index := 3#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v54 : Index := Scalar.indexCast v29
  ![3, v54.toNat]
def k0_off8 (v55 : BitVec 32) : Fin 3 → Nat :=
  let v56 : Index := Scalar.indexCast v55
  let c3_40 : Index := 3#32
  let c0_41 : Index := 0#32
  ![v56.toNat, 3, 0]

def k0_chk4 (v55 : BitVec 32) : Prop :=
  (∀ a, (k0_off8 v55) a + S1x1x512.size a ≤ S257x64x512.size a)
theorem k0_off8_inb : ∀ (v55 : BitVec 32) (k0_hw4 : k0_chk4 v55), ∀ a, (k0_off8 v55) a + S1x1x512.size a ≤ S257x64x512.size a := fun v55 k0_hw4 => k0_hw4

def k0_off9 (i : grid0.Coords) (k0_t1 : Fin k0_t1_loop.trips) : Fin 2 → Nat :=
  let c4 : Index := 4#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v62 : Index := Scalar.indexCast v29
  ![4, v62.toNat]
def k0_off10 (v63 : BitVec 32) : Fin 3 → Nat :=
  let v64 : Index := Scalar.indexCast v63
  let c4_44 : Index := 4#32
  let c0_45 : Index := 0#32
  ![v64.toNat, 4, 0]

def k0_chk5 (v63 : BitVec 32) : Prop :=
  (∀ a, (k0_off10 v63) a + S1x1x512.size a ≤ S257x64x512.size a)
theorem k0_off10_inb : ∀ (v63 : BitVec 32) (k0_hw5 : k0_chk5 v63), ∀ a, (k0_off10 v63) a + S1x1x512.size a ≤ S257x64x512.size a := fun v63 k0_hw5 => k0_hw5

def k0_off11 (i : grid0.Coords) (k0_t1 : Fin k0_t1_loop.trips) : Fin 2 → Nat :=
  let c5 : Index := 5#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v70 : Index := Scalar.indexCast v29
  ![5, v70.toNat]
def k0_off12 (v71 : BitVec 32) : Fin 3 → Nat :=
  let v72 : Index := Scalar.indexCast v71
  let c5_48 : Index := 5#32
  let c0_49 : Index := 0#32
  ![v72.toNat, 5, 0]

def k0_chk6 (v71 : BitVec 32) : Prop :=
  (∀ a, (k0_off12 v71) a + S1x1x512.size a ≤ S257x64x512.size a)
theorem k0_off12_inb : ∀ (v71 : BitVec 32) (k0_hw6 : k0_chk6 v71), ∀ a, (k0_off12 v71) a + S1x1x512.size a ≤ S257x64x512.size a := fun v71 k0_hw6 => k0_hw6

def k0_off13 (i : grid0.Coords) (k0_t1 : Fin k0_t1_loop.trips) : Fin 2 → Nat :=
  let c6 : Index := 6#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v78 : Index := Scalar.indexCast v29
  ![6, v78.toNat]
def k0_off14 (v79 : BitVec 32) : Fin 3 → Nat :=
  let v80 : Index := Scalar.indexCast v79
  let c6_52 : Index := 6#32
  let c0_53 : Index := 0#32
  ![v80.toNat, 6, 0]

def k0_chk7 (v79 : BitVec 32) : Prop :=
  (∀ a, (k0_off14 v79) a + S1x1x512.size a ≤ S257x64x512.size a)
theorem k0_off14_inb : ∀ (v79 : BitVec 32) (k0_hw7 : k0_chk7 v79), ∀ a, (k0_off14 v79) a + S1x1x512.size a ≤ S257x64x512.size a := fun v79 k0_hw7 => k0_hw7

def k0_off15 (i : grid0.Coords) (k0_t1 : Fin k0_t1_loop.trips) : Fin 2 → Nat :=
  let c7 : Index := 7#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v86 : Index := Scalar.indexCast v29
  ![7, v86.toNat]
def k0_off16 (v87 : BitVec 32) : Fin 3 → Nat :=
  let v88 : Index := Scalar.indexCast v87
  let c7_56 : Index := 7#32
  let c0_57 : Index := 0#32
  ![v88.toNat, 7, 0]

def k0_chk8 (v87 : BitVec 32) : Prop :=
  (∀ a, (k0_off16 v87) a + S1x1x512.size a ≤ S257x64x512.size a)
theorem k0_off16_inb : ∀ (v87 : BitVec 32) (k0_hw8 : k0_chk8 v87), ∀ a, (k0_off16 v87) a + S1x1x512.size a ≤ S257x64x512.size a := fun v87 k0_hw8 => k0_hw8

def k0_off17 (i : grid0.Coords) (k0_t1 : Fin k0_t1_loop.trips) : Fin 2 → Nat :=
  let c8 : Index := 8#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v94 : Index := Scalar.indexCast v29
  ![8, v94.toNat]
def k0_off18 (v95 : BitVec 32) : Fin 3 → Nat :=
  let v96 : Index := Scalar.indexCast v95
  let c8_60 : Index := 8#32
  let c0_61 : Index := 0#32
  ![v96.toNat, 8, 0]

def k0_chk9 (v95 : BitVec 32) : Prop :=
  (∀ a, (k0_off18 v95) a + S1x1x512.size a ≤ S257x64x512.size a)
theorem k0_off18_inb : ∀ (v95 : BitVec 32) (k0_hw9 : k0_chk9 v95), ∀ a, (k0_off18 v95) a + S1x1x512.size a ≤ S257x64x512.size a := fun v95 k0_hw9 => k0_hw9

def k0_off19 (i : grid0.Coords) (k0_t1 : Fin k0_t1_loop.trips) : Fin 2 → Nat :=
  let c9 : Index := 9#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v102 : Index := Scalar.indexCast v29
  ![9, v102.toNat]
def k0_off20 (v103 : BitVec 32) : Fin 3 → Nat :=
  let v104 : Index := Scalar.indexCast v103
  let c9_64 : Index := 9#32
  let c0_65 : Index := 0#32
  ![v104.toNat, 9, 0]

def k0_chk10 (v103 : BitVec 32) : Prop :=
  (∀ a, (k0_off20 v103) a + S1x1x512.size a ≤ S257x64x512.size a)
theorem k0_off20_inb : ∀ (v103 : BitVec 32) (k0_hw10 : k0_chk10 v103), ∀ a, (k0_off20 v103) a + S1x1x512.size a ≤ S257x64x512.size a := fun v103 k0_hw10 => k0_hw10

def k0_off21 (i : grid0.Coords) (k0_t1 : Fin k0_t1_loop.trips) : Fin 2 → Nat :=
  let c10 : Index := 10#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v110 : Index := Scalar.indexCast v29
  ![10, v110.toNat]
def k0_off22 (v111 : BitVec 32) : Fin 3 → Nat :=
  let v112 : Index := Scalar.indexCast v111
  let c10_68 : Index := 10#32
  let c0_69 : Index := 0#32
  ![v112.toNat, 10, 0]

def k0_chk11 (v111 : BitVec 32) : Prop :=
  (∀ a, (k0_off22 v111) a + S1x1x512.size a ≤ S257x64x512.size a)
theorem k0_off22_inb : ∀ (v111 : BitVec 32) (k0_hw11 : k0_chk11 v111), ∀ a, (k0_off22 v111) a + S1x1x512.size a ≤ S257x64x512.size a := fun v111 k0_hw11 => k0_hw11

def k0_off23 (i : grid0.Coords) (k0_t1 : Fin k0_t1_loop.trips) : Fin 2 → Nat :=
  let c11 : Index := 11#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v118 : Index := Scalar.indexCast v29
  ![11, v118.toNat]
def k0_off24 (v119 : BitVec 32) : Fin 3 → Nat :=
  let v120 : Index := Scalar.indexCast v119
  let c11_72 : Index := 11#32
  let c0_73 : Index := 0#32
  ![v120.toNat, 11, 0]

def k0_chk12 (v119 : BitVec 32) : Prop :=
  (∀ a, (k0_off24 v119) a + S1x1x512.size a ≤ S257x64x512.size a)
theorem k0_off24_inb : ∀ (v119 : BitVec 32) (k0_hw12 : k0_chk12 v119), ∀ a, (k0_off24 v119) a + S1x1x512.size a ≤ S257x64x512.size a := fun v119 k0_hw12 => k0_hw12

def k0_off25 (i : grid0.Coords) (k0_t1 : Fin k0_t1_loop.trips) : Fin 2 → Nat :=
  let c12 : Index := 12#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v126 : Index := Scalar.indexCast v29
  ![12, v126.toNat]
def k0_off26 (v127 : BitVec 32) : Fin 3 → Nat :=
  let v128 : Index := Scalar.indexCast v127
  let c12_76 : Index := 12#32
  let c0_77 : Index := 0#32
  ![v128.toNat, 12, 0]

def k0_chk13 (v127 : BitVec 32) : Prop :=
  (∀ a, (k0_off26 v127) a + S1x1x512.size a ≤ S257x64x512.size a)
theorem k0_off26_inb : ∀ (v127 : BitVec 32) (k0_hw13 : k0_chk13 v127), ∀ a, (k0_off26 v127) a + S1x1x512.size a ≤ S257x64x512.size a := fun v127 k0_hw13 => k0_hw13

def k0_off27 (i : grid0.Coords) (k0_t1 : Fin k0_t1_loop.trips) : Fin 2 → Nat :=
  let c13 : Index := 13#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v134 : Index := Scalar.indexCast v29
  ![13, v134.toNat]
def k0_off28 (v135 : BitVec 32) : Fin 3 → Nat :=
  let v136 : Index := Scalar.indexCast v135
  let c13_80 : Index := 13#32
  let c0_81 : Index := 0#32
  ![v136.toNat, 13, 0]

def k0_chk14 (v135 : BitVec 32) : Prop :=
  (∀ a, (k0_off28 v135) a + S1x1x512.size a ≤ S257x64x512.size a)
theorem k0_off28_inb : ∀ (v135 : BitVec 32) (k0_hw14 : k0_chk14 v135), ∀ a, (k0_off28 v135) a + S1x1x512.size a ≤ S257x64x512.size a := fun v135 k0_hw14 => k0_hw14

def k0_off29 (i : grid0.Coords) (k0_t1 : Fin k0_t1_loop.trips) : Fin 2 → Nat :=
  let c14 : Index := 14#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v142 : Index := Scalar.indexCast v29
  ![14, v142.toNat]
def k0_off30 (v143 : BitVec 32) : Fin 3 → Nat :=
  let v144 : Index := Scalar.indexCast v143
  let c14_84 : Index := 14#32
  let c0_85 : Index := 0#32
  ![v144.toNat, 14, 0]

def k0_chk15 (v143 : BitVec 32) : Prop :=
  (∀ a, (k0_off30 v143) a + S1x1x512.size a ≤ S257x64x512.size a)
theorem k0_off30_inb : ∀ (v143 : BitVec 32) (k0_hw15 : k0_chk15 v143), ∀ a, (k0_off30 v143) a + S1x1x512.size a ≤ S257x64x512.size a := fun v143 k0_hw15 => k0_hw15

def k0_off31 (i : grid0.Coords) (k0_t1 : Fin k0_t1_loop.trips) : Fin 2 → Nat :=
  let c15 : Index := 15#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v150 : Index := Scalar.indexCast v29
  ![15, v150.toNat]
def k0_off32 (v151 : BitVec 32) : Fin 3 → Nat :=
  let v152 : Index := Scalar.indexCast v151
  let c15_88 : Index := 15#32
  let c0_89 : Index := 0#32
  ![v152.toNat, 15, 0]

def k0_chk16 (v151 : BitVec 32) : Prop :=
  (∀ a, (k0_off32 v151) a + S1x1x512.size a ≤ S257x64x512.size a)
theorem k0_off32_inb : ∀ (v151 : BitVec 32) (k0_hw16 : k0_chk16 v151), ∀ a, (k0_off32 v151) a + S1x1x512.size a ≤ S257x64x512.size a := fun v151 k0_hw16 => k0_hw16

def k0_off33 (i : grid0.Coords) (k0_t1 : Fin k0_t1_loop.trips) : Fin 2 → Nat :=
  let c16 : Index := 16#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v158 : Index := Scalar.indexCast v29
  ![16, v158.toNat]
def k0_off34 (v159 : BitVec 32) : Fin 3 → Nat :=
  let v160 : Index := Scalar.indexCast v159
  let c16_92 : Index := 16#32
  let c0_93 : Index := 0#32
  ![v160.toNat, 16, 0]

def k0_chk17 (v159 : BitVec 32) : Prop :=
  (∀ a, (k0_off34 v159) a + S1x1x512.size a ≤ S257x64x512.size a)
theorem k0_off34_inb : ∀ (v159 : BitVec 32) (k0_hw17 : k0_chk17 v159), ∀ a, (k0_off34 v159) a + S1x1x512.size a ≤ S257x64x512.size a := fun v159 k0_hw17 => k0_hw17

def k0_off35 (i : grid0.Coords) (k0_t1 : Fin k0_t1_loop.trips) : Fin 2 → Nat :=
  let c17 : Index := 17#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v166 : Index := Scalar.indexCast v29
  ![17, v166.toNat]
def k0_off36 (v167 : BitVec 32) : Fin 3 → Nat :=
  let v168 : Index := Scalar.indexCast v167
  let c17_96 : Index := 17#32
  let c0_97 : Index := 0#32
  ![v168.toNat, 17, 0]

def k0_chk18 (v167 : BitVec 32) : Prop :=
  (∀ a, (k0_off36 v167) a + S1x1x512.size a ≤ S257x64x512.size a)
theorem k0_off36_inb : ∀ (v167 : BitVec 32) (k0_hw18 : k0_chk18 v167), ∀ a, (k0_off36 v167) a + S1x1x512.size a ≤ S257x64x512.size a := fun v167 k0_hw18 => k0_hw18

def k0_off37 (i : grid0.Coords) (k0_t1 : Fin k0_t1_loop.trips) : Fin 2 → Nat :=
  let c18 : Index := 18#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v174 : Index := Scalar.indexCast v29
  ![18, v174.toNat]
def k0_off38 (v175 : BitVec 32) : Fin 3 → Nat :=
  let v176 : Index := Scalar.indexCast v175
  let c18_100 : Index := 18#32
  let c0_101 : Index := 0#32
  ![v176.toNat, 18, 0]

def k0_chk19 (v175 : BitVec 32) : Prop :=
  (∀ a, (k0_off38 v175) a + S1x1x512.size a ≤ S257x64x512.size a)
theorem k0_off38_inb : ∀ (v175 : BitVec 32) (k0_hw19 : k0_chk19 v175), ∀ a, (k0_off38 v175) a + S1x1x512.size a ≤ S257x64x512.size a := fun v175 k0_hw19 => k0_hw19

def k0_off39 (i : grid0.Coords) (k0_t1 : Fin k0_t1_loop.trips) : Fin 2 → Nat :=
  let c19 : Index := 19#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v182 : Index := Scalar.indexCast v29
  ![19, v182.toNat]
def k0_off40 (v183 : BitVec 32) : Fin 3 → Nat :=
  let v184 : Index := Scalar.indexCast v183
  let c19_104 : Index := 19#32
  let c0_105 : Index := 0#32
  ![v184.toNat, 19, 0]

def k0_chk20 (v183 : BitVec 32) : Prop :=
  (∀ a, (k0_off40 v183) a + S1x1x512.size a ≤ S257x64x512.size a)
theorem k0_off40_inb : ∀ (v183 : BitVec 32) (k0_hw20 : k0_chk20 v183), ∀ a, (k0_off40 v183) a + S1x1x512.size a ≤ S257x64x512.size a := fun v183 k0_hw20 => k0_hw20

def k0_off41 (i : grid0.Coords) (k0_t1 : Fin k0_t1_loop.trips) : Fin 2 → Nat :=
  let c20 : Index := 20#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v190 : Index := Scalar.indexCast v29
  ![20, v190.toNat]
def k0_off42 (v191 : BitVec 32) : Fin 3 → Nat :=
  let v192 : Index := Scalar.indexCast v191
  let c20_108 : Index := 20#32
  let c0_109 : Index := 0#32
  ![v192.toNat, 20, 0]

def k0_chk21 (v191 : BitVec 32) : Prop :=
  (∀ a, (k0_off42 v191) a + S1x1x512.size a ≤ S257x64x512.size a)
theorem k0_off42_inb : ∀ (v191 : BitVec 32) (k0_hw21 : k0_chk21 v191), ∀ a, (k0_off42 v191) a + S1x1x512.size a ≤ S257x64x512.size a := fun v191 k0_hw21 => k0_hw21

def k0_off43 (i : grid0.Coords) (k0_t1 : Fin k0_t1_loop.trips) : Fin 2 → Nat :=
  let c21 : Index := 21#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v198 : Index := Scalar.indexCast v29
  ![21, v198.toNat]
def k0_off44 (v199 : BitVec 32) : Fin 3 → Nat :=
  let v200 : Index := Scalar.indexCast v199
  let c21_112 : Index := 21#32
  let c0_113 : Index := 0#32
  ![v200.toNat, 21, 0]

def k0_chk22 (v199 : BitVec 32) : Prop :=
  (∀ a, (k0_off44 v199) a + S1x1x512.size a ≤ S257x64x512.size a)
theorem k0_off44_inb : ∀ (v199 : BitVec 32) (k0_hw22 : k0_chk22 v199), ∀ a, (k0_off44 v199) a + S1x1x512.size a ≤ S257x64x512.size a := fun v199 k0_hw22 => k0_hw22

def k0_off45 (i : grid0.Coords) (k0_t1 : Fin k0_t1_loop.trips) : Fin 2 → Nat :=
  let c22 : Index := 22#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v206 : Index := Scalar.indexCast v29
  ![22, v206.toNat]
def k0_off46 (v207 : BitVec 32) : Fin 3 → Nat :=
  let v208 : Index := Scalar.indexCast v207
  let c22_116 : Index := 22#32
  let c0_117 : Index := 0#32
  ![v208.toNat, 22, 0]

def k0_chk23 (v207 : BitVec 32) : Prop :=
  (∀ a, (k0_off46 v207) a + S1x1x512.size a ≤ S257x64x512.size a)
theorem k0_off46_inb : ∀ (v207 : BitVec 32) (k0_hw23 : k0_chk23 v207), ∀ a, (k0_off46 v207) a + S1x1x512.size a ≤ S257x64x512.size a := fun v207 k0_hw23 => k0_hw23

def k0_off47 (i : grid0.Coords) (k0_t1 : Fin k0_t1_loop.trips) : Fin 2 → Nat :=
  let c23 : Index := 23#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v214 : Index := Scalar.indexCast v29
  ![23, v214.toNat]
def k0_off48 (v215 : BitVec 32) : Fin 3 → Nat :=
  let v216 : Index := Scalar.indexCast v215
  let c23_120 : Index := 23#32
  let c0_121 : Index := 0#32
  ![v216.toNat, 23, 0]

def k0_chk24 (v215 : BitVec 32) : Prop :=
  (∀ a, (k0_off48 v215) a + S1x1x512.size a ≤ S257x64x512.size a)
theorem k0_off48_inb : ∀ (v215 : BitVec 32) (k0_hw24 : k0_chk24 v215), ∀ a, (k0_off48 v215) a + S1x1x512.size a ≤ S257x64x512.size a := fun v215 k0_hw24 => k0_hw24

def k0_off49 (i : grid0.Coords) (k0_t1 : Fin k0_t1_loop.trips) : Fin 2 → Nat :=
  let c24 : Index := 24#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v222 : Index := Scalar.indexCast v29
  ![24, v222.toNat]
def k0_off50 (v223 : BitVec 32) : Fin 3 → Nat :=
  let v224 : Index := Scalar.indexCast v223
  let c24_124 : Index := 24#32
  let c0_125 : Index := 0#32
  ![v224.toNat, 24, 0]

def k0_chk25 (v223 : BitVec 32) : Prop :=
  (∀ a, (k0_off50 v223) a + S1x1x512.size a ≤ S257x64x512.size a)
theorem k0_off50_inb : ∀ (v223 : BitVec 32) (k0_hw25 : k0_chk25 v223), ∀ a, (k0_off50 v223) a + S1x1x512.size a ≤ S257x64x512.size a := fun v223 k0_hw25 => k0_hw25

def k0_off51 (i : grid0.Coords) (k0_t1 : Fin k0_t1_loop.trips) : Fin 2 → Nat :=
  let c25 : Index := 25#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v230 : Index := Scalar.indexCast v29
  ![25, v230.toNat]
def k0_off52 (v231 : BitVec 32) : Fin 3 → Nat :=
  let v232 : Index := Scalar.indexCast v231
  let c25_128 : Index := 25#32
  let c0_129 : Index := 0#32
  ![v232.toNat, 25, 0]

def k0_chk26 (v231 : BitVec 32) : Prop :=
  (∀ a, (k0_off52 v231) a + S1x1x512.size a ≤ S257x64x512.size a)
theorem k0_off52_inb : ∀ (v231 : BitVec 32) (k0_hw26 : k0_chk26 v231), ∀ a, (k0_off52 v231) a + S1x1x512.size a ≤ S257x64x512.size a := fun v231 k0_hw26 => k0_hw26

def k0_off53 (i : grid0.Coords) (k0_t1 : Fin k0_t1_loop.trips) : Fin 2 → Nat :=
  let c26 : Index := 26#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v238 : Index := Scalar.indexCast v29
  ![26, v238.toNat]
def k0_off54 (v239 : BitVec 32) : Fin 3 → Nat :=
  let v240 : Index := Scalar.indexCast v239
  let c26_132 : Index := 26#32
  let c0_133 : Index := 0#32
  ![v240.toNat, 26, 0]

def k0_chk27 (v239 : BitVec 32) : Prop :=
  (∀ a, (k0_off54 v239) a + S1x1x512.size a ≤ S257x64x512.size a)
theorem k0_off54_inb : ∀ (v239 : BitVec 32) (k0_hw27 : k0_chk27 v239), ∀ a, (k0_off54 v239) a + S1x1x512.size a ≤ S257x64x512.size a := fun v239 k0_hw27 => k0_hw27

def k0_off55 (i : grid0.Coords) (k0_t1 : Fin k0_t1_loop.trips) : Fin 2 → Nat :=
  let c27 : Index := 27#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v246 : Index := Scalar.indexCast v29
  ![27, v246.toNat]
def k0_off56 (v247 : BitVec 32) : Fin 3 → Nat :=
  let v248 : Index := Scalar.indexCast v247
  let c27_136 : Index := 27#32
  let c0_137 : Index := 0#32
  ![v248.toNat, 27, 0]

def k0_chk28 (v247 : BitVec 32) : Prop :=
  (∀ a, (k0_off56 v247) a + S1x1x512.size a ≤ S257x64x512.size a)
theorem k0_off56_inb : ∀ (v247 : BitVec 32) (k0_hw28 : k0_chk28 v247), ∀ a, (k0_off56 v247) a + S1x1x512.size a ≤ S257x64x512.size a := fun v247 k0_hw28 => k0_hw28

def k0_off57 (i : grid0.Coords) (k0_t1 : Fin k0_t1_loop.trips) : Fin 2 → Nat :=
  let c28 : Index := 28#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v254 : Index := Scalar.indexCast v29
  ![28, v254.toNat]
def k0_off58 (v255 : BitVec 32) : Fin 3 → Nat :=
  let v256 : Index := Scalar.indexCast v255
  let c28_140 : Index := 28#32
  let c0_141 : Index := 0#32
  ![v256.toNat, 28, 0]

def k0_chk29 (v255 : BitVec 32) : Prop :=
  (∀ a, (k0_off58 v255) a + S1x1x512.size a ≤ S257x64x512.size a)
theorem k0_off58_inb : ∀ (v255 : BitVec 32) (k0_hw29 : k0_chk29 v255), ∀ a, (k0_off58 v255) a + S1x1x512.size a ≤ S257x64x512.size a := fun v255 k0_hw29 => k0_hw29

def k0_off59 (i : grid0.Coords) (k0_t1 : Fin k0_t1_loop.trips) : Fin 2 → Nat :=
  let c29 : Index := 29#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v262 : Index := Scalar.indexCast v29
  ![29, v262.toNat]
def k0_off60 (v263 : BitVec 32) : Fin 3 → Nat :=
  let v264 : Index := Scalar.indexCast v263
  let c29_144 : Index := 29#32
  let c0_145 : Index := 0#32
  ![v264.toNat, 29, 0]

def k0_chk30 (v263 : BitVec 32) : Prop :=
  (∀ a, (k0_off60 v263) a + S1x1x512.size a ≤ S257x64x512.size a)
theorem k0_off60_inb : ∀ (v263 : BitVec 32) (k0_hw30 : k0_chk30 v263), ∀ a, (k0_off60 v263) a + S1x1x512.size a ≤ S257x64x512.size a := fun v263 k0_hw30 => k0_hw30

def k0_off61 (i : grid0.Coords) (k0_t1 : Fin k0_t1_loop.trips) : Fin 2 → Nat :=
  let c30 : Index := 30#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v270 : Index := Scalar.indexCast v29
  ![30, v270.toNat]
def k0_off62 (v271 : BitVec 32) : Fin 3 → Nat :=
  let v272 : Index := Scalar.indexCast v271
  let c30_148 : Index := 30#32
  let c0_149 : Index := 0#32
  ![v272.toNat, 30, 0]

def k0_chk31 (v271 : BitVec 32) : Prop :=
  (∀ a, (k0_off62 v271) a + S1x1x512.size a ≤ S257x64x512.size a)
theorem k0_off62_inb : ∀ (v271 : BitVec 32) (k0_hw31 : k0_chk31 v271), ∀ a, (k0_off62 v271) a + S1x1x512.size a ≤ S257x64x512.size a := fun v271 k0_hw31 => k0_hw31

def k0_off63 (i : grid0.Coords) (k0_t1 : Fin k0_t1_loop.trips) : Fin 2 → Nat :=
  let c31 : Index := 31#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v278 : Index := Scalar.indexCast v29
  ![31, v278.toNat]
def k0_off64 (v279 : BitVec 32) : Fin 3 → Nat :=
  let v280 : Index := Scalar.indexCast v279
  let c31_152 : Index := 31#32
  let c0_153 : Index := 0#32
  ![v280.toNat, 31, 0]

def k0_chk32 (v279 : BitVec 32) : Prop :=
  (∀ a, (k0_off64 v279) a + S1x1x512.size a ≤ S257x64x512.size a)
theorem k0_off64_inb : ∀ (v279 : BitVec 32) (k0_hw32 : k0_chk32 v279), ∀ a, (k0_off64 v279) a + S1x1x512.size a ≤ S257x64x512.size a := fun v279 k0_hw32 => k0_hw32

def k0_off65 (i : grid0.Coords) (k0_t1 : Fin k0_t1_loop.trips) : Fin 2 → Nat :=
  let c32 : Index := 32#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v286 : Index := Scalar.indexCast v29
  ![32, v286.toNat]
def k0_off66 (v287 : BitVec 32) : Fin 3 → Nat :=
  let v288 : Index := Scalar.indexCast v287
  let c32_156 : Index := 32#32
  let c0_157 : Index := 0#32
  ![v288.toNat, 32, 0]

def k0_chk33 (v287 : BitVec 32) : Prop :=
  (∀ a, (k0_off66 v287) a + S1x1x512.size a ≤ S257x64x512.size a)
theorem k0_off66_inb : ∀ (v287 : BitVec 32) (k0_hw33 : k0_chk33 v287), ∀ a, (k0_off66 v287) a + S1x1x512.size a ≤ S257x64x512.size a := fun v287 k0_hw33 => k0_hw33

def k0_off67 (i : grid0.Coords) (k0_t1 : Fin k0_t1_loop.trips) : Fin 2 → Nat :=
  let c33 : Index := 33#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v294 : Index := Scalar.indexCast v29
  ![33, v294.toNat]
def k0_off68 (v295 : BitVec 32) : Fin 3 → Nat :=
  let v296 : Index := Scalar.indexCast v295
  let c33_160 : Index := 33#32
  let c0_161 : Index := 0#32
  ![v296.toNat, 33, 0]

def k0_chk34 (v295 : BitVec 32) : Prop :=
  (∀ a, (k0_off68 v295) a + S1x1x512.size a ≤ S257x64x512.size a)
theorem k0_off68_inb : ∀ (v295 : BitVec 32) (k0_hw34 : k0_chk34 v295), ∀ a, (k0_off68 v295) a + S1x1x512.size a ≤ S257x64x512.size a := fun v295 k0_hw34 => k0_hw34

def k0_off69 (i : grid0.Coords) (k0_t1 : Fin k0_t1_loop.trips) : Fin 2 → Nat :=
  let c34 : Index := 34#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v302 : Index := Scalar.indexCast v29
  ![34, v302.toNat]
def k0_off70 (v303 : BitVec 32) : Fin 3 → Nat :=
  let v304 : Index := Scalar.indexCast v303
  let c34_164 : Index := 34#32
  let c0_165 : Index := 0#32
  ![v304.toNat, 34, 0]

def k0_chk35 (v303 : BitVec 32) : Prop :=
  (∀ a, (k0_off70 v303) a + S1x1x512.size a ≤ S257x64x512.size a)
theorem k0_off70_inb : ∀ (v303 : BitVec 32) (k0_hw35 : k0_chk35 v303), ∀ a, (k0_off70 v303) a + S1x1x512.size a ≤ S257x64x512.size a := fun v303 k0_hw35 => k0_hw35

def k0_off71 (i : grid0.Coords) (k0_t1 : Fin k0_t1_loop.trips) : Fin 2 → Nat :=
  let c35 : Index := 35#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v310 : Index := Scalar.indexCast v29
  ![35, v310.toNat]
def k0_off72 (v311 : BitVec 32) : Fin 3 → Nat :=
  let v312 : Index := Scalar.indexCast v311
  let c35_168 : Index := 35#32
  let c0_169 : Index := 0#32
  ![v312.toNat, 35, 0]

def k0_chk36 (v311 : BitVec 32) : Prop :=
  (∀ a, (k0_off72 v311) a + S1x1x512.size a ≤ S257x64x512.size a)
theorem k0_off72_inb : ∀ (v311 : BitVec 32) (k0_hw36 : k0_chk36 v311), ∀ a, (k0_off72 v311) a + S1x1x512.size a ≤ S257x64x512.size a := fun v311 k0_hw36 => k0_hw36

def k0_off73 (i : grid0.Coords) (k0_t1 : Fin k0_t1_loop.trips) : Fin 2 → Nat :=
  let c36 : Index := 36#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v318 : Index := Scalar.indexCast v29
  ![36, v318.toNat]
def k0_off74 (v319 : BitVec 32) : Fin 3 → Nat :=
  let v320 : Index := Scalar.indexCast v319
  let c36_172 : Index := 36#32
  let c0_173 : Index := 0#32
  ![v320.toNat, 36, 0]

def k0_chk37 (v319 : BitVec 32) : Prop :=
  (∀ a, (k0_off74 v319) a + S1x1x512.size a ≤ S257x64x512.size a)
theorem k0_off74_inb : ∀ (v319 : BitVec 32) (k0_hw37 : k0_chk37 v319), ∀ a, (k0_off74 v319) a + S1x1x512.size a ≤ S257x64x512.size a := fun v319 k0_hw37 => k0_hw37

def k0_off75 (i : grid0.Coords) (k0_t1 : Fin k0_t1_loop.trips) : Fin 2 → Nat :=
  let c37 : Index := 37#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v326 : Index := Scalar.indexCast v29
  ![37, v326.toNat]
def k0_off76 (v327 : BitVec 32) : Fin 3 → Nat :=
  let v328 : Index := Scalar.indexCast v327
  let c37_176 : Index := 37#32
  let c0_177 : Index := 0#32
  ![v328.toNat, 37, 0]

def k0_chk38 (v327 : BitVec 32) : Prop :=
  (∀ a, (k0_off76 v327) a + S1x1x512.size a ≤ S257x64x512.size a)
theorem k0_off76_inb : ∀ (v327 : BitVec 32) (k0_hw38 : k0_chk38 v327), ∀ a, (k0_off76 v327) a + S1x1x512.size a ≤ S257x64x512.size a := fun v327 k0_hw38 => k0_hw38

def k0_off77 (i : grid0.Coords) (k0_t1 : Fin k0_t1_loop.trips) : Fin 2 → Nat :=
  let c38 : Index := 38#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v334 : Index := Scalar.indexCast v29
  ![38, v334.toNat]
def k0_off78 (v335 : BitVec 32) : Fin 3 → Nat :=
  let v336 : Index := Scalar.indexCast v335
  let c38_180 : Index := 38#32
  let c0_181 : Index := 0#32
  ![v336.toNat, 38, 0]

def k0_chk39 (v335 : BitVec 32) : Prop :=
  (∀ a, (k0_off78 v335) a + S1x1x512.size a ≤ S257x64x512.size a)
theorem k0_off78_inb : ∀ (v335 : BitVec 32) (k0_hw39 : k0_chk39 v335), ∀ a, (k0_off78 v335) a + S1x1x512.size a ≤ S257x64x512.size a := fun v335 k0_hw39 => k0_hw39

def k0_off79 (i : grid0.Coords) (k0_t1 : Fin k0_t1_loop.trips) : Fin 2 → Nat :=
  let c39 : Index := 39#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v342 : Index := Scalar.indexCast v29
  ![39, v342.toNat]
def k0_off80 (v343 : BitVec 32) : Fin 3 → Nat :=
  let v344 : Index := Scalar.indexCast v343
  let c39_184 : Index := 39#32
  let c0_185 : Index := 0#32
  ![v344.toNat, 39, 0]

def k0_chk40 (v343 : BitVec 32) : Prop :=
  (∀ a, (k0_off80 v343) a + S1x1x512.size a ≤ S257x64x512.size a)
theorem k0_off80_inb : ∀ (v343 : BitVec 32) (k0_hw40 : k0_chk40 v343), ∀ a, (k0_off80 v343) a + S1x1x512.size a ≤ S257x64x512.size a := fun v343 k0_hw40 => k0_hw40

def k0_off81 (i : grid0.Coords) (k0_t1 : Fin k0_t1_loop.trips) : Fin 2 → Nat :=
  let c40 : Index := 40#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v350 : Index := Scalar.indexCast v29
  ![40, v350.toNat]
def k0_off82 (v351 : BitVec 32) : Fin 3 → Nat :=
  let v352 : Index := Scalar.indexCast v351
  let c40_188 : Index := 40#32
  let c0_189 : Index := 0#32
  ![v352.toNat, 40, 0]

def k0_chk41 (v351 : BitVec 32) : Prop :=
  (∀ a, (k0_off82 v351) a + S1x1x512.size a ≤ S257x64x512.size a)
theorem k0_off82_inb : ∀ (v351 : BitVec 32) (k0_hw41 : k0_chk41 v351), ∀ a, (k0_off82 v351) a + S1x1x512.size a ≤ S257x64x512.size a := fun v351 k0_hw41 => k0_hw41

def k0_off83 (i : grid0.Coords) (k0_t1 : Fin k0_t1_loop.trips) : Fin 2 → Nat :=
  let c41 : Index := 41#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v358 : Index := Scalar.indexCast v29
  ![41, v358.toNat]
def k0_off84 (v359 : BitVec 32) : Fin 3 → Nat :=
  let v360 : Index := Scalar.indexCast v359
  let c41_192 : Index := 41#32
  let c0_193 : Index := 0#32
  ![v360.toNat, 41, 0]

def k0_chk42 (v359 : BitVec 32) : Prop :=
  (∀ a, (k0_off84 v359) a + S1x1x512.size a ≤ S257x64x512.size a)
theorem k0_off84_inb : ∀ (v359 : BitVec 32) (k0_hw42 : k0_chk42 v359), ∀ a, (k0_off84 v359) a + S1x1x512.size a ≤ S257x64x512.size a := fun v359 k0_hw42 => k0_hw42

def k0_off85 (i : grid0.Coords) (k0_t1 : Fin k0_t1_loop.trips) : Fin 2 → Nat :=
  let c42 : Index := 42#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v366 : Index := Scalar.indexCast v29
  ![42, v366.toNat]
def k0_off86 (v367 : BitVec 32) : Fin 3 → Nat :=
  let v368 : Index := Scalar.indexCast v367
  let c42_196 : Index := 42#32
  let c0_197 : Index := 0#32
  ![v368.toNat, 42, 0]

def k0_chk43 (v367 : BitVec 32) : Prop :=
  (∀ a, (k0_off86 v367) a + S1x1x512.size a ≤ S257x64x512.size a)
theorem k0_off86_inb : ∀ (v367 : BitVec 32) (k0_hw43 : k0_chk43 v367), ∀ a, (k0_off86 v367) a + S1x1x512.size a ≤ S257x64x512.size a := fun v367 k0_hw43 => k0_hw43

def k0_off87 (i : grid0.Coords) (k0_t1 : Fin k0_t1_loop.trips) : Fin 2 → Nat :=
  let c43 : Index := 43#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v374 : Index := Scalar.indexCast v29
  ![43, v374.toNat]
def k0_off88 (v375 : BitVec 32) : Fin 3 → Nat :=
  let v376 : Index := Scalar.indexCast v375
  let c43_200 : Index := 43#32
  let c0_201 : Index := 0#32
  ![v376.toNat, 43, 0]

def k0_chk44 (v375 : BitVec 32) : Prop :=
  (∀ a, (k0_off88 v375) a + S1x1x512.size a ≤ S257x64x512.size a)
theorem k0_off88_inb : ∀ (v375 : BitVec 32) (k0_hw44 : k0_chk44 v375), ∀ a, (k0_off88 v375) a + S1x1x512.size a ≤ S257x64x512.size a := fun v375 k0_hw44 => k0_hw44

def k0_off89 (i : grid0.Coords) (k0_t1 : Fin k0_t1_loop.trips) : Fin 2 → Nat :=
  let c44 : Index := 44#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v382 : Index := Scalar.indexCast v29
  ![44, v382.toNat]
def k0_off90 (v383 : BitVec 32) : Fin 3 → Nat :=
  let v384 : Index := Scalar.indexCast v383
  let c44_204 : Index := 44#32
  let c0_205 : Index := 0#32
  ![v384.toNat, 44, 0]

def k0_chk45 (v383 : BitVec 32) : Prop :=
  (∀ a, (k0_off90 v383) a + S1x1x512.size a ≤ S257x64x512.size a)
theorem k0_off90_inb : ∀ (v383 : BitVec 32) (k0_hw45 : k0_chk45 v383), ∀ a, (k0_off90 v383) a + S1x1x512.size a ≤ S257x64x512.size a := fun v383 k0_hw45 => k0_hw45

def k0_off91 (i : grid0.Coords) (k0_t1 : Fin k0_t1_loop.trips) : Fin 2 → Nat :=
  let c45 : Index := 45#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v390 : Index := Scalar.indexCast v29
  ![45, v390.toNat]
def k0_off92 (v391 : BitVec 32) : Fin 3 → Nat :=
  let v392 : Index := Scalar.indexCast v391
  let c45_208 : Index := 45#32
  let c0_209 : Index := 0#32
  ![v392.toNat, 45, 0]

def k0_chk46 (v391 : BitVec 32) : Prop :=
  (∀ a, (k0_off92 v391) a + S1x1x512.size a ≤ S257x64x512.size a)
theorem k0_off92_inb : ∀ (v391 : BitVec 32) (k0_hw46 : k0_chk46 v391), ∀ a, (k0_off92 v391) a + S1x1x512.size a ≤ S257x64x512.size a := fun v391 k0_hw46 => k0_hw46

def k0_off93 (i : grid0.Coords) (k0_t1 : Fin k0_t1_loop.trips) : Fin 2 → Nat :=
  let c46 : Index := 46#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v398 : Index := Scalar.indexCast v29
  ![46, v398.toNat]
def k0_off94 (v399 : BitVec 32) : Fin 3 → Nat :=
  let v400 : Index := Scalar.indexCast v399
  let c46_212 : Index := 46#32
  let c0_213 : Index := 0#32
  ![v400.toNat, 46, 0]

def k0_chk47 (v399 : BitVec 32) : Prop :=
  (∀ a, (k0_off94 v399) a + S1x1x512.size a ≤ S257x64x512.size a)
theorem k0_off94_inb : ∀ (v399 : BitVec 32) (k0_hw47 : k0_chk47 v399), ∀ a, (k0_off94 v399) a + S1x1x512.size a ≤ S257x64x512.size a := fun v399 k0_hw47 => k0_hw47

def k0_off95 (i : grid0.Coords) (k0_t1 : Fin k0_t1_loop.trips) : Fin 2 → Nat :=
  let c47 : Index := 47#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v406 : Index := Scalar.indexCast v29
  ![47, v406.toNat]
def k0_off96 (v407 : BitVec 32) : Fin 3 → Nat :=
  let v408 : Index := Scalar.indexCast v407
  let c47_216 : Index := 47#32
  let c0_217 : Index := 0#32
  ![v408.toNat, 47, 0]

def k0_chk48 (v407 : BitVec 32) : Prop :=
  (∀ a, (k0_off96 v407) a + S1x1x512.size a ≤ S257x64x512.size a)
theorem k0_off96_inb : ∀ (v407 : BitVec 32) (k0_hw48 : k0_chk48 v407), ∀ a, (k0_off96 v407) a + S1x1x512.size a ≤ S257x64x512.size a := fun v407 k0_hw48 => k0_hw48

def k0_off97 (i : grid0.Coords) (k0_t1 : Fin k0_t1_loop.trips) : Fin 2 → Nat :=
  let c48 : Index := 48#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v414 : Index := Scalar.indexCast v29
  ![48, v414.toNat]
def k0_off98 (v415 : BitVec 32) : Fin 3 → Nat :=
  let v416 : Index := Scalar.indexCast v415
  let c48_220 : Index := 48#32
  let c0_221 : Index := 0#32
  ![v416.toNat, 48, 0]

def k0_chk49 (v415 : BitVec 32) : Prop :=
  (∀ a, (k0_off98 v415) a + S1x1x512.size a ≤ S257x64x512.size a)
theorem k0_off98_inb : ∀ (v415 : BitVec 32) (k0_hw49 : k0_chk49 v415), ∀ a, (k0_off98 v415) a + S1x1x512.size a ≤ S257x64x512.size a := fun v415 k0_hw49 => k0_hw49

def k0_off99 (i : grid0.Coords) (k0_t1 : Fin k0_t1_loop.trips) : Fin 2 → Nat :=
  let c49 : Index := 49#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v422 : Index := Scalar.indexCast v29
  ![49, v422.toNat]
def k0_off100 (v423 : BitVec 32) : Fin 3 → Nat :=
  let v424 : Index := Scalar.indexCast v423
  let c49_224 : Index := 49#32
  let c0_225 : Index := 0#32
  ![v424.toNat, 49, 0]

def k0_chk50 (v423 : BitVec 32) : Prop :=
  (∀ a, (k0_off100 v423) a + S1x1x512.size a ≤ S257x64x512.size a)
theorem k0_off100_inb : ∀ (v423 : BitVec 32) (k0_hw50 : k0_chk50 v423), ∀ a, (k0_off100 v423) a + S1x1x512.size a ≤ S257x64x512.size a := fun v423 k0_hw50 => k0_hw50

def k0_off101 (i : grid0.Coords) (k0_t1 : Fin k0_t1_loop.trips) : Fin 2 → Nat :=
  let c50 : Index := 50#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v430 : Index := Scalar.indexCast v29
  ![50, v430.toNat]
def k0_off102 (v431 : BitVec 32) : Fin 3 → Nat :=
  let v432 : Index := Scalar.indexCast v431
  let c50_228 : Index := 50#32
  let c0_229 : Index := 0#32
  ![v432.toNat, 50, 0]

def k0_chk51 (v431 : BitVec 32) : Prop :=
  (∀ a, (k0_off102 v431) a + S1x1x512.size a ≤ S257x64x512.size a)
theorem k0_off102_inb : ∀ (v431 : BitVec 32) (k0_hw51 : k0_chk51 v431), ∀ a, (k0_off102 v431) a + S1x1x512.size a ≤ S257x64x512.size a := fun v431 k0_hw51 => k0_hw51

def k0_off103 (i : grid0.Coords) (k0_t1 : Fin k0_t1_loop.trips) : Fin 2 → Nat :=
  let c51 : Index := 51#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v438 : Index := Scalar.indexCast v29
  ![51, v438.toNat]
def k0_off104 (v439 : BitVec 32) : Fin 3 → Nat :=
  let v440 : Index := Scalar.indexCast v439
  let c51_232 : Index := 51#32
  let c0_233 : Index := 0#32
  ![v440.toNat, 51, 0]

def k0_chk52 (v439 : BitVec 32) : Prop :=
  (∀ a, (k0_off104 v439) a + S1x1x512.size a ≤ S257x64x512.size a)
theorem k0_off104_inb : ∀ (v439 : BitVec 32) (k0_hw52 : k0_chk52 v439), ∀ a, (k0_off104 v439) a + S1x1x512.size a ≤ S257x64x512.size a := fun v439 k0_hw52 => k0_hw52

def k0_off105 (i : grid0.Coords) (k0_t1 : Fin k0_t1_loop.trips) : Fin 2 → Nat :=
  let c52 : Index := 52#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v446 : Index := Scalar.indexCast v29
  ![52, v446.toNat]
def k0_off106 (v447 : BitVec 32) : Fin 3 → Nat :=
  let v448 : Index := Scalar.indexCast v447
  let c52_236 : Index := 52#32
  let c0_237 : Index := 0#32
  ![v448.toNat, 52, 0]

def k0_chk53 (v447 : BitVec 32) : Prop :=
  (∀ a, (k0_off106 v447) a + S1x1x512.size a ≤ S257x64x512.size a)
theorem k0_off106_inb : ∀ (v447 : BitVec 32) (k0_hw53 : k0_chk53 v447), ∀ a, (k0_off106 v447) a + S1x1x512.size a ≤ S257x64x512.size a := fun v447 k0_hw53 => k0_hw53

def k0_off107 (i : grid0.Coords) (k0_t1 : Fin k0_t1_loop.trips) : Fin 2 → Nat :=
  let c53 : Index := 53#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v454 : Index := Scalar.indexCast v29
  ![53, v454.toNat]
def k0_off108 (v455 : BitVec 32) : Fin 3 → Nat :=
  let v456 : Index := Scalar.indexCast v455
  let c53_240 : Index := 53#32
  let c0_241 : Index := 0#32
  ![v456.toNat, 53, 0]

def k0_chk54 (v455 : BitVec 32) : Prop :=
  (∀ a, (k0_off108 v455) a + S1x1x512.size a ≤ S257x64x512.size a)
theorem k0_off108_inb : ∀ (v455 : BitVec 32) (k0_hw54 : k0_chk54 v455), ∀ a, (k0_off108 v455) a + S1x1x512.size a ≤ S257x64x512.size a := fun v455 k0_hw54 => k0_hw54

def k0_off109 (i : grid0.Coords) (k0_t1 : Fin k0_t1_loop.trips) : Fin 2 → Nat :=
  let c54 : Index := 54#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v462 : Index := Scalar.indexCast v29
  ![54, v462.toNat]
def k0_off110 (v463 : BitVec 32) : Fin 3 → Nat :=
  let v464 : Index := Scalar.indexCast v463
  let c54_244 : Index := 54#32
  let c0_245 : Index := 0#32
  ![v464.toNat, 54, 0]

def k0_chk55 (v463 : BitVec 32) : Prop :=
  (∀ a, (k0_off110 v463) a + S1x1x512.size a ≤ S257x64x512.size a)
theorem k0_off110_inb : ∀ (v463 : BitVec 32) (k0_hw55 : k0_chk55 v463), ∀ a, (k0_off110 v463) a + S1x1x512.size a ≤ S257x64x512.size a := fun v463 k0_hw55 => k0_hw55

def k0_off111 (i : grid0.Coords) (k0_t1 : Fin k0_t1_loop.trips) : Fin 2 → Nat :=
  let c55 : Index := 55#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v470 : Index := Scalar.indexCast v29
  ![55, v470.toNat]
def k0_off112 (v471 : BitVec 32) : Fin 3 → Nat :=
  let v472 : Index := Scalar.indexCast v471
  let c55_248 : Index := 55#32
  let c0_249 : Index := 0#32
  ![v472.toNat, 55, 0]

def k0_chk56 (v471 : BitVec 32) : Prop :=
  (∀ a, (k0_off112 v471) a + S1x1x512.size a ≤ S257x64x512.size a)
theorem k0_off112_inb : ∀ (v471 : BitVec 32) (k0_hw56 : k0_chk56 v471), ∀ a, (k0_off112 v471) a + S1x1x512.size a ≤ S257x64x512.size a := fun v471 k0_hw56 => k0_hw56

def k0_off113 (i : grid0.Coords) (k0_t1 : Fin k0_t1_loop.trips) : Fin 2 → Nat :=
  let c56 : Index := 56#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v478 : Index := Scalar.indexCast v29
  ![56, v478.toNat]
def k0_off114 (v479 : BitVec 32) : Fin 3 → Nat :=
  let v480 : Index := Scalar.indexCast v479
  let c56_252 : Index := 56#32
  let c0_253 : Index := 0#32
  ![v480.toNat, 56, 0]

def k0_chk57 (v479 : BitVec 32) : Prop :=
  (∀ a, (k0_off114 v479) a + S1x1x512.size a ≤ S257x64x512.size a)
theorem k0_off114_inb : ∀ (v479 : BitVec 32) (k0_hw57 : k0_chk57 v479), ∀ a, (k0_off114 v479) a + S1x1x512.size a ≤ S257x64x512.size a := fun v479 k0_hw57 => k0_hw57

def k0_off115 (i : grid0.Coords) (k0_t1 : Fin k0_t1_loop.trips) : Fin 2 → Nat :=
  let c57 : Index := 57#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v486 : Index := Scalar.indexCast v29
  ![57, v486.toNat]
def k0_off116 (v487 : BitVec 32) : Fin 3 → Nat :=
  let v488 : Index := Scalar.indexCast v487
  let c57_256 : Index := 57#32
  let c0_257 : Index := 0#32
  ![v488.toNat, 57, 0]

def k0_chk58 (v487 : BitVec 32) : Prop :=
  (∀ a, (k0_off116 v487) a + S1x1x512.size a ≤ S257x64x512.size a)
theorem k0_off116_inb : ∀ (v487 : BitVec 32) (k0_hw58 : k0_chk58 v487), ∀ a, (k0_off116 v487) a + S1x1x512.size a ≤ S257x64x512.size a := fun v487 k0_hw58 => k0_hw58

def k0_off117 (i : grid0.Coords) (k0_t1 : Fin k0_t1_loop.trips) : Fin 2 → Nat :=
  let c58 : Index := 58#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v494 : Index := Scalar.indexCast v29
  ![58, v494.toNat]
def k0_off118 (v495 : BitVec 32) : Fin 3 → Nat :=
  let v496 : Index := Scalar.indexCast v495
  let c58_260 : Index := 58#32
  let c0_261 : Index := 0#32
  ![v496.toNat, 58, 0]

def k0_chk59 (v495 : BitVec 32) : Prop :=
  (∀ a, (k0_off118 v495) a + S1x1x512.size a ≤ S257x64x512.size a)
theorem k0_off118_inb : ∀ (v495 : BitVec 32) (k0_hw59 : k0_chk59 v495), ∀ a, (k0_off118 v495) a + S1x1x512.size a ≤ S257x64x512.size a := fun v495 k0_hw59 => k0_hw59

def k0_off119 (i : grid0.Coords) (k0_t1 : Fin k0_t1_loop.trips) : Fin 2 → Nat :=
  let c59 : Index := 59#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v502 : Index := Scalar.indexCast v29
  ![59, v502.toNat]
def k0_off120 (v503 : BitVec 32) : Fin 3 → Nat :=
  let v504 : Index := Scalar.indexCast v503
  let c59_264 : Index := 59#32
  let c0_265 : Index := 0#32
  ![v504.toNat, 59, 0]

def k0_chk60 (v503 : BitVec 32) : Prop :=
  (∀ a, (k0_off120 v503) a + S1x1x512.size a ≤ S257x64x512.size a)
theorem k0_off120_inb : ∀ (v503 : BitVec 32) (k0_hw60 : k0_chk60 v503), ∀ a, (k0_off120 v503) a + S1x1x512.size a ≤ S257x64x512.size a := fun v503 k0_hw60 => k0_hw60

def k0_off121 (i : grid0.Coords) (k0_t1 : Fin k0_t1_loop.trips) : Fin 2 → Nat :=
  let c60 : Index := 60#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v510 : Index := Scalar.indexCast v29
  ![60, v510.toNat]
def k0_off122 (v511 : BitVec 32) : Fin 3 → Nat :=
  let v512 : Index := Scalar.indexCast v511
  let c60_268 : Index := 60#32
  let c0_269 : Index := 0#32
  ![v512.toNat, 60, 0]

def k0_chk61 (v511 : BitVec 32) : Prop :=
  (∀ a, (k0_off122 v511) a + S1x1x512.size a ≤ S257x64x512.size a)
theorem k0_off122_inb : ∀ (v511 : BitVec 32) (k0_hw61 : k0_chk61 v511), ∀ a, (k0_off122 v511) a + S1x1x512.size a ≤ S257x64x512.size a := fun v511 k0_hw61 => k0_hw61

def k0_off123 (i : grid0.Coords) (k0_t1 : Fin k0_t1_loop.trips) : Fin 2 → Nat :=
  let c61 : Index := 61#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v518 : Index := Scalar.indexCast v29
  ![61, v518.toNat]
def k0_off124 (v519 : BitVec 32) : Fin 3 → Nat :=
  let v520 : Index := Scalar.indexCast v519
  let c61_272 : Index := 61#32
  let c0_273 : Index := 0#32
  ![v520.toNat, 61, 0]

def k0_chk62 (v519 : BitVec 32) : Prop :=
  (∀ a, (k0_off124 v519) a + S1x1x512.size a ≤ S257x64x512.size a)
theorem k0_off124_inb : ∀ (v519 : BitVec 32) (k0_hw62 : k0_chk62 v519), ∀ a, (k0_off124 v519) a + S1x1x512.size a ≤ S257x64x512.size a := fun v519 k0_hw62 => k0_hw62

def k0_off125 (i : grid0.Coords) (k0_t1 : Fin k0_t1_loop.trips) : Fin 2 → Nat :=
  let c62 : Index := 62#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v526 : Index := Scalar.indexCast v29
  ![62, v526.toNat]
def k0_off126 (v527 : BitVec 32) : Fin 3 → Nat :=
  let v528 : Index := Scalar.indexCast v527
  let c62_276 : Index := 62#32
  let c0_277 : Index := 0#32
  ![v528.toNat, 62, 0]

def k0_chk63 (v527 : BitVec 32) : Prop :=
  (∀ a, (k0_off126 v527) a + S1x1x512.size a ≤ S257x64x512.size a)
theorem k0_off126_inb : ∀ (v527 : BitVec 32) (k0_hw63 : k0_chk63 v527), ∀ a, (k0_off126 v527) a + S1x1x512.size a ≤ S257x64x512.size a := fun v527 k0_hw63 => k0_hw63

def k0_off127 (i : grid0.Coords) (k0_t1 : Fin k0_t1_loop.trips) : Fin 2 → Nat :=
  let c63 : Index := 63#32
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v534 : Index := Scalar.indexCast v29
  ![63, v534.toNat]
def k0_off128 (v535 : BitVec 32) : Fin 3 → Nat :=
  let v536 : Index := Scalar.indexCast v535
  let c63_280 : Index := 63#32
  let c0_281 : Index := 0#32
  ![v536.toNat, 63, 0]

def k0_chk64 (v535 : BitVec 32) : Prop :=
  (∀ a, (k0_off128 v535) a + S1x1x512.size a ≤ S257x64x512.size a)
theorem k0_off128_inb : ∀ (v535 : BitVec 32) (k0_hw64 : k0_chk64 v535), ∀ a, (k0_off128 v535) a + S1x1x512.size a ≤ S257x64x512.size a := fun v535 k0_hw64 => k0_hw64

def k0_off129 (i : grid0.Coords) (k0_t1 : Fin k0_t1_loop.trips) : Fin 3 → Nat :=
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v542 : Index := Scalar.indexCast v28
  let c0_284 : Index := 0#32
  let c0_285 : Index := 0#32
  ![v542.toNat, 0, 0]
def k0_off130 (k0_t1 : Fin k0_t1_loop.trips) : Fin 2 → Nat :=
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let c64_i32 : BitVec 32 := 64#32
  let v550 : BitVec 32 := Scalar.muli v27 c64_i32
  let v551 : Index := Scalar.indexCast v550
  let c0_290 : Index := 0#32
  ![v551.toNat, 0]
def k0_off131 (k0_t1 : Fin k0_t1_loop.trips) : Fin 2 → Nat :=
  let c0_i32_24 : BitVec 32 := 0#32
  let c1_i32 : BitVec 32 := 1#32
  let arg17 : BitVec 32 := Scf.iv c0_i32_24 c1_i32 k0_t1
  let c64_i32_291 : BitVec 32 := 64#32
  let v553 : BitVec 32 := Scalar.muli arg17 c64_i32_291
  let v554 : Index := Scalar.indexCast v553
  let c0_292 : Index := 0#32
  ![v554.toNat, 0]
def k0_off132 (k0_t1 : Fin k0_t1_loop.trips) : Fin 3 → Nat :=
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v612 : Index := Scalar.indexCast v27
  let c0_295 : Index := 0#32
  let c0_296 : Index := 0#32
  ![v612.toNat, 0, 0]
def k0_off133 (k0_t1 : Fin k0_t1_loop.trips) : Fin 3 → Nat :=
  let c0_i32_24 : BitVec 32 := 0#32
  let c1_i32 : BitVec 32 := 1#32
  let arg17 : BitVec 32 := Scf.iv c0_i32_24 c1_i32 k0_t1
  let v616 : Index := Scalar.indexCast arg17
  let c0_297 : Index := 0#32
  let c0_298 : Index := 0#32
  ![v616.toNat, 0, 0]
def k0_off134 (i : grid0.Coords) (k0_t1 : Fin k0_t1_loop.trips) : Fin 3 → Nat :=
  let arg0 : BitVec 32 := BitVec.ofNat 32 (i 0).val
  let c8_i32_15 : BitVec 32 := 8#32
  let v19 : BitVec 32 := Scalar.muli arg0 c8_i32_15
  let c0_i32_24 : BitVec 32 := 0#32
  let c1_i32 : BitVec 32 := 1#32
  let arg17 : BitVec 32 := Scf.iv c0_i32_24 c1_i32 k0_t1
  let v29 : BitVec 32 := Scalar.addi v19 arg17
  let v620 : Index := Scalar.indexCast v29
  let c0_299 : Index := 0#32
  let c0_300 : Index := 0#32
  ![v620.toNat, 0, 0]
def k0_off135 (i : grid0.Coords) (k0_t1 : Fin k0_t1_loop.trips) : Fin 2 → Nat :=
  let c0_301 : Index := 0#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v624 : Index := Scalar.indexCast v28
  ![0, v624.toNat]
def k0_off136 (v625 : BitVec 32) : Fin 3 → Nat :=
  let v626 : Index := Scalar.indexCast v625
  let c0_302 : Index := 0#32
  let c0_303 : Index := 0#32
  ![v626.toNat, 0, 0]

def k0_off137 (v625 : BitVec 32) : Fin 3 → Nat :=
  let v632 : Index := Scalar.indexCast v625
  let c0_304 : Index := 0#32
  let c0_305 : Index := 0#32
  ![v632.toNat, 0, 0]

def k0_chk65 (v625 : BitVec 32) : Prop :=
  (∀ a, (k0_off136 v625) a + S1x1x512.size a ≤ S257x64x512.size a) ∧
  (∀ a, (k0_off137 v625) a + S1x2x512.size a ≤ S257x64x512.size a) ∧
  (∀ (hinb : ∀ a, (k0_off137 v625) a + S1x2x512.size a ≤ S257x64x512.size a), (Rect.unit (s := S257x64x512) (k0_off137 v625) S1x2x512.size hinb).PackedRows (EltTy.packing .bf16))
theorem k0_off136_inb : ∀ (v625 : BitVec 32) (k0_hw65 : k0_chk65 v625), ∀ a, (k0_off136 v625) a + S1x1x512.size a ≤ S257x64x512.size a := fun v625 k0_hw65 => k0_hw65.1
theorem k0_off137_inb : ∀ (v625 : BitVec 32) (k0_hw65 : k0_chk65 v625), ∀ a, (k0_off137 v625) a + S1x2x512.size a ≤ S257x64x512.size a := fun v625 k0_hw65 => k0_hw65.2.1
theorem k0_off137_packedbf16 : ∀ (v625 : BitVec 32) (k0_hw65 : k0_chk65 v625), (Rect.unit (s := S257x64x512) (k0_off137 v625) S1x2x512.size (k0_off137_inb v625 k0_hw65)).PackedRows (EltTy.packing .bf16) := fun v625 k0_hw65 => k0_hw65.2.2 (k0_off137_inb v625 k0_hw65)

def k0_off138 (i : grid0.Coords) (k0_t1 : Fin k0_t1_loop.trips) : Fin 2 → Nat :=
  let c1_306 : Index := 1#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v636 : Index := Scalar.indexCast v28
  ![1, v636.toNat]
def k0_off139 (v637 : BitVec 32) : Fin 3 → Nat :=
  let v638 : Index := Scalar.indexCast v637
  let c1_307 : Index := 1#32
  let c0_308 : Index := 0#32
  ![v638.toNat, 1, 0]

def k0_off140 (v637 : BitVec 32) : Fin 3 → Nat :=
  let v644 : Index := Scalar.indexCast v637
  let c0_310 : Index := 0#32
  ![v644.toNat, 0, 0]

def k0_chk66 (v637 : BitVec 32) : Prop :=
  (∀ a, (k0_off139 v637) a + S1x1x512.size a ≤ S257x64x512.size a) ∧
  (∀ a, (k0_off140 v637) a + S1x2x512.size a ≤ S257x64x512.size a) ∧
  (∀ (hinb : ∀ a, (k0_off140 v637) a + S1x2x512.size a ≤ S257x64x512.size a), (Rect.unit (s := S257x64x512) (k0_off140 v637) S1x2x512.size hinb).PackedRows (EltTy.packing .bf16))
theorem k0_off139_inb : ∀ (v637 : BitVec 32) (k0_hw66 : k0_chk66 v637), ∀ a, (k0_off139 v637) a + S1x1x512.size a ≤ S257x64x512.size a := fun v637 k0_hw66 => k0_hw66.1
theorem k0_off140_inb : ∀ (v637 : BitVec 32) (k0_hw66 : k0_chk66 v637), ∀ a, (k0_off140 v637) a + S1x2x512.size a ≤ S257x64x512.size a := fun v637 k0_hw66 => k0_hw66.2.1
theorem k0_off140_packedbf16 : ∀ (v637 : BitVec 32) (k0_hw66 : k0_chk66 v637), (Rect.unit (s := S257x64x512) (k0_off140 v637) S1x2x512.size (k0_off140_inb v637 k0_hw66)).PackedRows (EltTy.packing .bf16) := fun v637 k0_hw66 => k0_hw66.2.2 (k0_off140_inb v637 k0_hw66)

def k0_off141 (i : grid0.Coords) (k0_t1 : Fin k0_t1_loop.trips) : Fin 2 → Nat :=
  let c2_311 : Index := 2#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v648 : Index := Scalar.indexCast v28
  ![2, v648.toNat]
def k0_off142 (v649 : BitVec 32) : Fin 3 → Nat :=
  let v650 : Index := Scalar.indexCast v649
  let c2_312 : Index := 2#32
  let c0_313 : Index := 0#32
  ![v650.toNat, 2, 0]

def k0_off143 (v649 : BitVec 32) : Fin 3 → Nat :=
  let v656 : Index := Scalar.indexCast v649
  let c2_314 : Index := 2#32
  let c0_315 : Index := 0#32
  ![v656.toNat, 2, 0]

def k0_chk67 (v649 : BitVec 32) : Prop :=
  (∀ a, (k0_off142 v649) a + S1x1x512.size a ≤ S257x64x512.size a) ∧
  (∀ a, (k0_off143 v649) a + S1x2x512.size a ≤ S257x64x512.size a) ∧
  (∀ (hinb : ∀ a, (k0_off143 v649) a + S1x2x512.size a ≤ S257x64x512.size a), (Rect.unit (s := S257x64x512) (k0_off143 v649) S1x2x512.size hinb).PackedRows (EltTy.packing .bf16))
theorem k0_off142_inb : ∀ (v649 : BitVec 32) (k0_hw67 : k0_chk67 v649), ∀ a, (k0_off142 v649) a + S1x1x512.size a ≤ S257x64x512.size a := fun v649 k0_hw67 => k0_hw67.1
theorem k0_off143_inb : ∀ (v649 : BitVec 32) (k0_hw67 : k0_chk67 v649), ∀ a, (k0_off143 v649) a + S1x2x512.size a ≤ S257x64x512.size a := fun v649 k0_hw67 => k0_hw67.2.1
theorem k0_off143_packedbf16 : ∀ (v649 : BitVec 32) (k0_hw67 : k0_chk67 v649), (Rect.unit (s := S257x64x512) (k0_off143 v649) S1x2x512.size (k0_off143_inb v649 k0_hw67)).PackedRows (EltTy.packing .bf16) := fun v649 k0_hw67 => k0_hw67.2.2 (k0_off143_inb v649 k0_hw67)

def k0_off144 (i : grid0.Coords) (k0_t1 : Fin k0_t1_loop.trips) : Fin 2 → Nat :=
  let c3_316 : Index := 3#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v660 : Index := Scalar.indexCast v28
  ![3, v660.toNat]
def k0_off145 (v661 : BitVec 32) : Fin 3 → Nat :=
  let v662 : Index := Scalar.indexCast v661
  let c3_317 : Index := 3#32
  let c0_318 : Index := 0#32
  ![v662.toNat, 3, 0]

def k0_off146 (v661 : BitVec 32) : Fin 3 → Nat :=
  let v668 : Index := Scalar.indexCast v661
  let c0_320 : Index := 0#32
  ![v668.toNat, 2, 0]

def k0_chk68 (v661 : BitVec 32) : Prop :=
  (∀ a, (k0_off145 v661) a + S1x1x512.size a ≤ S257x64x512.size a) ∧
  (∀ a, (k0_off146 v661) a + S1x2x512.size a ≤ S257x64x512.size a) ∧
  (∀ (hinb : ∀ a, (k0_off146 v661) a + S1x2x512.size a ≤ S257x64x512.size a), (Rect.unit (s := S257x64x512) (k0_off146 v661) S1x2x512.size hinb).PackedRows (EltTy.packing .bf16))
theorem k0_off145_inb : ∀ (v661 : BitVec 32) (k0_hw68 : k0_chk68 v661), ∀ a, (k0_off145 v661) a + S1x1x512.size a ≤ S257x64x512.size a := fun v661 k0_hw68 => k0_hw68.1
theorem k0_off146_inb : ∀ (v661 : BitVec 32) (k0_hw68 : k0_chk68 v661), ∀ a, (k0_off146 v661) a + S1x2x512.size a ≤ S257x64x512.size a := fun v661 k0_hw68 => k0_hw68.2.1
theorem k0_off146_packedbf16 : ∀ (v661 : BitVec 32) (k0_hw68 : k0_chk68 v661), (Rect.unit (s := S257x64x512) (k0_off146 v661) S1x2x512.size (k0_off146_inb v661 k0_hw68)).PackedRows (EltTy.packing .bf16) := fun v661 k0_hw68 => k0_hw68.2.2 (k0_off146_inb v661 k0_hw68)

def k0_off147 (i : grid0.Coords) (k0_t1 : Fin k0_t1_loop.trips) : Fin 2 → Nat :=
  let c4_321 : Index := 4#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v672 : Index := Scalar.indexCast v28
  ![4, v672.toNat]
def k0_off148 (v673 : BitVec 32) : Fin 3 → Nat :=
  let v674 : Index := Scalar.indexCast v673
  let c4_322 : Index := 4#32
  let c0_323 : Index := 0#32
  ![v674.toNat, 4, 0]

def k0_off149 (v673 : BitVec 32) : Fin 3 → Nat :=
  let v680 : Index := Scalar.indexCast v673
  let c4_324 : Index := 4#32
  let c0_325 : Index := 0#32
  ![v680.toNat, 4, 0]

def k0_chk69 (v673 : BitVec 32) : Prop :=
  (∀ a, (k0_off148 v673) a + S1x1x512.size a ≤ S257x64x512.size a) ∧
  (∀ a, (k0_off149 v673) a + S1x2x512.size a ≤ S257x64x512.size a) ∧
  (∀ (hinb : ∀ a, (k0_off149 v673) a + S1x2x512.size a ≤ S257x64x512.size a), (Rect.unit (s := S257x64x512) (k0_off149 v673) S1x2x512.size hinb).PackedRows (EltTy.packing .bf16))
theorem k0_off148_inb : ∀ (v673 : BitVec 32) (k0_hw69 : k0_chk69 v673), ∀ a, (k0_off148 v673) a + S1x1x512.size a ≤ S257x64x512.size a := fun v673 k0_hw69 => k0_hw69.1
theorem k0_off149_inb : ∀ (v673 : BitVec 32) (k0_hw69 : k0_chk69 v673), ∀ a, (k0_off149 v673) a + S1x2x512.size a ≤ S257x64x512.size a := fun v673 k0_hw69 => k0_hw69.2.1
theorem k0_off149_packedbf16 : ∀ (v673 : BitVec 32) (k0_hw69 : k0_chk69 v673), (Rect.unit (s := S257x64x512) (k0_off149 v673) S1x2x512.size (k0_off149_inb v673 k0_hw69)).PackedRows (EltTy.packing .bf16) := fun v673 k0_hw69 => k0_hw69.2.2 (k0_off149_inb v673 k0_hw69)

def k0_off150 (i : grid0.Coords) (k0_t1 : Fin k0_t1_loop.trips) : Fin 2 → Nat :=
  let c5_326 : Index := 5#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v684 : Index := Scalar.indexCast v28
  ![5, v684.toNat]
def k0_off151 (v685 : BitVec 32) : Fin 3 → Nat :=
  let v686 : Index := Scalar.indexCast v685
  let c5_327 : Index := 5#32
  let c0_328 : Index := 0#32
  ![v686.toNat, 5, 0]

def k0_off152 (v685 : BitVec 32) : Fin 3 → Nat :=
  let v692 : Index := Scalar.indexCast v685
  let c0_330 : Index := 0#32
  ![v692.toNat, 4, 0]

def k0_chk70 (v685 : BitVec 32) : Prop :=
  (∀ a, (k0_off151 v685) a + S1x1x512.size a ≤ S257x64x512.size a) ∧
  (∀ a, (k0_off152 v685) a + S1x2x512.size a ≤ S257x64x512.size a) ∧
  (∀ (hinb : ∀ a, (k0_off152 v685) a + S1x2x512.size a ≤ S257x64x512.size a), (Rect.unit (s := S257x64x512) (k0_off152 v685) S1x2x512.size hinb).PackedRows (EltTy.packing .bf16))
theorem k0_off151_inb : ∀ (v685 : BitVec 32) (k0_hw70 : k0_chk70 v685), ∀ a, (k0_off151 v685) a + S1x1x512.size a ≤ S257x64x512.size a := fun v685 k0_hw70 => k0_hw70.1
theorem k0_off152_inb : ∀ (v685 : BitVec 32) (k0_hw70 : k0_chk70 v685), ∀ a, (k0_off152 v685) a + S1x2x512.size a ≤ S257x64x512.size a := fun v685 k0_hw70 => k0_hw70.2.1
theorem k0_off152_packedbf16 : ∀ (v685 : BitVec 32) (k0_hw70 : k0_chk70 v685), (Rect.unit (s := S257x64x512) (k0_off152 v685) S1x2x512.size (k0_off152_inb v685 k0_hw70)).PackedRows (EltTy.packing .bf16) := fun v685 k0_hw70 => k0_hw70.2.2 (k0_off152_inb v685 k0_hw70)

def k0_off153 (i : grid0.Coords) (k0_t1 : Fin k0_t1_loop.trips) : Fin 2 → Nat :=
  let c6_331 : Index := 6#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v696 : Index := Scalar.indexCast v28
  ![6, v696.toNat]
def k0_off154 (v697 : BitVec 32) : Fin 3 → Nat :=
  let v698 : Index := Scalar.indexCast v697
  let c6_332 : Index := 6#32
  let c0_333 : Index := 0#32
  ![v698.toNat, 6, 0]

def k0_off155 (v697 : BitVec 32) : Fin 3 → Nat :=
  let v704 : Index := Scalar.indexCast v697
  let c6_334 : Index := 6#32
  let c0_335 : Index := 0#32
  ![v704.toNat, 6, 0]

def k0_chk71 (v697 : BitVec 32) : Prop :=
  (∀ a, (k0_off154 v697) a + S1x1x512.size a ≤ S257x64x512.size a) ∧
  (∀ a, (k0_off155 v697) a + S1x2x512.size a ≤ S257x64x512.size a) ∧
  (∀ (hinb : ∀ a, (k0_off155 v697) a + S1x2x512.size a ≤ S257x64x512.size a), (Rect.unit (s := S257x64x512) (k0_off155 v697) S1x2x512.size hinb).PackedRows (EltTy.packing .bf16))
theorem k0_off154_inb : ∀ (v697 : BitVec 32) (k0_hw71 : k0_chk71 v697), ∀ a, (k0_off154 v697) a + S1x1x512.size a ≤ S257x64x512.size a := fun v697 k0_hw71 => k0_hw71.1
theorem k0_off155_inb : ∀ (v697 : BitVec 32) (k0_hw71 : k0_chk71 v697), ∀ a, (k0_off155 v697) a + S1x2x512.size a ≤ S257x64x512.size a := fun v697 k0_hw71 => k0_hw71.2.1
theorem k0_off155_packedbf16 : ∀ (v697 : BitVec 32) (k0_hw71 : k0_chk71 v697), (Rect.unit (s := S257x64x512) (k0_off155 v697) S1x2x512.size (k0_off155_inb v697 k0_hw71)).PackedRows (EltTy.packing .bf16) := fun v697 k0_hw71 => k0_hw71.2.2 (k0_off155_inb v697 k0_hw71)

def k0_off156 (i : grid0.Coords) (k0_t1 : Fin k0_t1_loop.trips) : Fin 2 → Nat :=
  let c7_336 : Index := 7#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v708 : Index := Scalar.indexCast v28
  ![7, v708.toNat]
def k0_off157 (v709 : BitVec 32) : Fin 3 → Nat :=
  let v710 : Index := Scalar.indexCast v709
  let c7_337 : Index := 7#32
  let c0_338 : Index := 0#32
  ![v710.toNat, 7, 0]

def k0_off158 (v709 : BitVec 32) : Fin 3 → Nat :=
  let v716 : Index := Scalar.indexCast v709
  let c0_340 : Index := 0#32
  ![v716.toNat, 6, 0]

def k0_chk72 (v709 : BitVec 32) : Prop :=
  (∀ a, (k0_off157 v709) a + S1x1x512.size a ≤ S257x64x512.size a) ∧
  (∀ a, (k0_off158 v709) a + S1x2x512.size a ≤ S257x64x512.size a) ∧
  (∀ (hinb : ∀ a, (k0_off158 v709) a + S1x2x512.size a ≤ S257x64x512.size a), (Rect.unit (s := S257x64x512) (k0_off158 v709) S1x2x512.size hinb).PackedRows (EltTy.packing .bf16))
theorem k0_off157_inb : ∀ (v709 : BitVec 32) (k0_hw72 : k0_chk72 v709), ∀ a, (k0_off157 v709) a + S1x1x512.size a ≤ S257x64x512.size a := fun v709 k0_hw72 => k0_hw72.1
theorem k0_off158_inb : ∀ (v709 : BitVec 32) (k0_hw72 : k0_chk72 v709), ∀ a, (k0_off158 v709) a + S1x2x512.size a ≤ S257x64x512.size a := fun v709 k0_hw72 => k0_hw72.2.1
theorem k0_off158_packedbf16 : ∀ (v709 : BitVec 32) (k0_hw72 : k0_chk72 v709), (Rect.unit (s := S257x64x512) (k0_off158 v709) S1x2x512.size (k0_off158_inb v709 k0_hw72)).PackedRows (EltTy.packing .bf16) := fun v709 k0_hw72 => k0_hw72.2.2 (k0_off158_inb v709 k0_hw72)

def k0_off159 (i : grid0.Coords) (k0_t1 : Fin k0_t1_loop.trips) : Fin 2 → Nat :=
  let c8_341 : Index := 8#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v720 : Index := Scalar.indexCast v28
  ![8, v720.toNat]
def k0_off160 (v721 : BitVec 32) : Fin 3 → Nat :=
  let v722 : Index := Scalar.indexCast v721
  let c8_342 : Index := 8#32
  let c0_343 : Index := 0#32
  ![v722.toNat, 8, 0]

def k0_off161 (v721 : BitVec 32) : Fin 3 → Nat :=
  let v728 : Index := Scalar.indexCast v721
  let c8_344 : Index := 8#32
  let c0_345 : Index := 0#32
  ![v728.toNat, 8, 0]

def k0_chk73 (v721 : BitVec 32) : Prop :=
  (∀ a, (k0_off160 v721) a + S1x1x512.size a ≤ S257x64x512.size a) ∧
  (∀ a, (k0_off161 v721) a + S1x2x512.size a ≤ S257x64x512.size a) ∧
  (∀ (hinb : ∀ a, (k0_off161 v721) a + S1x2x512.size a ≤ S257x64x512.size a), (Rect.unit (s := S257x64x512) (k0_off161 v721) S1x2x512.size hinb).PackedRows (EltTy.packing .bf16))
theorem k0_off160_inb : ∀ (v721 : BitVec 32) (k0_hw73 : k0_chk73 v721), ∀ a, (k0_off160 v721) a + S1x1x512.size a ≤ S257x64x512.size a := fun v721 k0_hw73 => k0_hw73.1
theorem k0_off161_inb : ∀ (v721 : BitVec 32) (k0_hw73 : k0_chk73 v721), ∀ a, (k0_off161 v721) a + S1x2x512.size a ≤ S257x64x512.size a := fun v721 k0_hw73 => k0_hw73.2.1
theorem k0_off161_packedbf16 : ∀ (v721 : BitVec 32) (k0_hw73 : k0_chk73 v721), (Rect.unit (s := S257x64x512) (k0_off161 v721) S1x2x512.size (k0_off161_inb v721 k0_hw73)).PackedRows (EltTy.packing .bf16) := fun v721 k0_hw73 => k0_hw73.2.2 (k0_off161_inb v721 k0_hw73)

def k0_off162 (i : grid0.Coords) (k0_t1 : Fin k0_t1_loop.trips) : Fin 2 → Nat :=
  let c9_346 : Index := 9#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v732 : Index := Scalar.indexCast v28
  ![9, v732.toNat]
def k0_off163 (v733 : BitVec 32) : Fin 3 → Nat :=
  let v734 : Index := Scalar.indexCast v733
  let c9_347 : Index := 9#32
  let c0_348 : Index := 0#32
  ![v734.toNat, 9, 0]

def k0_off164 (v733 : BitVec 32) : Fin 3 → Nat :=
  let v740 : Index := Scalar.indexCast v733
  let c0_350 : Index := 0#32
  ![v740.toNat, 8, 0]

def k0_chk74 (v733 : BitVec 32) : Prop :=
  (∀ a, (k0_off163 v733) a + S1x1x512.size a ≤ S257x64x512.size a) ∧
  (∀ a, (k0_off164 v733) a + S1x2x512.size a ≤ S257x64x512.size a) ∧
  (∀ (hinb : ∀ a, (k0_off164 v733) a + S1x2x512.size a ≤ S257x64x512.size a), (Rect.unit (s := S257x64x512) (k0_off164 v733) S1x2x512.size hinb).PackedRows (EltTy.packing .bf16))
theorem k0_off163_inb : ∀ (v733 : BitVec 32) (k0_hw74 : k0_chk74 v733), ∀ a, (k0_off163 v733) a + S1x1x512.size a ≤ S257x64x512.size a := fun v733 k0_hw74 => k0_hw74.1
theorem k0_off164_inb : ∀ (v733 : BitVec 32) (k0_hw74 : k0_chk74 v733), ∀ a, (k0_off164 v733) a + S1x2x512.size a ≤ S257x64x512.size a := fun v733 k0_hw74 => k0_hw74.2.1
theorem k0_off164_packedbf16 : ∀ (v733 : BitVec 32) (k0_hw74 : k0_chk74 v733), (Rect.unit (s := S257x64x512) (k0_off164 v733) S1x2x512.size (k0_off164_inb v733 k0_hw74)).PackedRows (EltTy.packing .bf16) := fun v733 k0_hw74 => k0_hw74.2.2 (k0_off164_inb v733 k0_hw74)

def k0_off165 (i : grid0.Coords) (k0_t1 : Fin k0_t1_loop.trips) : Fin 2 → Nat :=
  let c10_351 : Index := 10#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v744 : Index := Scalar.indexCast v28
  ![10, v744.toNat]
def k0_off166 (v745 : BitVec 32) : Fin 3 → Nat :=
  let v746 : Index := Scalar.indexCast v745
  let c10_352 : Index := 10#32
  let c0_353 : Index := 0#32
  ![v746.toNat, 10, 0]

def k0_off167 (v745 : BitVec 32) : Fin 3 → Nat :=
  let v752 : Index := Scalar.indexCast v745
  let c10_354 : Index := 10#32
  let c0_355 : Index := 0#32
  ![v752.toNat, 10, 0]

def k0_chk75 (v745 : BitVec 32) : Prop :=
  (∀ a, (k0_off166 v745) a + S1x1x512.size a ≤ S257x64x512.size a) ∧
  (∀ a, (k0_off167 v745) a + S1x2x512.size a ≤ S257x64x512.size a) ∧
  (∀ (hinb : ∀ a, (k0_off167 v745) a + S1x2x512.size a ≤ S257x64x512.size a), (Rect.unit (s := S257x64x512) (k0_off167 v745) S1x2x512.size hinb).PackedRows (EltTy.packing .bf16))
theorem k0_off166_inb : ∀ (v745 : BitVec 32) (k0_hw75 : k0_chk75 v745), ∀ a, (k0_off166 v745) a + S1x1x512.size a ≤ S257x64x512.size a := fun v745 k0_hw75 => k0_hw75.1
theorem k0_off167_inb : ∀ (v745 : BitVec 32) (k0_hw75 : k0_chk75 v745), ∀ a, (k0_off167 v745) a + S1x2x512.size a ≤ S257x64x512.size a := fun v745 k0_hw75 => k0_hw75.2.1
theorem k0_off167_packedbf16 : ∀ (v745 : BitVec 32) (k0_hw75 : k0_chk75 v745), (Rect.unit (s := S257x64x512) (k0_off167 v745) S1x2x512.size (k0_off167_inb v745 k0_hw75)).PackedRows (EltTy.packing .bf16) := fun v745 k0_hw75 => k0_hw75.2.2 (k0_off167_inb v745 k0_hw75)

def k0_off168 (i : grid0.Coords) (k0_t1 : Fin k0_t1_loop.trips) : Fin 2 → Nat :=
  let c11_356 : Index := 11#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v756 : Index := Scalar.indexCast v28
  ![11, v756.toNat]
def k0_off169 (v757 : BitVec 32) : Fin 3 → Nat :=
  let v758 : Index := Scalar.indexCast v757
  let c11_357 : Index := 11#32
  let c0_358 : Index := 0#32
  ![v758.toNat, 11, 0]

def k0_off170 (v757 : BitVec 32) : Fin 3 → Nat :=
  let v764 : Index := Scalar.indexCast v757
  let c0_360 : Index := 0#32
  ![v764.toNat, 10, 0]

def k0_chk76 (v757 : BitVec 32) : Prop :=
  (∀ a, (k0_off169 v757) a + S1x1x512.size a ≤ S257x64x512.size a) ∧
  (∀ a, (k0_off170 v757) a + S1x2x512.size a ≤ S257x64x512.size a) ∧
  (∀ (hinb : ∀ a, (k0_off170 v757) a + S1x2x512.size a ≤ S257x64x512.size a), (Rect.unit (s := S257x64x512) (k0_off170 v757) S1x2x512.size hinb).PackedRows (EltTy.packing .bf16))
theorem k0_off169_inb : ∀ (v757 : BitVec 32) (k0_hw76 : k0_chk76 v757), ∀ a, (k0_off169 v757) a + S1x1x512.size a ≤ S257x64x512.size a := fun v757 k0_hw76 => k0_hw76.1
theorem k0_off170_inb : ∀ (v757 : BitVec 32) (k0_hw76 : k0_chk76 v757), ∀ a, (k0_off170 v757) a + S1x2x512.size a ≤ S257x64x512.size a := fun v757 k0_hw76 => k0_hw76.2.1
theorem k0_off170_packedbf16 : ∀ (v757 : BitVec 32) (k0_hw76 : k0_chk76 v757), (Rect.unit (s := S257x64x512) (k0_off170 v757) S1x2x512.size (k0_off170_inb v757 k0_hw76)).PackedRows (EltTy.packing .bf16) := fun v757 k0_hw76 => k0_hw76.2.2 (k0_off170_inb v757 k0_hw76)

def k0_off171 (i : grid0.Coords) (k0_t1 : Fin k0_t1_loop.trips) : Fin 2 → Nat :=
  let c12_361 : Index := 12#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v768 : Index := Scalar.indexCast v28
  ![12, v768.toNat]
def k0_off172 (v769 : BitVec 32) : Fin 3 → Nat :=
  let v770 : Index := Scalar.indexCast v769
  let c12_362 : Index := 12#32
  let c0_363 : Index := 0#32
  ![v770.toNat, 12, 0]

def k0_off173 (v769 : BitVec 32) : Fin 3 → Nat :=
  let v776 : Index := Scalar.indexCast v769
  let c12_364 : Index := 12#32
  let c0_365 : Index := 0#32
  ![v776.toNat, 12, 0]

def k0_chk77 (v769 : BitVec 32) : Prop :=
  (∀ a, (k0_off172 v769) a + S1x1x512.size a ≤ S257x64x512.size a) ∧
  (∀ a, (k0_off173 v769) a + S1x2x512.size a ≤ S257x64x512.size a) ∧
  (∀ (hinb : ∀ a, (k0_off173 v769) a + S1x2x512.size a ≤ S257x64x512.size a), (Rect.unit (s := S257x64x512) (k0_off173 v769) S1x2x512.size hinb).PackedRows (EltTy.packing .bf16))
theorem k0_off172_inb : ∀ (v769 : BitVec 32) (k0_hw77 : k0_chk77 v769), ∀ a, (k0_off172 v769) a + S1x1x512.size a ≤ S257x64x512.size a := fun v769 k0_hw77 => k0_hw77.1
theorem k0_off173_inb : ∀ (v769 : BitVec 32) (k0_hw77 : k0_chk77 v769), ∀ a, (k0_off173 v769) a + S1x2x512.size a ≤ S257x64x512.size a := fun v769 k0_hw77 => k0_hw77.2.1
theorem k0_off173_packedbf16 : ∀ (v769 : BitVec 32) (k0_hw77 : k0_chk77 v769), (Rect.unit (s := S257x64x512) (k0_off173 v769) S1x2x512.size (k0_off173_inb v769 k0_hw77)).PackedRows (EltTy.packing .bf16) := fun v769 k0_hw77 => k0_hw77.2.2 (k0_off173_inb v769 k0_hw77)

def k0_off174 (i : grid0.Coords) (k0_t1 : Fin k0_t1_loop.trips) : Fin 2 → Nat :=
  let c13_366 : Index := 13#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v780 : Index := Scalar.indexCast v28
  ![13, v780.toNat]
def k0_off175 (v781 : BitVec 32) : Fin 3 → Nat :=
  let v782 : Index := Scalar.indexCast v781
  let c13_367 : Index := 13#32
  let c0_368 : Index := 0#32
  ![v782.toNat, 13, 0]

def k0_off176 (v781 : BitVec 32) : Fin 3 → Nat :=
  let v788 : Index := Scalar.indexCast v781
  let c0_370 : Index := 0#32
  ![v788.toNat, 12, 0]

def k0_chk78 (v781 : BitVec 32) : Prop :=
  (∀ a, (k0_off175 v781) a + S1x1x512.size a ≤ S257x64x512.size a) ∧
  (∀ a, (k0_off176 v781) a + S1x2x512.size a ≤ S257x64x512.size a) ∧
  (∀ (hinb : ∀ a, (k0_off176 v781) a + S1x2x512.size a ≤ S257x64x512.size a), (Rect.unit (s := S257x64x512) (k0_off176 v781) S1x2x512.size hinb).PackedRows (EltTy.packing .bf16))
theorem k0_off175_inb : ∀ (v781 : BitVec 32) (k0_hw78 : k0_chk78 v781), ∀ a, (k0_off175 v781) a + S1x1x512.size a ≤ S257x64x512.size a := fun v781 k0_hw78 => k0_hw78.1
theorem k0_off176_inb : ∀ (v781 : BitVec 32) (k0_hw78 : k0_chk78 v781), ∀ a, (k0_off176 v781) a + S1x2x512.size a ≤ S257x64x512.size a := fun v781 k0_hw78 => k0_hw78.2.1
theorem k0_off176_packedbf16 : ∀ (v781 : BitVec 32) (k0_hw78 : k0_chk78 v781), (Rect.unit (s := S257x64x512) (k0_off176 v781) S1x2x512.size (k0_off176_inb v781 k0_hw78)).PackedRows (EltTy.packing .bf16) := fun v781 k0_hw78 => k0_hw78.2.2 (k0_off176_inb v781 k0_hw78)

def k0_off177 (i : grid0.Coords) (k0_t1 : Fin k0_t1_loop.trips) : Fin 2 → Nat :=
  let c14_371 : Index := 14#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v792 : Index := Scalar.indexCast v28
  ![14, v792.toNat]
def k0_off178 (v793 : BitVec 32) : Fin 3 → Nat :=
  let v794 : Index := Scalar.indexCast v793
  let c14_372 : Index := 14#32
  let c0_373 : Index := 0#32
  ![v794.toNat, 14, 0]

def k0_off179 (v793 : BitVec 32) : Fin 3 → Nat :=
  let v800 : Index := Scalar.indexCast v793
  let c14_374 : Index := 14#32
  let c0_375 : Index := 0#32
  ![v800.toNat, 14, 0]

def k0_chk79 (v793 : BitVec 32) : Prop :=
  (∀ a, (k0_off178 v793) a + S1x1x512.size a ≤ S257x64x512.size a) ∧
  (∀ a, (k0_off179 v793) a + S1x2x512.size a ≤ S257x64x512.size a) ∧
  (∀ (hinb : ∀ a, (k0_off179 v793) a + S1x2x512.size a ≤ S257x64x512.size a), (Rect.unit (s := S257x64x512) (k0_off179 v793) S1x2x512.size hinb).PackedRows (EltTy.packing .bf16))
theorem k0_off178_inb : ∀ (v793 : BitVec 32) (k0_hw79 : k0_chk79 v793), ∀ a, (k0_off178 v793) a + S1x1x512.size a ≤ S257x64x512.size a := fun v793 k0_hw79 => k0_hw79.1
theorem k0_off179_inb : ∀ (v793 : BitVec 32) (k0_hw79 : k0_chk79 v793), ∀ a, (k0_off179 v793) a + S1x2x512.size a ≤ S257x64x512.size a := fun v793 k0_hw79 => k0_hw79.2.1
theorem k0_off179_packedbf16 : ∀ (v793 : BitVec 32) (k0_hw79 : k0_chk79 v793), (Rect.unit (s := S257x64x512) (k0_off179 v793) S1x2x512.size (k0_off179_inb v793 k0_hw79)).PackedRows (EltTy.packing .bf16) := fun v793 k0_hw79 => k0_hw79.2.2 (k0_off179_inb v793 k0_hw79)

def k0_off180 (i : grid0.Coords) (k0_t1 : Fin k0_t1_loop.trips) : Fin 2 → Nat :=
  let c15_376 : Index := 15#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v804 : Index := Scalar.indexCast v28
  ![15, v804.toNat]
def k0_off181 (v805 : BitVec 32) : Fin 3 → Nat :=
  let v806 : Index := Scalar.indexCast v805
  let c15_377 : Index := 15#32
  let c0_378 : Index := 0#32
  ![v806.toNat, 15, 0]

def k0_off182 (v805 : BitVec 32) : Fin 3 → Nat :=
  let v812 : Index := Scalar.indexCast v805
  let c0_380 : Index := 0#32
  ![v812.toNat, 14, 0]

def k0_chk80 (v805 : BitVec 32) : Prop :=
  (∀ a, (k0_off181 v805) a + S1x1x512.size a ≤ S257x64x512.size a) ∧
  (∀ a, (k0_off182 v805) a + S1x2x512.size a ≤ S257x64x512.size a) ∧
  (∀ (hinb : ∀ a, (k0_off182 v805) a + S1x2x512.size a ≤ S257x64x512.size a), (Rect.unit (s := S257x64x512) (k0_off182 v805) S1x2x512.size hinb).PackedRows (EltTy.packing .bf16))
theorem k0_off181_inb : ∀ (v805 : BitVec 32) (k0_hw80 : k0_chk80 v805), ∀ a, (k0_off181 v805) a + S1x1x512.size a ≤ S257x64x512.size a := fun v805 k0_hw80 => k0_hw80.1
theorem k0_off182_inb : ∀ (v805 : BitVec 32) (k0_hw80 : k0_chk80 v805), ∀ a, (k0_off182 v805) a + S1x2x512.size a ≤ S257x64x512.size a := fun v805 k0_hw80 => k0_hw80.2.1
theorem k0_off182_packedbf16 : ∀ (v805 : BitVec 32) (k0_hw80 : k0_chk80 v805), (Rect.unit (s := S257x64x512) (k0_off182 v805) S1x2x512.size (k0_off182_inb v805 k0_hw80)).PackedRows (EltTy.packing .bf16) := fun v805 k0_hw80 => k0_hw80.2.2 (k0_off182_inb v805 k0_hw80)

def k0_off183 (i : grid0.Coords) (k0_t1 : Fin k0_t1_loop.trips) : Fin 2 → Nat :=
  let c16_381 : Index := 16#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v816 : Index := Scalar.indexCast v28
  ![16, v816.toNat]
def k0_off184 (v817 : BitVec 32) : Fin 3 → Nat :=
  let v818 : Index := Scalar.indexCast v817
  let c16_382 : Index := 16#32
  let c0_383 : Index := 0#32
  ![v818.toNat, 16, 0]

def k0_off185 (v817 : BitVec 32) : Fin 3 → Nat :=
  let v824 : Index := Scalar.indexCast v817
  let c16_384 : Index := 16#32
  let c0_385 : Index := 0#32
  ![v824.toNat, 16, 0]

def k0_chk81 (v817 : BitVec 32) : Prop :=
  (∀ a, (k0_off184 v817) a + S1x1x512.size a ≤ S257x64x512.size a) ∧
  (∀ a, (k0_off185 v817) a + S1x2x512.size a ≤ S257x64x512.size a) ∧
  (∀ (hinb : ∀ a, (k0_off185 v817) a + S1x2x512.size a ≤ S257x64x512.size a), (Rect.unit (s := S257x64x512) (k0_off185 v817) S1x2x512.size hinb).PackedRows (EltTy.packing .bf16))
theorem k0_off184_inb : ∀ (v817 : BitVec 32) (k0_hw81 : k0_chk81 v817), ∀ a, (k0_off184 v817) a + S1x1x512.size a ≤ S257x64x512.size a := fun v817 k0_hw81 => k0_hw81.1
theorem k0_off185_inb : ∀ (v817 : BitVec 32) (k0_hw81 : k0_chk81 v817), ∀ a, (k0_off185 v817) a + S1x2x512.size a ≤ S257x64x512.size a := fun v817 k0_hw81 => k0_hw81.2.1
theorem k0_off185_packedbf16 : ∀ (v817 : BitVec 32) (k0_hw81 : k0_chk81 v817), (Rect.unit (s := S257x64x512) (k0_off185 v817) S1x2x512.size (k0_off185_inb v817 k0_hw81)).PackedRows (EltTy.packing .bf16) := fun v817 k0_hw81 => k0_hw81.2.2 (k0_off185_inb v817 k0_hw81)

def k0_off186 (i : grid0.Coords) (k0_t1 : Fin k0_t1_loop.trips) : Fin 2 → Nat :=
  let c17_386 : Index := 17#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v828 : Index := Scalar.indexCast v28
  ![17, v828.toNat]
def k0_off187 (v829 : BitVec 32) : Fin 3 → Nat :=
  let v830 : Index := Scalar.indexCast v829
  let c17_387 : Index := 17#32
  let c0_388 : Index := 0#32
  ![v830.toNat, 17, 0]

def k0_off188 (v829 : BitVec 32) : Fin 3 → Nat :=
  let v836 : Index := Scalar.indexCast v829
  let c0_390 : Index := 0#32
  ![v836.toNat, 16, 0]

def k0_chk82 (v829 : BitVec 32) : Prop :=
  (∀ a, (k0_off187 v829) a + S1x1x512.size a ≤ S257x64x512.size a) ∧
  (∀ a, (k0_off188 v829) a + S1x2x512.size a ≤ S257x64x512.size a) ∧
  (∀ (hinb : ∀ a, (k0_off188 v829) a + S1x2x512.size a ≤ S257x64x512.size a), (Rect.unit (s := S257x64x512) (k0_off188 v829) S1x2x512.size hinb).PackedRows (EltTy.packing .bf16))
theorem k0_off187_inb : ∀ (v829 : BitVec 32) (k0_hw82 : k0_chk82 v829), ∀ a, (k0_off187 v829) a + S1x1x512.size a ≤ S257x64x512.size a := fun v829 k0_hw82 => k0_hw82.1
theorem k0_off188_inb : ∀ (v829 : BitVec 32) (k0_hw82 : k0_chk82 v829), ∀ a, (k0_off188 v829) a + S1x2x512.size a ≤ S257x64x512.size a := fun v829 k0_hw82 => k0_hw82.2.1
theorem k0_off188_packedbf16 : ∀ (v829 : BitVec 32) (k0_hw82 : k0_chk82 v829), (Rect.unit (s := S257x64x512) (k0_off188 v829) S1x2x512.size (k0_off188_inb v829 k0_hw82)).PackedRows (EltTy.packing .bf16) := fun v829 k0_hw82 => k0_hw82.2.2 (k0_off188_inb v829 k0_hw82)

def k0_off189 (i : grid0.Coords) (k0_t1 : Fin k0_t1_loop.trips) : Fin 2 → Nat :=
  let c18_391 : Index := 18#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v840 : Index := Scalar.indexCast v28
  ![18, v840.toNat]
def k0_off190 (v841 : BitVec 32) : Fin 3 → Nat :=
  let v842 : Index := Scalar.indexCast v841
  let c18_392 : Index := 18#32
  let c0_393 : Index := 0#32
  ![v842.toNat, 18, 0]

def k0_off191 (v841 : BitVec 32) : Fin 3 → Nat :=
  let v848 : Index := Scalar.indexCast v841
  let c18_394 : Index := 18#32
  let c0_395 : Index := 0#32
  ![v848.toNat, 18, 0]

def k0_chk83 (v841 : BitVec 32) : Prop :=
  (∀ a, (k0_off190 v841) a + S1x1x512.size a ≤ S257x64x512.size a) ∧
  (∀ a, (k0_off191 v841) a + S1x2x512.size a ≤ S257x64x512.size a) ∧
  (∀ (hinb : ∀ a, (k0_off191 v841) a + S1x2x512.size a ≤ S257x64x512.size a), (Rect.unit (s := S257x64x512) (k0_off191 v841) S1x2x512.size hinb).PackedRows (EltTy.packing .bf16))
theorem k0_off190_inb : ∀ (v841 : BitVec 32) (k0_hw83 : k0_chk83 v841), ∀ a, (k0_off190 v841) a + S1x1x512.size a ≤ S257x64x512.size a := fun v841 k0_hw83 => k0_hw83.1
theorem k0_off191_inb : ∀ (v841 : BitVec 32) (k0_hw83 : k0_chk83 v841), ∀ a, (k0_off191 v841) a + S1x2x512.size a ≤ S257x64x512.size a := fun v841 k0_hw83 => k0_hw83.2.1
theorem k0_off191_packedbf16 : ∀ (v841 : BitVec 32) (k0_hw83 : k0_chk83 v841), (Rect.unit (s := S257x64x512) (k0_off191 v841) S1x2x512.size (k0_off191_inb v841 k0_hw83)).PackedRows (EltTy.packing .bf16) := fun v841 k0_hw83 => k0_hw83.2.2 (k0_off191_inb v841 k0_hw83)

def k0_off192 (i : grid0.Coords) (k0_t1 : Fin k0_t1_loop.trips) : Fin 2 → Nat :=
  let c19_396 : Index := 19#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v852 : Index := Scalar.indexCast v28
  ![19, v852.toNat]
def k0_off193 (v853 : BitVec 32) : Fin 3 → Nat :=
  let v854 : Index := Scalar.indexCast v853
  let c19_397 : Index := 19#32
  let c0_398 : Index := 0#32
  ![v854.toNat, 19, 0]

def k0_off194 (v853 : BitVec 32) : Fin 3 → Nat :=
  let v860 : Index := Scalar.indexCast v853
  let c0_400 : Index := 0#32
  ![v860.toNat, 18, 0]

def k0_chk84 (v853 : BitVec 32) : Prop :=
  (∀ a, (k0_off193 v853) a + S1x1x512.size a ≤ S257x64x512.size a) ∧
  (∀ a, (k0_off194 v853) a + S1x2x512.size a ≤ S257x64x512.size a) ∧
  (∀ (hinb : ∀ a, (k0_off194 v853) a + S1x2x512.size a ≤ S257x64x512.size a), (Rect.unit (s := S257x64x512) (k0_off194 v853) S1x2x512.size hinb).PackedRows (EltTy.packing .bf16))
theorem k0_off193_inb : ∀ (v853 : BitVec 32) (k0_hw84 : k0_chk84 v853), ∀ a, (k0_off193 v853) a + S1x1x512.size a ≤ S257x64x512.size a := fun v853 k0_hw84 => k0_hw84.1
theorem k0_off194_inb : ∀ (v853 : BitVec 32) (k0_hw84 : k0_chk84 v853), ∀ a, (k0_off194 v853) a + S1x2x512.size a ≤ S257x64x512.size a := fun v853 k0_hw84 => k0_hw84.2.1
theorem k0_off194_packedbf16 : ∀ (v853 : BitVec 32) (k0_hw84 : k0_chk84 v853), (Rect.unit (s := S257x64x512) (k0_off194 v853) S1x2x512.size (k0_off194_inb v853 k0_hw84)).PackedRows (EltTy.packing .bf16) := fun v853 k0_hw84 => k0_hw84.2.2 (k0_off194_inb v853 k0_hw84)

def k0_off195 (i : grid0.Coords) (k0_t1 : Fin k0_t1_loop.trips) : Fin 2 → Nat :=
  let c20_401 : Index := 20#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v864 : Index := Scalar.indexCast v28
  ![20, v864.toNat]
def k0_off196 (v865 : BitVec 32) : Fin 3 → Nat :=
  let v866 : Index := Scalar.indexCast v865
  let c20_402 : Index := 20#32
  let c0_403 : Index := 0#32
  ![v866.toNat, 20, 0]

def k0_off197 (v865 : BitVec 32) : Fin 3 → Nat :=
  let v872 : Index := Scalar.indexCast v865
  let c20_404 : Index := 20#32
  let c0_405 : Index := 0#32
  ![v872.toNat, 20, 0]

def k0_chk85 (v865 : BitVec 32) : Prop :=
  (∀ a, (k0_off196 v865) a + S1x1x512.size a ≤ S257x64x512.size a) ∧
  (∀ a, (k0_off197 v865) a + S1x2x512.size a ≤ S257x64x512.size a) ∧
  (∀ (hinb : ∀ a, (k0_off197 v865) a + S1x2x512.size a ≤ S257x64x512.size a), (Rect.unit (s := S257x64x512) (k0_off197 v865) S1x2x512.size hinb).PackedRows (EltTy.packing .bf16))
theorem k0_off196_inb : ∀ (v865 : BitVec 32) (k0_hw85 : k0_chk85 v865), ∀ a, (k0_off196 v865) a + S1x1x512.size a ≤ S257x64x512.size a := fun v865 k0_hw85 => k0_hw85.1
theorem k0_off197_inb : ∀ (v865 : BitVec 32) (k0_hw85 : k0_chk85 v865), ∀ a, (k0_off197 v865) a + S1x2x512.size a ≤ S257x64x512.size a := fun v865 k0_hw85 => k0_hw85.2.1
theorem k0_off197_packedbf16 : ∀ (v865 : BitVec 32) (k0_hw85 : k0_chk85 v865), (Rect.unit (s := S257x64x512) (k0_off197 v865) S1x2x512.size (k0_off197_inb v865 k0_hw85)).PackedRows (EltTy.packing .bf16) := fun v865 k0_hw85 => k0_hw85.2.2 (k0_off197_inb v865 k0_hw85)

def k0_off198 (i : grid0.Coords) (k0_t1 : Fin k0_t1_loop.trips) : Fin 2 → Nat :=
  let c21_406 : Index := 21#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v876 : Index := Scalar.indexCast v28
  ![21, v876.toNat]
def k0_off199 (v877 : BitVec 32) : Fin 3 → Nat :=
  let v878 : Index := Scalar.indexCast v877
  let c21_407 : Index := 21#32
  let c0_408 : Index := 0#32
  ![v878.toNat, 21, 0]

def k0_off200 (v877 : BitVec 32) : Fin 3 → Nat :=
  let v884 : Index := Scalar.indexCast v877
  let c0_410 : Index := 0#32
  ![v884.toNat, 20, 0]

def k0_chk86 (v877 : BitVec 32) : Prop :=
  (∀ a, (k0_off199 v877) a + S1x1x512.size a ≤ S257x64x512.size a) ∧
  (∀ a, (k0_off200 v877) a + S1x2x512.size a ≤ S257x64x512.size a) ∧
  (∀ (hinb : ∀ a, (k0_off200 v877) a + S1x2x512.size a ≤ S257x64x512.size a), (Rect.unit (s := S257x64x512) (k0_off200 v877) S1x2x512.size hinb).PackedRows (EltTy.packing .bf16))
theorem k0_off199_inb : ∀ (v877 : BitVec 32) (k0_hw86 : k0_chk86 v877), ∀ a, (k0_off199 v877) a + S1x1x512.size a ≤ S257x64x512.size a := fun v877 k0_hw86 => k0_hw86.1
theorem k0_off200_inb : ∀ (v877 : BitVec 32) (k0_hw86 : k0_chk86 v877), ∀ a, (k0_off200 v877) a + S1x2x512.size a ≤ S257x64x512.size a := fun v877 k0_hw86 => k0_hw86.2.1
theorem k0_off200_packedbf16 : ∀ (v877 : BitVec 32) (k0_hw86 : k0_chk86 v877), (Rect.unit (s := S257x64x512) (k0_off200 v877) S1x2x512.size (k0_off200_inb v877 k0_hw86)).PackedRows (EltTy.packing .bf16) := fun v877 k0_hw86 => k0_hw86.2.2 (k0_off200_inb v877 k0_hw86)

def k0_off201 (i : grid0.Coords) (k0_t1 : Fin k0_t1_loop.trips) : Fin 2 → Nat :=
  let c22_411 : Index := 22#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v888 : Index := Scalar.indexCast v28
  ![22, v888.toNat]
def k0_off202 (v889 : BitVec 32) : Fin 3 → Nat :=
  let v890 : Index := Scalar.indexCast v889
  let c22_412 : Index := 22#32
  let c0_413 : Index := 0#32
  ![v890.toNat, 22, 0]

def k0_off203 (v889 : BitVec 32) : Fin 3 → Nat :=
  let v896 : Index := Scalar.indexCast v889
  let c22_414 : Index := 22#32
  let c0_415 : Index := 0#32
  ![v896.toNat, 22, 0]

def k0_chk87 (v889 : BitVec 32) : Prop :=
  (∀ a, (k0_off202 v889) a + S1x1x512.size a ≤ S257x64x512.size a) ∧
  (∀ a, (k0_off203 v889) a + S1x2x512.size a ≤ S257x64x512.size a) ∧
  (∀ (hinb : ∀ a, (k0_off203 v889) a + S1x2x512.size a ≤ S257x64x512.size a), (Rect.unit (s := S257x64x512) (k0_off203 v889) S1x2x512.size hinb).PackedRows (EltTy.packing .bf16))
theorem k0_off202_inb : ∀ (v889 : BitVec 32) (k0_hw87 : k0_chk87 v889), ∀ a, (k0_off202 v889) a + S1x1x512.size a ≤ S257x64x512.size a := fun v889 k0_hw87 => k0_hw87.1
theorem k0_off203_inb : ∀ (v889 : BitVec 32) (k0_hw87 : k0_chk87 v889), ∀ a, (k0_off203 v889) a + S1x2x512.size a ≤ S257x64x512.size a := fun v889 k0_hw87 => k0_hw87.2.1
theorem k0_off203_packedbf16 : ∀ (v889 : BitVec 32) (k0_hw87 : k0_chk87 v889), (Rect.unit (s := S257x64x512) (k0_off203 v889) S1x2x512.size (k0_off203_inb v889 k0_hw87)).PackedRows (EltTy.packing .bf16) := fun v889 k0_hw87 => k0_hw87.2.2 (k0_off203_inb v889 k0_hw87)

def k0_off204 (i : grid0.Coords) (k0_t1 : Fin k0_t1_loop.trips) : Fin 2 → Nat :=
  let c23_416 : Index := 23#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v900 : Index := Scalar.indexCast v28
  ![23, v900.toNat]
def k0_off205 (v901 : BitVec 32) : Fin 3 → Nat :=
  let v902 : Index := Scalar.indexCast v901
  let c23_417 : Index := 23#32
  let c0_418 : Index := 0#32
  ![v902.toNat, 23, 0]

def k0_off206 (v901 : BitVec 32) : Fin 3 → Nat :=
  let v908 : Index := Scalar.indexCast v901
  let c0_420 : Index := 0#32
  ![v908.toNat, 22, 0]

def k0_chk88 (v901 : BitVec 32) : Prop :=
  (∀ a, (k0_off205 v901) a + S1x1x512.size a ≤ S257x64x512.size a) ∧
  (∀ a, (k0_off206 v901) a + S1x2x512.size a ≤ S257x64x512.size a) ∧
  (∀ (hinb : ∀ a, (k0_off206 v901) a + S1x2x512.size a ≤ S257x64x512.size a), (Rect.unit (s := S257x64x512) (k0_off206 v901) S1x2x512.size hinb).PackedRows (EltTy.packing .bf16))
theorem k0_off205_inb : ∀ (v901 : BitVec 32) (k0_hw88 : k0_chk88 v901), ∀ a, (k0_off205 v901) a + S1x1x512.size a ≤ S257x64x512.size a := fun v901 k0_hw88 => k0_hw88.1
theorem k0_off206_inb : ∀ (v901 : BitVec 32) (k0_hw88 : k0_chk88 v901), ∀ a, (k0_off206 v901) a + S1x2x512.size a ≤ S257x64x512.size a := fun v901 k0_hw88 => k0_hw88.2.1
theorem k0_off206_packedbf16 : ∀ (v901 : BitVec 32) (k0_hw88 : k0_chk88 v901), (Rect.unit (s := S257x64x512) (k0_off206 v901) S1x2x512.size (k0_off206_inb v901 k0_hw88)).PackedRows (EltTy.packing .bf16) := fun v901 k0_hw88 => k0_hw88.2.2 (k0_off206_inb v901 k0_hw88)

def k0_off207 (i : grid0.Coords) (k0_t1 : Fin k0_t1_loop.trips) : Fin 2 → Nat :=
  let c24_421 : Index := 24#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v912 : Index := Scalar.indexCast v28
  ![24, v912.toNat]
def k0_off208 (v913 : BitVec 32) : Fin 3 → Nat :=
  let v914 : Index := Scalar.indexCast v913
  let c24_422 : Index := 24#32
  let c0_423 : Index := 0#32
  ![v914.toNat, 24, 0]

def k0_off209 (v913 : BitVec 32) : Fin 3 → Nat :=
  let v920 : Index := Scalar.indexCast v913
  let c24_424 : Index := 24#32
  let c0_425 : Index := 0#32
  ![v920.toNat, 24, 0]

def k0_chk89 (v913 : BitVec 32) : Prop :=
  (∀ a, (k0_off208 v913) a + S1x1x512.size a ≤ S257x64x512.size a) ∧
  (∀ a, (k0_off209 v913) a + S1x2x512.size a ≤ S257x64x512.size a) ∧
  (∀ (hinb : ∀ a, (k0_off209 v913) a + S1x2x512.size a ≤ S257x64x512.size a), (Rect.unit (s := S257x64x512) (k0_off209 v913) S1x2x512.size hinb).PackedRows (EltTy.packing .bf16))
theorem k0_off208_inb : ∀ (v913 : BitVec 32) (k0_hw89 : k0_chk89 v913), ∀ a, (k0_off208 v913) a + S1x1x512.size a ≤ S257x64x512.size a := fun v913 k0_hw89 => k0_hw89.1
theorem k0_off209_inb : ∀ (v913 : BitVec 32) (k0_hw89 : k0_chk89 v913), ∀ a, (k0_off209 v913) a + S1x2x512.size a ≤ S257x64x512.size a := fun v913 k0_hw89 => k0_hw89.2.1
theorem k0_off209_packedbf16 : ∀ (v913 : BitVec 32) (k0_hw89 : k0_chk89 v913), (Rect.unit (s := S257x64x512) (k0_off209 v913) S1x2x512.size (k0_off209_inb v913 k0_hw89)).PackedRows (EltTy.packing .bf16) := fun v913 k0_hw89 => k0_hw89.2.2 (k0_off209_inb v913 k0_hw89)

def k0_off210 (i : grid0.Coords) (k0_t1 : Fin k0_t1_loop.trips) : Fin 2 → Nat :=
  let c25_426 : Index := 25#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v924 : Index := Scalar.indexCast v28
  ![25, v924.toNat]
def k0_off211 (v925 : BitVec 32) : Fin 3 → Nat :=
  let v926 : Index := Scalar.indexCast v925
  let c25_427 : Index := 25#32
  let c0_428 : Index := 0#32
  ![v926.toNat, 25, 0]

def k0_off212 (v925 : BitVec 32) : Fin 3 → Nat :=
  let v932 : Index := Scalar.indexCast v925
  let c0_430 : Index := 0#32
  ![v932.toNat, 24, 0]

def k0_chk90 (v925 : BitVec 32) : Prop :=
  (∀ a, (k0_off211 v925) a + S1x1x512.size a ≤ S257x64x512.size a) ∧
  (∀ a, (k0_off212 v925) a + S1x2x512.size a ≤ S257x64x512.size a) ∧
  (∀ (hinb : ∀ a, (k0_off212 v925) a + S1x2x512.size a ≤ S257x64x512.size a), (Rect.unit (s := S257x64x512) (k0_off212 v925) S1x2x512.size hinb).PackedRows (EltTy.packing .bf16))
theorem k0_off211_inb : ∀ (v925 : BitVec 32) (k0_hw90 : k0_chk90 v925), ∀ a, (k0_off211 v925) a + S1x1x512.size a ≤ S257x64x512.size a := fun v925 k0_hw90 => k0_hw90.1
theorem k0_off212_inb : ∀ (v925 : BitVec 32) (k0_hw90 : k0_chk90 v925), ∀ a, (k0_off212 v925) a + S1x2x512.size a ≤ S257x64x512.size a := fun v925 k0_hw90 => k0_hw90.2.1
theorem k0_off212_packedbf16 : ∀ (v925 : BitVec 32) (k0_hw90 : k0_chk90 v925), (Rect.unit (s := S257x64x512) (k0_off212 v925) S1x2x512.size (k0_off212_inb v925 k0_hw90)).PackedRows (EltTy.packing .bf16) := fun v925 k0_hw90 => k0_hw90.2.2 (k0_off212_inb v925 k0_hw90)

def k0_off213 (i : grid0.Coords) (k0_t1 : Fin k0_t1_loop.trips) : Fin 2 → Nat :=
  let c26_431 : Index := 26#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v936 : Index := Scalar.indexCast v28
  ![26, v936.toNat]
def k0_off214 (v937 : BitVec 32) : Fin 3 → Nat :=
  let v938 : Index := Scalar.indexCast v937
  let c26_432 : Index := 26#32
  let c0_433 : Index := 0#32
  ![v938.toNat, 26, 0]

def k0_off215 (v937 : BitVec 32) : Fin 3 → Nat :=
  let v944 : Index := Scalar.indexCast v937
  let c26_434 : Index := 26#32
  let c0_435 : Index := 0#32
  ![v944.toNat, 26, 0]

def k0_chk91 (v937 : BitVec 32) : Prop :=
  (∀ a, (k0_off214 v937) a + S1x1x512.size a ≤ S257x64x512.size a) ∧
  (∀ a, (k0_off215 v937) a + S1x2x512.size a ≤ S257x64x512.size a) ∧
  (∀ (hinb : ∀ a, (k0_off215 v937) a + S1x2x512.size a ≤ S257x64x512.size a), (Rect.unit (s := S257x64x512) (k0_off215 v937) S1x2x512.size hinb).PackedRows (EltTy.packing .bf16))
theorem k0_off214_inb : ∀ (v937 : BitVec 32) (k0_hw91 : k0_chk91 v937), ∀ a, (k0_off214 v937) a + S1x1x512.size a ≤ S257x64x512.size a := fun v937 k0_hw91 => k0_hw91.1
theorem k0_off215_inb : ∀ (v937 : BitVec 32) (k0_hw91 : k0_chk91 v937), ∀ a, (k0_off215 v937) a + S1x2x512.size a ≤ S257x64x512.size a := fun v937 k0_hw91 => k0_hw91.2.1
theorem k0_off215_packedbf16 : ∀ (v937 : BitVec 32) (k0_hw91 : k0_chk91 v937), (Rect.unit (s := S257x64x512) (k0_off215 v937) S1x2x512.size (k0_off215_inb v937 k0_hw91)).PackedRows (EltTy.packing .bf16) := fun v937 k0_hw91 => k0_hw91.2.2 (k0_off215_inb v937 k0_hw91)

def k0_off216 (i : grid0.Coords) (k0_t1 : Fin k0_t1_loop.trips) : Fin 2 → Nat :=
  let c27_436 : Index := 27#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v948 : Index := Scalar.indexCast v28
  ![27, v948.toNat]
def k0_off217 (v949 : BitVec 32) : Fin 3 → Nat :=
  let v950 : Index := Scalar.indexCast v949
  let c27_437 : Index := 27#32
  let c0_438 : Index := 0#32
  ![v950.toNat, 27, 0]

def k0_off218 (v949 : BitVec 32) : Fin 3 → Nat :=
  let v956 : Index := Scalar.indexCast v949
  let c0_440 : Index := 0#32
  ![v956.toNat, 26, 0]

def k0_chk92 (v949 : BitVec 32) : Prop :=
  (∀ a, (k0_off217 v949) a + S1x1x512.size a ≤ S257x64x512.size a) ∧
  (∀ a, (k0_off218 v949) a + S1x2x512.size a ≤ S257x64x512.size a) ∧
  (∀ (hinb : ∀ a, (k0_off218 v949) a + S1x2x512.size a ≤ S257x64x512.size a), (Rect.unit (s := S257x64x512) (k0_off218 v949) S1x2x512.size hinb).PackedRows (EltTy.packing .bf16))
theorem k0_off217_inb : ∀ (v949 : BitVec 32) (k0_hw92 : k0_chk92 v949), ∀ a, (k0_off217 v949) a + S1x1x512.size a ≤ S257x64x512.size a := fun v949 k0_hw92 => k0_hw92.1
theorem k0_off218_inb : ∀ (v949 : BitVec 32) (k0_hw92 : k0_chk92 v949), ∀ a, (k0_off218 v949) a + S1x2x512.size a ≤ S257x64x512.size a := fun v949 k0_hw92 => k0_hw92.2.1
theorem k0_off218_packedbf16 : ∀ (v949 : BitVec 32) (k0_hw92 : k0_chk92 v949), (Rect.unit (s := S257x64x512) (k0_off218 v949) S1x2x512.size (k0_off218_inb v949 k0_hw92)).PackedRows (EltTy.packing .bf16) := fun v949 k0_hw92 => k0_hw92.2.2 (k0_off218_inb v949 k0_hw92)

def k0_off219 (i : grid0.Coords) (k0_t1 : Fin k0_t1_loop.trips) : Fin 2 → Nat :=
  let c28_441 : Index := 28#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v960 : Index := Scalar.indexCast v28
  ![28, v960.toNat]
def k0_off220 (v961 : BitVec 32) : Fin 3 → Nat :=
  let v962 : Index := Scalar.indexCast v961
  let c28_442 : Index := 28#32
  let c0_443 : Index := 0#32
  ![v962.toNat, 28, 0]

def k0_off221 (v961 : BitVec 32) : Fin 3 → Nat :=
  let v968 : Index := Scalar.indexCast v961
  let c28_444 : Index := 28#32
  let c0_445 : Index := 0#32
  ![v968.toNat, 28, 0]

def k0_chk93 (v961 : BitVec 32) : Prop :=
  (∀ a, (k0_off220 v961) a + S1x1x512.size a ≤ S257x64x512.size a) ∧
  (∀ a, (k0_off221 v961) a + S1x2x512.size a ≤ S257x64x512.size a) ∧
  (∀ (hinb : ∀ a, (k0_off221 v961) a + S1x2x512.size a ≤ S257x64x512.size a), (Rect.unit (s := S257x64x512) (k0_off221 v961) S1x2x512.size hinb).PackedRows (EltTy.packing .bf16))
theorem k0_off220_inb : ∀ (v961 : BitVec 32) (k0_hw93 : k0_chk93 v961), ∀ a, (k0_off220 v961) a + S1x1x512.size a ≤ S257x64x512.size a := fun v961 k0_hw93 => k0_hw93.1
theorem k0_off221_inb : ∀ (v961 : BitVec 32) (k0_hw93 : k0_chk93 v961), ∀ a, (k0_off221 v961) a + S1x2x512.size a ≤ S257x64x512.size a := fun v961 k0_hw93 => k0_hw93.2.1
theorem k0_off221_packedbf16 : ∀ (v961 : BitVec 32) (k0_hw93 : k0_chk93 v961), (Rect.unit (s := S257x64x512) (k0_off221 v961) S1x2x512.size (k0_off221_inb v961 k0_hw93)).PackedRows (EltTy.packing .bf16) := fun v961 k0_hw93 => k0_hw93.2.2 (k0_off221_inb v961 k0_hw93)

def k0_off222 (i : grid0.Coords) (k0_t1 : Fin k0_t1_loop.trips) : Fin 2 → Nat :=
  let c29_446 : Index := 29#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v972 : Index := Scalar.indexCast v28
  ![29, v972.toNat]
def k0_off223 (v973 : BitVec 32) : Fin 3 → Nat :=
  let v974 : Index := Scalar.indexCast v973
  let c29_447 : Index := 29#32
  let c0_448 : Index := 0#32
  ![v974.toNat, 29, 0]

def k0_off224 (v973 : BitVec 32) : Fin 3 → Nat :=
  let v980 : Index := Scalar.indexCast v973
  let c0_450 : Index := 0#32
  ![v980.toNat, 28, 0]

def k0_chk94 (v973 : BitVec 32) : Prop :=
  (∀ a, (k0_off223 v973) a + S1x1x512.size a ≤ S257x64x512.size a) ∧
  (∀ a, (k0_off224 v973) a + S1x2x512.size a ≤ S257x64x512.size a) ∧
  (∀ (hinb : ∀ a, (k0_off224 v973) a + S1x2x512.size a ≤ S257x64x512.size a), (Rect.unit (s := S257x64x512) (k0_off224 v973) S1x2x512.size hinb).PackedRows (EltTy.packing .bf16))
theorem k0_off223_inb : ∀ (v973 : BitVec 32) (k0_hw94 : k0_chk94 v973), ∀ a, (k0_off223 v973) a + S1x1x512.size a ≤ S257x64x512.size a := fun v973 k0_hw94 => k0_hw94.1
theorem k0_off224_inb : ∀ (v973 : BitVec 32) (k0_hw94 : k0_chk94 v973), ∀ a, (k0_off224 v973) a + S1x2x512.size a ≤ S257x64x512.size a := fun v973 k0_hw94 => k0_hw94.2.1
theorem k0_off224_packedbf16 : ∀ (v973 : BitVec 32) (k0_hw94 : k0_chk94 v973), (Rect.unit (s := S257x64x512) (k0_off224 v973) S1x2x512.size (k0_off224_inb v973 k0_hw94)).PackedRows (EltTy.packing .bf16) := fun v973 k0_hw94 => k0_hw94.2.2 (k0_off224_inb v973 k0_hw94)

def k0_off225 (i : grid0.Coords) (k0_t1 : Fin k0_t1_loop.trips) : Fin 2 → Nat :=
  let c30_451 : Index := 30#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v984 : Index := Scalar.indexCast v28
  ![30, v984.toNat]
def k0_off226 (v985 : BitVec 32) : Fin 3 → Nat :=
  let v986 : Index := Scalar.indexCast v985
  let c30_452 : Index := 30#32
  let c0_453 : Index := 0#32
  ![v986.toNat, 30, 0]

def k0_off227 (v985 : BitVec 32) : Fin 3 → Nat :=
  let v992 : Index := Scalar.indexCast v985
  let c30_454 : Index := 30#32
  let c0_455 : Index := 0#32
  ![v992.toNat, 30, 0]

def k0_chk95 (v985 : BitVec 32) : Prop :=
  (∀ a, (k0_off226 v985) a + S1x1x512.size a ≤ S257x64x512.size a) ∧
  (∀ a, (k0_off227 v985) a + S1x2x512.size a ≤ S257x64x512.size a) ∧
  (∀ (hinb : ∀ a, (k0_off227 v985) a + S1x2x512.size a ≤ S257x64x512.size a), (Rect.unit (s := S257x64x512) (k0_off227 v985) S1x2x512.size hinb).PackedRows (EltTy.packing .bf16))
theorem k0_off226_inb : ∀ (v985 : BitVec 32) (k0_hw95 : k0_chk95 v985), ∀ a, (k0_off226 v985) a + S1x1x512.size a ≤ S257x64x512.size a := fun v985 k0_hw95 => k0_hw95.1
theorem k0_off227_inb : ∀ (v985 : BitVec 32) (k0_hw95 : k0_chk95 v985), ∀ a, (k0_off227 v985) a + S1x2x512.size a ≤ S257x64x512.size a := fun v985 k0_hw95 => k0_hw95.2.1
theorem k0_off227_packedbf16 : ∀ (v985 : BitVec 32) (k0_hw95 : k0_chk95 v985), (Rect.unit (s := S257x64x512) (k0_off227 v985) S1x2x512.size (k0_off227_inb v985 k0_hw95)).PackedRows (EltTy.packing .bf16) := fun v985 k0_hw95 => k0_hw95.2.2 (k0_off227_inb v985 k0_hw95)

def k0_off228 (i : grid0.Coords) (k0_t1 : Fin k0_t1_loop.trips) : Fin 2 → Nat :=
  let c31_456 : Index := 31#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v996 : Index := Scalar.indexCast v28
  ![31, v996.toNat]
def k0_off229 (v997 : BitVec 32) : Fin 3 → Nat :=
  let v998 : Index := Scalar.indexCast v997
  let c31_457 : Index := 31#32
  let c0_458 : Index := 0#32
  ![v998.toNat, 31, 0]

def k0_off230 (v997 : BitVec 32) : Fin 3 → Nat :=
  let v1004 : Index := Scalar.indexCast v997
  let c0_460 : Index := 0#32
  ![v1004.toNat, 30, 0]

def k0_chk96 (v997 : BitVec 32) : Prop :=
  (∀ a, (k0_off229 v997) a + S1x1x512.size a ≤ S257x64x512.size a) ∧
  (∀ a, (k0_off230 v997) a + S1x2x512.size a ≤ S257x64x512.size a) ∧
  (∀ (hinb : ∀ a, (k0_off230 v997) a + S1x2x512.size a ≤ S257x64x512.size a), (Rect.unit (s := S257x64x512) (k0_off230 v997) S1x2x512.size hinb).PackedRows (EltTy.packing .bf16))
theorem k0_off229_inb : ∀ (v997 : BitVec 32) (k0_hw96 : k0_chk96 v997), ∀ a, (k0_off229 v997) a + S1x1x512.size a ≤ S257x64x512.size a := fun v997 k0_hw96 => k0_hw96.1
theorem k0_off230_inb : ∀ (v997 : BitVec 32) (k0_hw96 : k0_chk96 v997), ∀ a, (k0_off230 v997) a + S1x2x512.size a ≤ S257x64x512.size a := fun v997 k0_hw96 => k0_hw96.2.1
theorem k0_off230_packedbf16 : ∀ (v997 : BitVec 32) (k0_hw96 : k0_chk96 v997), (Rect.unit (s := S257x64x512) (k0_off230 v997) S1x2x512.size (k0_off230_inb v997 k0_hw96)).PackedRows (EltTy.packing .bf16) := fun v997 k0_hw96 => k0_hw96.2.2 (k0_off230_inb v997 k0_hw96)

def k0_off231 (i : grid0.Coords) (k0_t1 : Fin k0_t1_loop.trips) : Fin 2 → Nat :=
  let c32_461 : Index := 32#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1008 : Index := Scalar.indexCast v28
  ![32, v1008.toNat]
def k0_off232 (v1009 : BitVec 32) : Fin 3 → Nat :=
  let v1010 : Index := Scalar.indexCast v1009
  let c32_462 : Index := 32#32
  let c0_463 : Index := 0#32
  ![v1010.toNat, 32, 0]

def k0_off233 (v1009 : BitVec 32) : Fin 3 → Nat :=
  let v1016 : Index := Scalar.indexCast v1009
  let c32_464 : Index := 32#32
  let c0_465 : Index := 0#32
  ![v1016.toNat, 32, 0]

def k0_chk97 (v1009 : BitVec 32) : Prop :=
  (∀ a, (k0_off232 v1009) a + S1x1x512.size a ≤ S257x64x512.size a) ∧
  (∀ a, (k0_off233 v1009) a + S1x2x512.size a ≤ S257x64x512.size a) ∧
  (∀ (hinb : ∀ a, (k0_off233 v1009) a + S1x2x512.size a ≤ S257x64x512.size a), (Rect.unit (s := S257x64x512) (k0_off233 v1009) S1x2x512.size hinb).PackedRows (EltTy.packing .bf16))
theorem k0_off232_inb : ∀ (v1009 : BitVec 32) (k0_hw97 : k0_chk97 v1009), ∀ a, (k0_off232 v1009) a + S1x1x512.size a ≤ S257x64x512.size a := fun v1009 k0_hw97 => k0_hw97.1
theorem k0_off233_inb : ∀ (v1009 : BitVec 32) (k0_hw97 : k0_chk97 v1009), ∀ a, (k0_off233 v1009) a + S1x2x512.size a ≤ S257x64x512.size a := fun v1009 k0_hw97 => k0_hw97.2.1
theorem k0_off233_packedbf16 : ∀ (v1009 : BitVec 32) (k0_hw97 : k0_chk97 v1009), (Rect.unit (s := S257x64x512) (k0_off233 v1009) S1x2x512.size (k0_off233_inb v1009 k0_hw97)).PackedRows (EltTy.packing .bf16) := fun v1009 k0_hw97 => k0_hw97.2.2 (k0_off233_inb v1009 k0_hw97)

def k0_off234 (i : grid0.Coords) (k0_t1 : Fin k0_t1_loop.trips) : Fin 2 → Nat :=
  let c33_466 : Index := 33#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1020 : Index := Scalar.indexCast v28
  ![33, v1020.toNat]
def k0_off235 (v1021 : BitVec 32) : Fin 3 → Nat :=
  let v1022 : Index := Scalar.indexCast v1021
  let c33_467 : Index := 33#32
  let c0_468 : Index := 0#32
  ![v1022.toNat, 33, 0]

def k0_off236 (v1021 : BitVec 32) : Fin 3 → Nat :=
  let v1028 : Index := Scalar.indexCast v1021
  let c0_470 : Index := 0#32
  ![v1028.toNat, 32, 0]

def k0_chk98 (v1021 : BitVec 32) : Prop :=
  (∀ a, (k0_off235 v1021) a + S1x1x512.size a ≤ S257x64x512.size a) ∧
  (∀ a, (k0_off236 v1021) a + S1x2x512.size a ≤ S257x64x512.size a) ∧
  (∀ (hinb : ∀ a, (k0_off236 v1021) a + S1x2x512.size a ≤ S257x64x512.size a), (Rect.unit (s := S257x64x512) (k0_off236 v1021) S1x2x512.size hinb).PackedRows (EltTy.packing .bf16))
theorem k0_off235_inb : ∀ (v1021 : BitVec 32) (k0_hw98 : k0_chk98 v1021), ∀ a, (k0_off235 v1021) a + S1x1x512.size a ≤ S257x64x512.size a := fun v1021 k0_hw98 => k0_hw98.1
theorem k0_off236_inb : ∀ (v1021 : BitVec 32) (k0_hw98 : k0_chk98 v1021), ∀ a, (k0_off236 v1021) a + S1x2x512.size a ≤ S257x64x512.size a := fun v1021 k0_hw98 => k0_hw98.2.1
theorem k0_off236_packedbf16 : ∀ (v1021 : BitVec 32) (k0_hw98 : k0_chk98 v1021), (Rect.unit (s := S257x64x512) (k0_off236 v1021) S1x2x512.size (k0_off236_inb v1021 k0_hw98)).PackedRows (EltTy.packing .bf16) := fun v1021 k0_hw98 => k0_hw98.2.2 (k0_off236_inb v1021 k0_hw98)

def k0_off237 (i : grid0.Coords) (k0_t1 : Fin k0_t1_loop.trips) : Fin 2 → Nat :=
  let c34_471 : Index := 34#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1032 : Index := Scalar.indexCast v28
  ![34, v1032.toNat]
def k0_off238 (v1033 : BitVec 32) : Fin 3 → Nat :=
  let v1034 : Index := Scalar.indexCast v1033
  let c34_472 : Index := 34#32
  let c0_473 : Index := 0#32
  ![v1034.toNat, 34, 0]

def k0_off239 (v1033 : BitVec 32) : Fin 3 → Nat :=
  let v1040 : Index := Scalar.indexCast v1033
  let c34_474 : Index := 34#32
  let c0_475 : Index := 0#32
  ![v1040.toNat, 34, 0]

def k0_chk99 (v1033 : BitVec 32) : Prop :=
  (∀ a, (k0_off238 v1033) a + S1x1x512.size a ≤ S257x64x512.size a) ∧
  (∀ a, (k0_off239 v1033) a + S1x2x512.size a ≤ S257x64x512.size a) ∧
  (∀ (hinb : ∀ a, (k0_off239 v1033) a + S1x2x512.size a ≤ S257x64x512.size a), (Rect.unit (s := S257x64x512) (k0_off239 v1033) S1x2x512.size hinb).PackedRows (EltTy.packing .bf16))
theorem k0_off238_inb : ∀ (v1033 : BitVec 32) (k0_hw99 : k0_chk99 v1033), ∀ a, (k0_off238 v1033) a + S1x1x512.size a ≤ S257x64x512.size a := fun v1033 k0_hw99 => k0_hw99.1
theorem k0_off239_inb : ∀ (v1033 : BitVec 32) (k0_hw99 : k0_chk99 v1033), ∀ a, (k0_off239 v1033) a + S1x2x512.size a ≤ S257x64x512.size a := fun v1033 k0_hw99 => k0_hw99.2.1
theorem k0_off239_packedbf16 : ∀ (v1033 : BitVec 32) (k0_hw99 : k0_chk99 v1033), (Rect.unit (s := S257x64x512) (k0_off239 v1033) S1x2x512.size (k0_off239_inb v1033 k0_hw99)).PackedRows (EltTy.packing .bf16) := fun v1033 k0_hw99 => k0_hw99.2.2 (k0_off239_inb v1033 k0_hw99)

def k0_off240 (i : grid0.Coords) (k0_t1 : Fin k0_t1_loop.trips) : Fin 2 → Nat :=
  let c35_476 : Index := 35#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1044 : Index := Scalar.indexCast v28
  ![35, v1044.toNat]
def k0_off241 (v1045 : BitVec 32) : Fin 3 → Nat :=
  let v1046 : Index := Scalar.indexCast v1045
  let c35_477 : Index := 35#32
  let c0_478 : Index := 0#32
  ![v1046.toNat, 35, 0]

def k0_off242 (v1045 : BitVec 32) : Fin 3 → Nat :=
  let v1052 : Index := Scalar.indexCast v1045
  let c0_480 : Index := 0#32
  ![v1052.toNat, 34, 0]

def k0_chk100 (v1045 : BitVec 32) : Prop :=
  (∀ a, (k0_off241 v1045) a + S1x1x512.size a ≤ S257x64x512.size a) ∧
  (∀ a, (k0_off242 v1045) a + S1x2x512.size a ≤ S257x64x512.size a) ∧
  (∀ (hinb : ∀ a, (k0_off242 v1045) a + S1x2x512.size a ≤ S257x64x512.size a), (Rect.unit (s := S257x64x512) (k0_off242 v1045) S1x2x512.size hinb).PackedRows (EltTy.packing .bf16))
theorem k0_off241_inb : ∀ (v1045 : BitVec 32) (k0_hw100 : k0_chk100 v1045), ∀ a, (k0_off241 v1045) a + S1x1x512.size a ≤ S257x64x512.size a := fun v1045 k0_hw100 => k0_hw100.1
theorem k0_off242_inb : ∀ (v1045 : BitVec 32) (k0_hw100 : k0_chk100 v1045), ∀ a, (k0_off242 v1045) a + S1x2x512.size a ≤ S257x64x512.size a := fun v1045 k0_hw100 => k0_hw100.2.1
theorem k0_off242_packedbf16 : ∀ (v1045 : BitVec 32) (k0_hw100 : k0_chk100 v1045), (Rect.unit (s := S257x64x512) (k0_off242 v1045) S1x2x512.size (k0_off242_inb v1045 k0_hw100)).PackedRows (EltTy.packing .bf16) := fun v1045 k0_hw100 => k0_hw100.2.2 (k0_off242_inb v1045 k0_hw100)

def k0_off243 (i : grid0.Coords) (k0_t1 : Fin k0_t1_loop.trips) : Fin 2 → Nat :=
  let c36_481 : Index := 36#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1056 : Index := Scalar.indexCast v28
  ![36, v1056.toNat]
def k0_off244 (v1057 : BitVec 32) : Fin 3 → Nat :=
  let v1058 : Index := Scalar.indexCast v1057
  let c36_482 : Index := 36#32
  let c0_483 : Index := 0#32
  ![v1058.toNat, 36, 0]

def k0_off245 (v1057 : BitVec 32) : Fin 3 → Nat :=
  let v1064 : Index := Scalar.indexCast v1057
  let c36_484 : Index := 36#32
  let c0_485 : Index := 0#32
  ![v1064.toNat, 36, 0]

def k0_chk101 (v1057 : BitVec 32) : Prop :=
  (∀ a, (k0_off244 v1057) a + S1x1x512.size a ≤ S257x64x512.size a) ∧
  (∀ a, (k0_off245 v1057) a + S1x2x512.size a ≤ S257x64x512.size a) ∧
  (∀ (hinb : ∀ a, (k0_off245 v1057) a + S1x2x512.size a ≤ S257x64x512.size a), (Rect.unit (s := S257x64x512) (k0_off245 v1057) S1x2x512.size hinb).PackedRows (EltTy.packing .bf16))
theorem k0_off244_inb : ∀ (v1057 : BitVec 32) (k0_hw101 : k0_chk101 v1057), ∀ a, (k0_off244 v1057) a + S1x1x512.size a ≤ S257x64x512.size a := fun v1057 k0_hw101 => k0_hw101.1
theorem k0_off245_inb : ∀ (v1057 : BitVec 32) (k0_hw101 : k0_chk101 v1057), ∀ a, (k0_off245 v1057) a + S1x2x512.size a ≤ S257x64x512.size a := fun v1057 k0_hw101 => k0_hw101.2.1
theorem k0_off245_packedbf16 : ∀ (v1057 : BitVec 32) (k0_hw101 : k0_chk101 v1057), (Rect.unit (s := S257x64x512) (k0_off245 v1057) S1x2x512.size (k0_off245_inb v1057 k0_hw101)).PackedRows (EltTy.packing .bf16) := fun v1057 k0_hw101 => k0_hw101.2.2 (k0_off245_inb v1057 k0_hw101)

def k0_off246 (i : grid0.Coords) (k0_t1 : Fin k0_t1_loop.trips) : Fin 2 → Nat :=
  let c37_486 : Index := 37#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1068 : Index := Scalar.indexCast v28
  ![37, v1068.toNat]
def k0_off247 (v1069 : BitVec 32) : Fin 3 → Nat :=
  let v1070 : Index := Scalar.indexCast v1069
  let c37_487 : Index := 37#32
  let c0_488 : Index := 0#32
  ![v1070.toNat, 37, 0]

def k0_off248 (v1069 : BitVec 32) : Fin 3 → Nat :=
  let v1076 : Index := Scalar.indexCast v1069
  let c0_490 : Index := 0#32
  ![v1076.toNat, 36, 0]

def k0_chk102 (v1069 : BitVec 32) : Prop :=
  (∀ a, (k0_off247 v1069) a + S1x1x512.size a ≤ S257x64x512.size a) ∧
  (∀ a, (k0_off248 v1069) a + S1x2x512.size a ≤ S257x64x512.size a) ∧
  (∀ (hinb : ∀ a, (k0_off248 v1069) a + S1x2x512.size a ≤ S257x64x512.size a), (Rect.unit (s := S257x64x512) (k0_off248 v1069) S1x2x512.size hinb).PackedRows (EltTy.packing .bf16))
theorem k0_off247_inb : ∀ (v1069 : BitVec 32) (k0_hw102 : k0_chk102 v1069), ∀ a, (k0_off247 v1069) a + S1x1x512.size a ≤ S257x64x512.size a := fun v1069 k0_hw102 => k0_hw102.1
theorem k0_off248_inb : ∀ (v1069 : BitVec 32) (k0_hw102 : k0_chk102 v1069), ∀ a, (k0_off248 v1069) a + S1x2x512.size a ≤ S257x64x512.size a := fun v1069 k0_hw102 => k0_hw102.2.1
theorem k0_off248_packedbf16 : ∀ (v1069 : BitVec 32) (k0_hw102 : k0_chk102 v1069), (Rect.unit (s := S257x64x512) (k0_off248 v1069) S1x2x512.size (k0_off248_inb v1069 k0_hw102)).PackedRows (EltTy.packing .bf16) := fun v1069 k0_hw102 => k0_hw102.2.2 (k0_off248_inb v1069 k0_hw102)

def k0_off249 (i : grid0.Coords) (k0_t1 : Fin k0_t1_loop.trips) : Fin 2 → Nat :=
  let c38_491 : Index := 38#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1080 : Index := Scalar.indexCast v28
  ![38, v1080.toNat]
def k0_off250 (v1081 : BitVec 32) : Fin 3 → Nat :=
  let v1082 : Index := Scalar.indexCast v1081
  let c38_492 : Index := 38#32
  let c0_493 : Index := 0#32
  ![v1082.toNat, 38, 0]

def k0_off251 (v1081 : BitVec 32) : Fin 3 → Nat :=
  let v1088 : Index := Scalar.indexCast v1081
  let c38_494 : Index := 38#32
  let c0_495 : Index := 0#32
  ![v1088.toNat, 38, 0]

def k0_chk103 (v1081 : BitVec 32) : Prop :=
  (∀ a, (k0_off250 v1081) a + S1x1x512.size a ≤ S257x64x512.size a) ∧
  (∀ a, (k0_off251 v1081) a + S1x2x512.size a ≤ S257x64x512.size a) ∧
  (∀ (hinb : ∀ a, (k0_off251 v1081) a + S1x2x512.size a ≤ S257x64x512.size a), (Rect.unit (s := S257x64x512) (k0_off251 v1081) S1x2x512.size hinb).PackedRows (EltTy.packing .bf16))
theorem k0_off250_inb : ∀ (v1081 : BitVec 32) (k0_hw103 : k0_chk103 v1081), ∀ a, (k0_off250 v1081) a + S1x1x512.size a ≤ S257x64x512.size a := fun v1081 k0_hw103 => k0_hw103.1
theorem k0_off251_inb : ∀ (v1081 : BitVec 32) (k0_hw103 : k0_chk103 v1081), ∀ a, (k0_off251 v1081) a + S1x2x512.size a ≤ S257x64x512.size a := fun v1081 k0_hw103 => k0_hw103.2.1
theorem k0_off251_packedbf16 : ∀ (v1081 : BitVec 32) (k0_hw103 : k0_chk103 v1081), (Rect.unit (s := S257x64x512) (k0_off251 v1081) S1x2x512.size (k0_off251_inb v1081 k0_hw103)).PackedRows (EltTy.packing .bf16) := fun v1081 k0_hw103 => k0_hw103.2.2 (k0_off251_inb v1081 k0_hw103)

def k0_off252 (i : grid0.Coords) (k0_t1 : Fin k0_t1_loop.trips) : Fin 2 → Nat :=
  let c39_496 : Index := 39#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1092 : Index := Scalar.indexCast v28
  ![39, v1092.toNat]
def k0_off253 (v1093 : BitVec 32) : Fin 3 → Nat :=
  let v1094 : Index := Scalar.indexCast v1093
  let c39_497 : Index := 39#32
  let c0_498 : Index := 0#32
  ![v1094.toNat, 39, 0]

def k0_off254 (v1093 : BitVec 32) : Fin 3 → Nat :=
  let v1100 : Index := Scalar.indexCast v1093
  let c0_500 : Index := 0#32
  ![v1100.toNat, 38, 0]

def k0_chk104 (v1093 : BitVec 32) : Prop :=
  (∀ a, (k0_off253 v1093) a + S1x1x512.size a ≤ S257x64x512.size a) ∧
  (∀ a, (k0_off254 v1093) a + S1x2x512.size a ≤ S257x64x512.size a) ∧
  (∀ (hinb : ∀ a, (k0_off254 v1093) a + S1x2x512.size a ≤ S257x64x512.size a), (Rect.unit (s := S257x64x512) (k0_off254 v1093) S1x2x512.size hinb).PackedRows (EltTy.packing .bf16))
theorem k0_off253_inb : ∀ (v1093 : BitVec 32) (k0_hw104 : k0_chk104 v1093), ∀ a, (k0_off253 v1093) a + S1x1x512.size a ≤ S257x64x512.size a := fun v1093 k0_hw104 => k0_hw104.1
theorem k0_off254_inb : ∀ (v1093 : BitVec 32) (k0_hw104 : k0_chk104 v1093), ∀ a, (k0_off254 v1093) a + S1x2x512.size a ≤ S257x64x512.size a := fun v1093 k0_hw104 => k0_hw104.2.1
theorem k0_off254_packedbf16 : ∀ (v1093 : BitVec 32) (k0_hw104 : k0_chk104 v1093), (Rect.unit (s := S257x64x512) (k0_off254 v1093) S1x2x512.size (k0_off254_inb v1093 k0_hw104)).PackedRows (EltTy.packing .bf16) := fun v1093 k0_hw104 => k0_hw104.2.2 (k0_off254_inb v1093 k0_hw104)

def k0_off255 (i : grid0.Coords) (k0_t1 : Fin k0_t1_loop.trips) : Fin 2 → Nat :=
  let c40_501 : Index := 40#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1104 : Index := Scalar.indexCast v28
  ![40, v1104.toNat]
def k0_off256 (v1105 : BitVec 32) : Fin 3 → Nat :=
  let v1106 : Index := Scalar.indexCast v1105
  let c40_502 : Index := 40#32
  let c0_503 : Index := 0#32
  ![v1106.toNat, 40, 0]

def k0_off257 (v1105 : BitVec 32) : Fin 3 → Nat :=
  let v1112 : Index := Scalar.indexCast v1105
  let c40_504 : Index := 40#32
  let c0_505 : Index := 0#32
  ![v1112.toNat, 40, 0]

def k0_chk105 (v1105 : BitVec 32) : Prop :=
  (∀ a, (k0_off256 v1105) a + S1x1x512.size a ≤ S257x64x512.size a) ∧
  (∀ a, (k0_off257 v1105) a + S1x2x512.size a ≤ S257x64x512.size a) ∧
  (∀ (hinb : ∀ a, (k0_off257 v1105) a + S1x2x512.size a ≤ S257x64x512.size a), (Rect.unit (s := S257x64x512) (k0_off257 v1105) S1x2x512.size hinb).PackedRows (EltTy.packing .bf16))
theorem k0_off256_inb : ∀ (v1105 : BitVec 32) (k0_hw105 : k0_chk105 v1105), ∀ a, (k0_off256 v1105) a + S1x1x512.size a ≤ S257x64x512.size a := fun v1105 k0_hw105 => k0_hw105.1
theorem k0_off257_inb : ∀ (v1105 : BitVec 32) (k0_hw105 : k0_chk105 v1105), ∀ a, (k0_off257 v1105) a + S1x2x512.size a ≤ S257x64x512.size a := fun v1105 k0_hw105 => k0_hw105.2.1
theorem k0_off257_packedbf16 : ∀ (v1105 : BitVec 32) (k0_hw105 : k0_chk105 v1105), (Rect.unit (s := S257x64x512) (k0_off257 v1105) S1x2x512.size (k0_off257_inb v1105 k0_hw105)).PackedRows (EltTy.packing .bf16) := fun v1105 k0_hw105 => k0_hw105.2.2 (k0_off257_inb v1105 k0_hw105)

def k0_off258 (i : grid0.Coords) (k0_t1 : Fin k0_t1_loop.trips) : Fin 2 → Nat :=
  let c41_506 : Index := 41#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1116 : Index := Scalar.indexCast v28
  ![41, v1116.toNat]
def k0_off259 (v1117 : BitVec 32) : Fin 3 → Nat :=
  let v1118 : Index := Scalar.indexCast v1117
  let c41_507 : Index := 41#32
  let c0_508 : Index := 0#32
  ![v1118.toNat, 41, 0]

def k0_off260 (v1117 : BitVec 32) : Fin 3 → Nat :=
  let v1124 : Index := Scalar.indexCast v1117
  let c0_510 : Index := 0#32
  ![v1124.toNat, 40, 0]

def k0_chk106 (v1117 : BitVec 32) : Prop :=
  (∀ a, (k0_off259 v1117) a + S1x1x512.size a ≤ S257x64x512.size a) ∧
  (∀ a, (k0_off260 v1117) a + S1x2x512.size a ≤ S257x64x512.size a) ∧
  (∀ (hinb : ∀ a, (k0_off260 v1117) a + S1x2x512.size a ≤ S257x64x512.size a), (Rect.unit (s := S257x64x512) (k0_off260 v1117) S1x2x512.size hinb).PackedRows (EltTy.packing .bf16))
theorem k0_off259_inb : ∀ (v1117 : BitVec 32) (k0_hw106 : k0_chk106 v1117), ∀ a, (k0_off259 v1117) a + S1x1x512.size a ≤ S257x64x512.size a := fun v1117 k0_hw106 => k0_hw106.1
theorem k0_off260_inb : ∀ (v1117 : BitVec 32) (k0_hw106 : k0_chk106 v1117), ∀ a, (k0_off260 v1117) a + S1x2x512.size a ≤ S257x64x512.size a := fun v1117 k0_hw106 => k0_hw106.2.1
theorem k0_off260_packedbf16 : ∀ (v1117 : BitVec 32) (k0_hw106 : k0_chk106 v1117), (Rect.unit (s := S257x64x512) (k0_off260 v1117) S1x2x512.size (k0_off260_inb v1117 k0_hw106)).PackedRows (EltTy.packing .bf16) := fun v1117 k0_hw106 => k0_hw106.2.2 (k0_off260_inb v1117 k0_hw106)

def k0_off261 (i : grid0.Coords) (k0_t1 : Fin k0_t1_loop.trips) : Fin 2 → Nat :=
  let c42_511 : Index := 42#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1128 : Index := Scalar.indexCast v28
  ![42, v1128.toNat]
def k0_off262 (v1129 : BitVec 32) : Fin 3 → Nat :=
  let v1130 : Index := Scalar.indexCast v1129
  let c42_512 : Index := 42#32
  let c0_513 : Index := 0#32
  ![v1130.toNat, 42, 0]

def k0_off263 (v1129 : BitVec 32) : Fin 3 → Nat :=
  let v1136 : Index := Scalar.indexCast v1129
  let c42_514 : Index := 42#32
  let c0_515 : Index := 0#32
  ![v1136.toNat, 42, 0]

def k0_chk107 (v1129 : BitVec 32) : Prop :=
  (∀ a, (k0_off262 v1129) a + S1x1x512.size a ≤ S257x64x512.size a) ∧
  (∀ a, (k0_off263 v1129) a + S1x2x512.size a ≤ S257x64x512.size a) ∧
  (∀ (hinb : ∀ a, (k0_off263 v1129) a + S1x2x512.size a ≤ S257x64x512.size a), (Rect.unit (s := S257x64x512) (k0_off263 v1129) S1x2x512.size hinb).PackedRows (EltTy.packing .bf16))
theorem k0_off262_inb : ∀ (v1129 : BitVec 32) (k0_hw107 : k0_chk107 v1129), ∀ a, (k0_off262 v1129) a + S1x1x512.size a ≤ S257x64x512.size a := fun v1129 k0_hw107 => k0_hw107.1
theorem k0_off263_inb : ∀ (v1129 : BitVec 32) (k0_hw107 : k0_chk107 v1129), ∀ a, (k0_off263 v1129) a + S1x2x512.size a ≤ S257x64x512.size a := fun v1129 k0_hw107 => k0_hw107.2.1
theorem k0_off263_packedbf16 : ∀ (v1129 : BitVec 32) (k0_hw107 : k0_chk107 v1129), (Rect.unit (s := S257x64x512) (k0_off263 v1129) S1x2x512.size (k0_off263_inb v1129 k0_hw107)).PackedRows (EltTy.packing .bf16) := fun v1129 k0_hw107 => k0_hw107.2.2 (k0_off263_inb v1129 k0_hw107)

def k0_off264 (i : grid0.Coords) (k0_t1 : Fin k0_t1_loop.trips) : Fin 2 → Nat :=
  let c43_516 : Index := 43#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1140 : Index := Scalar.indexCast v28
  ![43, v1140.toNat]
def k0_off265 (v1141 : BitVec 32) : Fin 3 → Nat :=
  let v1142 : Index := Scalar.indexCast v1141
  let c43_517 : Index := 43#32
  let c0_518 : Index := 0#32
  ![v1142.toNat, 43, 0]

def k0_off266 (v1141 : BitVec 32) : Fin 3 → Nat :=
  let v1148 : Index := Scalar.indexCast v1141
  let c0_520 : Index := 0#32
  ![v1148.toNat, 42, 0]

def k0_chk108 (v1141 : BitVec 32) : Prop :=
  (∀ a, (k0_off265 v1141) a + S1x1x512.size a ≤ S257x64x512.size a) ∧
  (∀ a, (k0_off266 v1141) a + S1x2x512.size a ≤ S257x64x512.size a) ∧
  (∀ (hinb : ∀ a, (k0_off266 v1141) a + S1x2x512.size a ≤ S257x64x512.size a), (Rect.unit (s := S257x64x512) (k0_off266 v1141) S1x2x512.size hinb).PackedRows (EltTy.packing .bf16))
theorem k0_off265_inb : ∀ (v1141 : BitVec 32) (k0_hw108 : k0_chk108 v1141), ∀ a, (k0_off265 v1141) a + S1x1x512.size a ≤ S257x64x512.size a := fun v1141 k0_hw108 => k0_hw108.1
theorem k0_off266_inb : ∀ (v1141 : BitVec 32) (k0_hw108 : k0_chk108 v1141), ∀ a, (k0_off266 v1141) a + S1x2x512.size a ≤ S257x64x512.size a := fun v1141 k0_hw108 => k0_hw108.2.1
theorem k0_off266_packedbf16 : ∀ (v1141 : BitVec 32) (k0_hw108 : k0_chk108 v1141), (Rect.unit (s := S257x64x512) (k0_off266 v1141) S1x2x512.size (k0_off266_inb v1141 k0_hw108)).PackedRows (EltTy.packing .bf16) := fun v1141 k0_hw108 => k0_hw108.2.2 (k0_off266_inb v1141 k0_hw108)

def k0_off267 (i : grid0.Coords) (k0_t1 : Fin k0_t1_loop.trips) : Fin 2 → Nat :=
  let c44_521 : Index := 44#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1152 : Index := Scalar.indexCast v28
  ![44, v1152.toNat]
def k0_off268 (v1153 : BitVec 32) : Fin 3 → Nat :=
  let v1154 : Index := Scalar.indexCast v1153
  let c44_522 : Index := 44#32
  let c0_523 : Index := 0#32
  ![v1154.toNat, 44, 0]

def k0_off269 (v1153 : BitVec 32) : Fin 3 → Nat :=
  let v1160 : Index := Scalar.indexCast v1153
  let c44_524 : Index := 44#32
  let c0_525 : Index := 0#32
  ![v1160.toNat, 44, 0]

def k0_chk109 (v1153 : BitVec 32) : Prop :=
  (∀ a, (k0_off268 v1153) a + S1x1x512.size a ≤ S257x64x512.size a) ∧
  (∀ a, (k0_off269 v1153) a + S1x2x512.size a ≤ S257x64x512.size a) ∧
  (∀ (hinb : ∀ a, (k0_off269 v1153) a + S1x2x512.size a ≤ S257x64x512.size a), (Rect.unit (s := S257x64x512) (k0_off269 v1153) S1x2x512.size hinb).PackedRows (EltTy.packing .bf16))
theorem k0_off268_inb : ∀ (v1153 : BitVec 32) (k0_hw109 : k0_chk109 v1153), ∀ a, (k0_off268 v1153) a + S1x1x512.size a ≤ S257x64x512.size a := fun v1153 k0_hw109 => k0_hw109.1
theorem k0_off269_inb : ∀ (v1153 : BitVec 32) (k0_hw109 : k0_chk109 v1153), ∀ a, (k0_off269 v1153) a + S1x2x512.size a ≤ S257x64x512.size a := fun v1153 k0_hw109 => k0_hw109.2.1
theorem k0_off269_packedbf16 : ∀ (v1153 : BitVec 32) (k0_hw109 : k0_chk109 v1153), (Rect.unit (s := S257x64x512) (k0_off269 v1153) S1x2x512.size (k0_off269_inb v1153 k0_hw109)).PackedRows (EltTy.packing .bf16) := fun v1153 k0_hw109 => k0_hw109.2.2 (k0_off269_inb v1153 k0_hw109)

def k0_off270 (i : grid0.Coords) (k0_t1 : Fin k0_t1_loop.trips) : Fin 2 → Nat :=
  let c45_526 : Index := 45#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1164 : Index := Scalar.indexCast v28
  ![45, v1164.toNat]
def k0_off271 (v1165 : BitVec 32) : Fin 3 → Nat :=
  let v1166 : Index := Scalar.indexCast v1165
  let c45_527 : Index := 45#32
  let c0_528 : Index := 0#32
  ![v1166.toNat, 45, 0]

def k0_off272 (v1165 : BitVec 32) : Fin 3 → Nat :=
  let v1172 : Index := Scalar.indexCast v1165
  let c0_530 : Index := 0#32
  ![v1172.toNat, 44, 0]

def k0_chk110 (v1165 : BitVec 32) : Prop :=
  (∀ a, (k0_off271 v1165) a + S1x1x512.size a ≤ S257x64x512.size a) ∧
  (∀ a, (k0_off272 v1165) a + S1x2x512.size a ≤ S257x64x512.size a) ∧
  (∀ (hinb : ∀ a, (k0_off272 v1165) a + S1x2x512.size a ≤ S257x64x512.size a), (Rect.unit (s := S257x64x512) (k0_off272 v1165) S1x2x512.size hinb).PackedRows (EltTy.packing .bf16))
theorem k0_off271_inb : ∀ (v1165 : BitVec 32) (k0_hw110 : k0_chk110 v1165), ∀ a, (k0_off271 v1165) a + S1x1x512.size a ≤ S257x64x512.size a := fun v1165 k0_hw110 => k0_hw110.1
theorem k0_off272_inb : ∀ (v1165 : BitVec 32) (k0_hw110 : k0_chk110 v1165), ∀ a, (k0_off272 v1165) a + S1x2x512.size a ≤ S257x64x512.size a := fun v1165 k0_hw110 => k0_hw110.2.1
theorem k0_off272_packedbf16 : ∀ (v1165 : BitVec 32) (k0_hw110 : k0_chk110 v1165), (Rect.unit (s := S257x64x512) (k0_off272 v1165) S1x2x512.size (k0_off272_inb v1165 k0_hw110)).PackedRows (EltTy.packing .bf16) := fun v1165 k0_hw110 => k0_hw110.2.2 (k0_off272_inb v1165 k0_hw110)

def k0_off273 (i : grid0.Coords) (k0_t1 : Fin k0_t1_loop.trips) : Fin 2 → Nat :=
  let c46_531 : Index := 46#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1176 : Index := Scalar.indexCast v28
  ![46, v1176.toNat]
def k0_off274 (v1177 : BitVec 32) : Fin 3 → Nat :=
  let v1178 : Index := Scalar.indexCast v1177
  let c46_532 : Index := 46#32
  let c0_533 : Index := 0#32
  ![v1178.toNat, 46, 0]

def k0_off275 (v1177 : BitVec 32) : Fin 3 → Nat :=
  let v1184 : Index := Scalar.indexCast v1177
  let c46_534 : Index := 46#32
  let c0_535 : Index := 0#32
  ![v1184.toNat, 46, 0]

def k0_chk111 (v1177 : BitVec 32) : Prop :=
  (∀ a, (k0_off274 v1177) a + S1x1x512.size a ≤ S257x64x512.size a) ∧
  (∀ a, (k0_off275 v1177) a + S1x2x512.size a ≤ S257x64x512.size a) ∧
  (∀ (hinb : ∀ a, (k0_off275 v1177) a + S1x2x512.size a ≤ S257x64x512.size a), (Rect.unit (s := S257x64x512) (k0_off275 v1177) S1x2x512.size hinb).PackedRows (EltTy.packing .bf16))
theorem k0_off274_inb : ∀ (v1177 : BitVec 32) (k0_hw111 : k0_chk111 v1177), ∀ a, (k0_off274 v1177) a + S1x1x512.size a ≤ S257x64x512.size a := fun v1177 k0_hw111 => k0_hw111.1
theorem k0_off275_inb : ∀ (v1177 : BitVec 32) (k0_hw111 : k0_chk111 v1177), ∀ a, (k0_off275 v1177) a + S1x2x512.size a ≤ S257x64x512.size a := fun v1177 k0_hw111 => k0_hw111.2.1
theorem k0_off275_packedbf16 : ∀ (v1177 : BitVec 32) (k0_hw111 : k0_chk111 v1177), (Rect.unit (s := S257x64x512) (k0_off275 v1177) S1x2x512.size (k0_off275_inb v1177 k0_hw111)).PackedRows (EltTy.packing .bf16) := fun v1177 k0_hw111 => k0_hw111.2.2 (k0_off275_inb v1177 k0_hw111)

def k0_off276 (i : grid0.Coords) (k0_t1 : Fin k0_t1_loop.trips) : Fin 2 → Nat :=
  let c47_536 : Index := 47#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1188 : Index := Scalar.indexCast v28
  ![47, v1188.toNat]
def k0_off277 (v1189 : BitVec 32) : Fin 3 → Nat :=
  let v1190 : Index := Scalar.indexCast v1189
  let c47_537 : Index := 47#32
  let c0_538 : Index := 0#32
  ![v1190.toNat, 47, 0]

def k0_off278 (v1189 : BitVec 32) : Fin 3 → Nat :=
  let v1196 : Index := Scalar.indexCast v1189
  let c0_540 : Index := 0#32
  ![v1196.toNat, 46, 0]

def k0_chk112 (v1189 : BitVec 32) : Prop :=
  (∀ a, (k0_off277 v1189) a + S1x1x512.size a ≤ S257x64x512.size a) ∧
  (∀ a, (k0_off278 v1189) a + S1x2x512.size a ≤ S257x64x512.size a) ∧
  (∀ (hinb : ∀ a, (k0_off278 v1189) a + S1x2x512.size a ≤ S257x64x512.size a), (Rect.unit (s := S257x64x512) (k0_off278 v1189) S1x2x512.size hinb).PackedRows (EltTy.packing .bf16))
theorem k0_off277_inb : ∀ (v1189 : BitVec 32) (k0_hw112 : k0_chk112 v1189), ∀ a, (k0_off277 v1189) a + S1x1x512.size a ≤ S257x64x512.size a := fun v1189 k0_hw112 => k0_hw112.1
theorem k0_off278_inb : ∀ (v1189 : BitVec 32) (k0_hw112 : k0_chk112 v1189), ∀ a, (k0_off278 v1189) a + S1x2x512.size a ≤ S257x64x512.size a := fun v1189 k0_hw112 => k0_hw112.2.1
theorem k0_off278_packedbf16 : ∀ (v1189 : BitVec 32) (k0_hw112 : k0_chk112 v1189), (Rect.unit (s := S257x64x512) (k0_off278 v1189) S1x2x512.size (k0_off278_inb v1189 k0_hw112)).PackedRows (EltTy.packing .bf16) := fun v1189 k0_hw112 => k0_hw112.2.2 (k0_off278_inb v1189 k0_hw112)

def k0_off279 (i : grid0.Coords) (k0_t1 : Fin k0_t1_loop.trips) : Fin 2 → Nat :=
  let c48_541 : Index := 48#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1200 : Index := Scalar.indexCast v28
  ![48, v1200.toNat]
def k0_off280 (v1201 : BitVec 32) : Fin 3 → Nat :=
  let v1202 : Index := Scalar.indexCast v1201
  let c48_542 : Index := 48#32
  let c0_543 : Index := 0#32
  ![v1202.toNat, 48, 0]

def k0_off281 (v1201 : BitVec 32) : Fin 3 → Nat :=
  let v1208 : Index := Scalar.indexCast v1201
  let c48_544 : Index := 48#32
  let c0_545 : Index := 0#32
  ![v1208.toNat, 48, 0]

def k0_chk113 (v1201 : BitVec 32) : Prop :=
  (∀ a, (k0_off280 v1201) a + S1x1x512.size a ≤ S257x64x512.size a) ∧
  (∀ a, (k0_off281 v1201) a + S1x2x512.size a ≤ S257x64x512.size a) ∧
  (∀ (hinb : ∀ a, (k0_off281 v1201) a + S1x2x512.size a ≤ S257x64x512.size a), (Rect.unit (s := S257x64x512) (k0_off281 v1201) S1x2x512.size hinb).PackedRows (EltTy.packing .bf16))
theorem k0_off280_inb : ∀ (v1201 : BitVec 32) (k0_hw113 : k0_chk113 v1201), ∀ a, (k0_off280 v1201) a + S1x1x512.size a ≤ S257x64x512.size a := fun v1201 k0_hw113 => k0_hw113.1
theorem k0_off281_inb : ∀ (v1201 : BitVec 32) (k0_hw113 : k0_chk113 v1201), ∀ a, (k0_off281 v1201) a + S1x2x512.size a ≤ S257x64x512.size a := fun v1201 k0_hw113 => k0_hw113.2.1
theorem k0_off281_packedbf16 : ∀ (v1201 : BitVec 32) (k0_hw113 : k0_chk113 v1201), (Rect.unit (s := S257x64x512) (k0_off281 v1201) S1x2x512.size (k0_off281_inb v1201 k0_hw113)).PackedRows (EltTy.packing .bf16) := fun v1201 k0_hw113 => k0_hw113.2.2 (k0_off281_inb v1201 k0_hw113)

def k0_off282 (i : grid0.Coords) (k0_t1 : Fin k0_t1_loop.trips) : Fin 2 → Nat :=
  let c49_546 : Index := 49#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1212 : Index := Scalar.indexCast v28
  ![49, v1212.toNat]
def k0_off283 (v1213 : BitVec 32) : Fin 3 → Nat :=
  let v1214 : Index := Scalar.indexCast v1213
  let c49_547 : Index := 49#32
  let c0_548 : Index := 0#32
  ![v1214.toNat, 49, 0]

def k0_off284 (v1213 : BitVec 32) : Fin 3 → Nat :=
  let v1220 : Index := Scalar.indexCast v1213
  let c0_550 : Index := 0#32
  ![v1220.toNat, 48, 0]

def k0_chk114 (v1213 : BitVec 32) : Prop :=
  (∀ a, (k0_off283 v1213) a + S1x1x512.size a ≤ S257x64x512.size a) ∧
  (∀ a, (k0_off284 v1213) a + S1x2x512.size a ≤ S257x64x512.size a) ∧
  (∀ (hinb : ∀ a, (k0_off284 v1213) a + S1x2x512.size a ≤ S257x64x512.size a), (Rect.unit (s := S257x64x512) (k0_off284 v1213) S1x2x512.size hinb).PackedRows (EltTy.packing .bf16))
theorem k0_off283_inb : ∀ (v1213 : BitVec 32) (k0_hw114 : k0_chk114 v1213), ∀ a, (k0_off283 v1213) a + S1x1x512.size a ≤ S257x64x512.size a := fun v1213 k0_hw114 => k0_hw114.1
theorem k0_off284_inb : ∀ (v1213 : BitVec 32) (k0_hw114 : k0_chk114 v1213), ∀ a, (k0_off284 v1213) a + S1x2x512.size a ≤ S257x64x512.size a := fun v1213 k0_hw114 => k0_hw114.2.1
theorem k0_off284_packedbf16 : ∀ (v1213 : BitVec 32) (k0_hw114 : k0_chk114 v1213), (Rect.unit (s := S257x64x512) (k0_off284 v1213) S1x2x512.size (k0_off284_inb v1213 k0_hw114)).PackedRows (EltTy.packing .bf16) := fun v1213 k0_hw114 => k0_hw114.2.2 (k0_off284_inb v1213 k0_hw114)

def k0_off285 (i : grid0.Coords) (k0_t1 : Fin k0_t1_loop.trips) : Fin 2 → Nat :=
  let c50_551 : Index := 50#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1224 : Index := Scalar.indexCast v28
  ![50, v1224.toNat]
def k0_off286 (v1225 : BitVec 32) : Fin 3 → Nat :=
  let v1226 : Index := Scalar.indexCast v1225
  let c50_552 : Index := 50#32
  let c0_553 : Index := 0#32
  ![v1226.toNat, 50, 0]

def k0_off287 (v1225 : BitVec 32) : Fin 3 → Nat :=
  let v1232 : Index := Scalar.indexCast v1225
  let c50_554 : Index := 50#32
  let c0_555 : Index := 0#32
  ![v1232.toNat, 50, 0]

def k0_chk115 (v1225 : BitVec 32) : Prop :=
  (∀ a, (k0_off286 v1225) a + S1x1x512.size a ≤ S257x64x512.size a) ∧
  (∀ a, (k0_off287 v1225) a + S1x2x512.size a ≤ S257x64x512.size a) ∧
  (∀ (hinb : ∀ a, (k0_off287 v1225) a + S1x2x512.size a ≤ S257x64x512.size a), (Rect.unit (s := S257x64x512) (k0_off287 v1225) S1x2x512.size hinb).PackedRows (EltTy.packing .bf16))
theorem k0_off286_inb : ∀ (v1225 : BitVec 32) (k0_hw115 : k0_chk115 v1225), ∀ a, (k0_off286 v1225) a + S1x1x512.size a ≤ S257x64x512.size a := fun v1225 k0_hw115 => k0_hw115.1
theorem k0_off287_inb : ∀ (v1225 : BitVec 32) (k0_hw115 : k0_chk115 v1225), ∀ a, (k0_off287 v1225) a + S1x2x512.size a ≤ S257x64x512.size a := fun v1225 k0_hw115 => k0_hw115.2.1
theorem k0_off287_packedbf16 : ∀ (v1225 : BitVec 32) (k0_hw115 : k0_chk115 v1225), (Rect.unit (s := S257x64x512) (k0_off287 v1225) S1x2x512.size (k0_off287_inb v1225 k0_hw115)).PackedRows (EltTy.packing .bf16) := fun v1225 k0_hw115 => k0_hw115.2.2 (k0_off287_inb v1225 k0_hw115)

def k0_off288 (i : grid0.Coords) (k0_t1 : Fin k0_t1_loop.trips) : Fin 2 → Nat :=
  let c51_556 : Index := 51#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1236 : Index := Scalar.indexCast v28
  ![51, v1236.toNat]
def k0_off289 (v1237 : BitVec 32) : Fin 3 → Nat :=
  let v1238 : Index := Scalar.indexCast v1237
  let c51_557 : Index := 51#32
  let c0_558 : Index := 0#32
  ![v1238.toNat, 51, 0]

def k0_off290 (v1237 : BitVec 32) : Fin 3 → Nat :=
  let v1244 : Index := Scalar.indexCast v1237
  let c0_560 : Index := 0#32
  ![v1244.toNat, 50, 0]

def k0_chk116 (v1237 : BitVec 32) : Prop :=
  (∀ a, (k0_off289 v1237) a + S1x1x512.size a ≤ S257x64x512.size a) ∧
  (∀ a, (k0_off290 v1237) a + S1x2x512.size a ≤ S257x64x512.size a) ∧
  (∀ (hinb : ∀ a, (k0_off290 v1237) a + S1x2x512.size a ≤ S257x64x512.size a), (Rect.unit (s := S257x64x512) (k0_off290 v1237) S1x2x512.size hinb).PackedRows (EltTy.packing .bf16))
theorem k0_off289_inb : ∀ (v1237 : BitVec 32) (k0_hw116 : k0_chk116 v1237), ∀ a, (k0_off289 v1237) a + S1x1x512.size a ≤ S257x64x512.size a := fun v1237 k0_hw116 => k0_hw116.1
theorem k0_off290_inb : ∀ (v1237 : BitVec 32) (k0_hw116 : k0_chk116 v1237), ∀ a, (k0_off290 v1237) a + S1x2x512.size a ≤ S257x64x512.size a := fun v1237 k0_hw116 => k0_hw116.2.1
theorem k0_off290_packedbf16 : ∀ (v1237 : BitVec 32) (k0_hw116 : k0_chk116 v1237), (Rect.unit (s := S257x64x512) (k0_off290 v1237) S1x2x512.size (k0_off290_inb v1237 k0_hw116)).PackedRows (EltTy.packing .bf16) := fun v1237 k0_hw116 => k0_hw116.2.2 (k0_off290_inb v1237 k0_hw116)

def k0_off291 (i : grid0.Coords) (k0_t1 : Fin k0_t1_loop.trips) : Fin 2 → Nat :=
  let c52_561 : Index := 52#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1248 : Index := Scalar.indexCast v28
  ![52, v1248.toNat]
def k0_off292 (v1249 : BitVec 32) : Fin 3 → Nat :=
  let v1250 : Index := Scalar.indexCast v1249
  let c52_562 : Index := 52#32
  let c0_563 : Index := 0#32
  ![v1250.toNat, 52, 0]

def k0_off293 (v1249 : BitVec 32) : Fin 3 → Nat :=
  let v1256 : Index := Scalar.indexCast v1249
  let c52_564 : Index := 52#32
  let c0_565 : Index := 0#32
  ![v1256.toNat, 52, 0]

def k0_chk117 (v1249 : BitVec 32) : Prop :=
  (∀ a, (k0_off292 v1249) a + S1x1x512.size a ≤ S257x64x512.size a) ∧
  (∀ a, (k0_off293 v1249) a + S1x2x512.size a ≤ S257x64x512.size a) ∧
  (∀ (hinb : ∀ a, (k0_off293 v1249) a + S1x2x512.size a ≤ S257x64x512.size a), (Rect.unit (s := S257x64x512) (k0_off293 v1249) S1x2x512.size hinb).PackedRows (EltTy.packing .bf16))
theorem k0_off292_inb : ∀ (v1249 : BitVec 32) (k0_hw117 : k0_chk117 v1249), ∀ a, (k0_off292 v1249) a + S1x1x512.size a ≤ S257x64x512.size a := fun v1249 k0_hw117 => k0_hw117.1
theorem k0_off293_inb : ∀ (v1249 : BitVec 32) (k0_hw117 : k0_chk117 v1249), ∀ a, (k0_off293 v1249) a + S1x2x512.size a ≤ S257x64x512.size a := fun v1249 k0_hw117 => k0_hw117.2.1
theorem k0_off293_packedbf16 : ∀ (v1249 : BitVec 32) (k0_hw117 : k0_chk117 v1249), (Rect.unit (s := S257x64x512) (k0_off293 v1249) S1x2x512.size (k0_off293_inb v1249 k0_hw117)).PackedRows (EltTy.packing .bf16) := fun v1249 k0_hw117 => k0_hw117.2.2 (k0_off293_inb v1249 k0_hw117)

def k0_off294 (i : grid0.Coords) (k0_t1 : Fin k0_t1_loop.trips) : Fin 2 → Nat :=
  let c53_566 : Index := 53#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1260 : Index := Scalar.indexCast v28
  ![53, v1260.toNat]
def k0_off295 (v1261 : BitVec 32) : Fin 3 → Nat :=
  let v1262 : Index := Scalar.indexCast v1261
  let c53_567 : Index := 53#32
  let c0_568 : Index := 0#32
  ![v1262.toNat, 53, 0]

def k0_off296 (v1261 : BitVec 32) : Fin 3 → Nat :=
  let v1268 : Index := Scalar.indexCast v1261
  let c0_570 : Index := 0#32
  ![v1268.toNat, 52, 0]

def k0_chk118 (v1261 : BitVec 32) : Prop :=
  (∀ a, (k0_off295 v1261) a + S1x1x512.size a ≤ S257x64x512.size a) ∧
  (∀ a, (k0_off296 v1261) a + S1x2x512.size a ≤ S257x64x512.size a) ∧
  (∀ (hinb : ∀ a, (k0_off296 v1261) a + S1x2x512.size a ≤ S257x64x512.size a), (Rect.unit (s := S257x64x512) (k0_off296 v1261) S1x2x512.size hinb).PackedRows (EltTy.packing .bf16))
theorem k0_off295_inb : ∀ (v1261 : BitVec 32) (k0_hw118 : k0_chk118 v1261), ∀ a, (k0_off295 v1261) a + S1x1x512.size a ≤ S257x64x512.size a := fun v1261 k0_hw118 => k0_hw118.1
theorem k0_off296_inb : ∀ (v1261 : BitVec 32) (k0_hw118 : k0_chk118 v1261), ∀ a, (k0_off296 v1261) a + S1x2x512.size a ≤ S257x64x512.size a := fun v1261 k0_hw118 => k0_hw118.2.1
theorem k0_off296_packedbf16 : ∀ (v1261 : BitVec 32) (k0_hw118 : k0_chk118 v1261), (Rect.unit (s := S257x64x512) (k0_off296 v1261) S1x2x512.size (k0_off296_inb v1261 k0_hw118)).PackedRows (EltTy.packing .bf16) := fun v1261 k0_hw118 => k0_hw118.2.2 (k0_off296_inb v1261 k0_hw118)

def k0_off297 (i : grid0.Coords) (k0_t1 : Fin k0_t1_loop.trips) : Fin 2 → Nat :=
  let c54_571 : Index := 54#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1272 : Index := Scalar.indexCast v28
  ![54, v1272.toNat]
def k0_off298 (v1273 : BitVec 32) : Fin 3 → Nat :=
  let v1274 : Index := Scalar.indexCast v1273
  let c54_572 : Index := 54#32
  let c0_573 : Index := 0#32
  ![v1274.toNat, 54, 0]

def k0_off299 (v1273 : BitVec 32) : Fin 3 → Nat :=
  let v1280 : Index := Scalar.indexCast v1273
  let c54_574 : Index := 54#32
  let c0_575 : Index := 0#32
  ![v1280.toNat, 54, 0]

def k0_chk119 (v1273 : BitVec 32) : Prop :=
  (∀ a, (k0_off298 v1273) a + S1x1x512.size a ≤ S257x64x512.size a) ∧
  (∀ a, (k0_off299 v1273) a + S1x2x512.size a ≤ S257x64x512.size a) ∧
  (∀ (hinb : ∀ a, (k0_off299 v1273) a + S1x2x512.size a ≤ S257x64x512.size a), (Rect.unit (s := S257x64x512) (k0_off299 v1273) S1x2x512.size hinb).PackedRows (EltTy.packing .bf16))
theorem k0_off298_inb : ∀ (v1273 : BitVec 32) (k0_hw119 : k0_chk119 v1273), ∀ a, (k0_off298 v1273) a + S1x1x512.size a ≤ S257x64x512.size a := fun v1273 k0_hw119 => k0_hw119.1
theorem k0_off299_inb : ∀ (v1273 : BitVec 32) (k0_hw119 : k0_chk119 v1273), ∀ a, (k0_off299 v1273) a + S1x2x512.size a ≤ S257x64x512.size a := fun v1273 k0_hw119 => k0_hw119.2.1
theorem k0_off299_packedbf16 : ∀ (v1273 : BitVec 32) (k0_hw119 : k0_chk119 v1273), (Rect.unit (s := S257x64x512) (k0_off299 v1273) S1x2x512.size (k0_off299_inb v1273 k0_hw119)).PackedRows (EltTy.packing .bf16) := fun v1273 k0_hw119 => k0_hw119.2.2 (k0_off299_inb v1273 k0_hw119)

def k0_off300 (i : grid0.Coords) (k0_t1 : Fin k0_t1_loop.trips) : Fin 2 → Nat :=
  let c55_576 : Index := 55#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1284 : Index := Scalar.indexCast v28
  ![55, v1284.toNat]
def k0_off301 (v1285 : BitVec 32) : Fin 3 → Nat :=
  let v1286 : Index := Scalar.indexCast v1285
  let c55_577 : Index := 55#32
  let c0_578 : Index := 0#32
  ![v1286.toNat, 55, 0]

def k0_off302 (v1285 : BitVec 32) : Fin 3 → Nat :=
  let v1292 : Index := Scalar.indexCast v1285
  let c0_580 : Index := 0#32
  ![v1292.toNat, 54, 0]

def k0_chk120 (v1285 : BitVec 32) : Prop :=
  (∀ a, (k0_off301 v1285) a + S1x1x512.size a ≤ S257x64x512.size a) ∧
  (∀ a, (k0_off302 v1285) a + S1x2x512.size a ≤ S257x64x512.size a) ∧
  (∀ (hinb : ∀ a, (k0_off302 v1285) a + S1x2x512.size a ≤ S257x64x512.size a), (Rect.unit (s := S257x64x512) (k0_off302 v1285) S1x2x512.size hinb).PackedRows (EltTy.packing .bf16))
theorem k0_off301_inb : ∀ (v1285 : BitVec 32) (k0_hw120 : k0_chk120 v1285), ∀ a, (k0_off301 v1285) a + S1x1x512.size a ≤ S257x64x512.size a := fun v1285 k0_hw120 => k0_hw120.1
theorem k0_off302_inb : ∀ (v1285 : BitVec 32) (k0_hw120 : k0_chk120 v1285), ∀ a, (k0_off302 v1285) a + S1x2x512.size a ≤ S257x64x512.size a := fun v1285 k0_hw120 => k0_hw120.2.1
theorem k0_off302_packedbf16 : ∀ (v1285 : BitVec 32) (k0_hw120 : k0_chk120 v1285), (Rect.unit (s := S257x64x512) (k0_off302 v1285) S1x2x512.size (k0_off302_inb v1285 k0_hw120)).PackedRows (EltTy.packing .bf16) := fun v1285 k0_hw120 => k0_hw120.2.2 (k0_off302_inb v1285 k0_hw120)

def k0_off303 (i : grid0.Coords) (k0_t1 : Fin k0_t1_loop.trips) : Fin 2 → Nat :=
  let c56_581 : Index := 56#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1296 : Index := Scalar.indexCast v28
  ![56, v1296.toNat]
def k0_off304 (v1297 : BitVec 32) : Fin 3 → Nat :=
  let v1298 : Index := Scalar.indexCast v1297
  let c56_582 : Index := 56#32
  let c0_583 : Index := 0#32
  ![v1298.toNat, 56, 0]

def k0_off305 (v1297 : BitVec 32) : Fin 3 → Nat :=
  let v1304 : Index := Scalar.indexCast v1297
  let c56_584 : Index := 56#32
  let c0_585 : Index := 0#32
  ![v1304.toNat, 56, 0]

def k0_chk121 (v1297 : BitVec 32) : Prop :=
  (∀ a, (k0_off304 v1297) a + S1x1x512.size a ≤ S257x64x512.size a) ∧
  (∀ a, (k0_off305 v1297) a + S1x2x512.size a ≤ S257x64x512.size a) ∧
  (∀ (hinb : ∀ a, (k0_off305 v1297) a + S1x2x512.size a ≤ S257x64x512.size a), (Rect.unit (s := S257x64x512) (k0_off305 v1297) S1x2x512.size hinb).PackedRows (EltTy.packing .bf16))
theorem k0_off304_inb : ∀ (v1297 : BitVec 32) (k0_hw121 : k0_chk121 v1297), ∀ a, (k0_off304 v1297) a + S1x1x512.size a ≤ S257x64x512.size a := fun v1297 k0_hw121 => k0_hw121.1
theorem k0_off305_inb : ∀ (v1297 : BitVec 32) (k0_hw121 : k0_chk121 v1297), ∀ a, (k0_off305 v1297) a + S1x2x512.size a ≤ S257x64x512.size a := fun v1297 k0_hw121 => k0_hw121.2.1
theorem k0_off305_packedbf16 : ∀ (v1297 : BitVec 32) (k0_hw121 : k0_chk121 v1297), (Rect.unit (s := S257x64x512) (k0_off305 v1297) S1x2x512.size (k0_off305_inb v1297 k0_hw121)).PackedRows (EltTy.packing .bf16) := fun v1297 k0_hw121 => k0_hw121.2.2 (k0_off305_inb v1297 k0_hw121)

def k0_off306 (i : grid0.Coords) (k0_t1 : Fin k0_t1_loop.trips) : Fin 2 → Nat :=
  let c57_586 : Index := 57#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1308 : Index := Scalar.indexCast v28
  ![57, v1308.toNat]
def k0_off307 (v1309 : BitVec 32) : Fin 3 → Nat :=
  let v1310 : Index := Scalar.indexCast v1309
  let c57_587 : Index := 57#32
  let c0_588 : Index := 0#32
  ![v1310.toNat, 57, 0]

def k0_off308 (v1309 : BitVec 32) : Fin 3 → Nat :=
  let v1316 : Index := Scalar.indexCast v1309
  let c0_590 : Index := 0#32
  ![v1316.toNat, 56, 0]

def k0_chk122 (v1309 : BitVec 32) : Prop :=
  (∀ a, (k0_off307 v1309) a + S1x1x512.size a ≤ S257x64x512.size a) ∧
  (∀ a, (k0_off308 v1309) a + S1x2x512.size a ≤ S257x64x512.size a) ∧
  (∀ (hinb : ∀ a, (k0_off308 v1309) a + S1x2x512.size a ≤ S257x64x512.size a), (Rect.unit (s := S257x64x512) (k0_off308 v1309) S1x2x512.size hinb).PackedRows (EltTy.packing .bf16))
theorem k0_off307_inb : ∀ (v1309 : BitVec 32) (k0_hw122 : k0_chk122 v1309), ∀ a, (k0_off307 v1309) a + S1x1x512.size a ≤ S257x64x512.size a := fun v1309 k0_hw122 => k0_hw122.1
theorem k0_off308_inb : ∀ (v1309 : BitVec 32) (k0_hw122 : k0_chk122 v1309), ∀ a, (k0_off308 v1309) a + S1x2x512.size a ≤ S257x64x512.size a := fun v1309 k0_hw122 => k0_hw122.2.1
theorem k0_off308_packedbf16 : ∀ (v1309 : BitVec 32) (k0_hw122 : k0_chk122 v1309), (Rect.unit (s := S257x64x512) (k0_off308 v1309) S1x2x512.size (k0_off308_inb v1309 k0_hw122)).PackedRows (EltTy.packing .bf16) := fun v1309 k0_hw122 => k0_hw122.2.2 (k0_off308_inb v1309 k0_hw122)

def k0_off309 (i : grid0.Coords) (k0_t1 : Fin k0_t1_loop.trips) : Fin 2 → Nat :=
  let c58_591 : Index := 58#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1320 : Index := Scalar.indexCast v28
  ![58, v1320.toNat]
def k0_off310 (v1321 : BitVec 32) : Fin 3 → Nat :=
  let v1322 : Index := Scalar.indexCast v1321
  let c58_592 : Index := 58#32
  let c0_593 : Index := 0#32
  ![v1322.toNat, 58, 0]

def k0_off311 (v1321 : BitVec 32) : Fin 3 → Nat :=
  let v1328 : Index := Scalar.indexCast v1321
  let c58_594 : Index := 58#32
  let c0_595 : Index := 0#32
  ![v1328.toNat, 58, 0]

def k0_chk123 (v1321 : BitVec 32) : Prop :=
  (∀ a, (k0_off310 v1321) a + S1x1x512.size a ≤ S257x64x512.size a) ∧
  (∀ a, (k0_off311 v1321) a + S1x2x512.size a ≤ S257x64x512.size a) ∧
  (∀ (hinb : ∀ a, (k0_off311 v1321) a + S1x2x512.size a ≤ S257x64x512.size a), (Rect.unit (s := S257x64x512) (k0_off311 v1321) S1x2x512.size hinb).PackedRows (EltTy.packing .bf16))
theorem k0_off310_inb : ∀ (v1321 : BitVec 32) (k0_hw123 : k0_chk123 v1321), ∀ a, (k0_off310 v1321) a + S1x1x512.size a ≤ S257x64x512.size a := fun v1321 k0_hw123 => k0_hw123.1
theorem k0_off311_inb : ∀ (v1321 : BitVec 32) (k0_hw123 : k0_chk123 v1321), ∀ a, (k0_off311 v1321) a + S1x2x512.size a ≤ S257x64x512.size a := fun v1321 k0_hw123 => k0_hw123.2.1
theorem k0_off311_packedbf16 : ∀ (v1321 : BitVec 32) (k0_hw123 : k0_chk123 v1321), (Rect.unit (s := S257x64x512) (k0_off311 v1321) S1x2x512.size (k0_off311_inb v1321 k0_hw123)).PackedRows (EltTy.packing .bf16) := fun v1321 k0_hw123 => k0_hw123.2.2 (k0_off311_inb v1321 k0_hw123)

def k0_off312 (i : grid0.Coords) (k0_t1 : Fin k0_t1_loop.trips) : Fin 2 → Nat :=
  let c59_596 : Index := 59#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1332 : Index := Scalar.indexCast v28
  ![59, v1332.toNat]
def k0_off313 (v1333 : BitVec 32) : Fin 3 → Nat :=
  let v1334 : Index := Scalar.indexCast v1333
  let c59_597 : Index := 59#32
  let c0_598 : Index := 0#32
  ![v1334.toNat, 59, 0]

def k0_off314 (v1333 : BitVec 32) : Fin 3 → Nat :=
  let v1340 : Index := Scalar.indexCast v1333
  let c0_600 : Index := 0#32
  ![v1340.toNat, 58, 0]

def k0_chk124 (v1333 : BitVec 32) : Prop :=
  (∀ a, (k0_off313 v1333) a + S1x1x512.size a ≤ S257x64x512.size a) ∧
  (∀ a, (k0_off314 v1333) a + S1x2x512.size a ≤ S257x64x512.size a) ∧
  (∀ (hinb : ∀ a, (k0_off314 v1333) a + S1x2x512.size a ≤ S257x64x512.size a), (Rect.unit (s := S257x64x512) (k0_off314 v1333) S1x2x512.size hinb).PackedRows (EltTy.packing .bf16))
theorem k0_off313_inb : ∀ (v1333 : BitVec 32) (k0_hw124 : k0_chk124 v1333), ∀ a, (k0_off313 v1333) a + S1x1x512.size a ≤ S257x64x512.size a := fun v1333 k0_hw124 => k0_hw124.1
theorem k0_off314_inb : ∀ (v1333 : BitVec 32) (k0_hw124 : k0_chk124 v1333), ∀ a, (k0_off314 v1333) a + S1x2x512.size a ≤ S257x64x512.size a := fun v1333 k0_hw124 => k0_hw124.2.1
theorem k0_off314_packedbf16 : ∀ (v1333 : BitVec 32) (k0_hw124 : k0_chk124 v1333), (Rect.unit (s := S257x64x512) (k0_off314 v1333) S1x2x512.size (k0_off314_inb v1333 k0_hw124)).PackedRows (EltTy.packing .bf16) := fun v1333 k0_hw124 => k0_hw124.2.2 (k0_off314_inb v1333 k0_hw124)

def k0_off315 (i : grid0.Coords) (k0_t1 : Fin k0_t1_loop.trips) : Fin 2 → Nat :=
  let c60_601 : Index := 60#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1344 : Index := Scalar.indexCast v28
  ![60, v1344.toNat]
def k0_off316 (v1345 : BitVec 32) : Fin 3 → Nat :=
  let v1346 : Index := Scalar.indexCast v1345
  let c60_602 : Index := 60#32
  let c0_603 : Index := 0#32
  ![v1346.toNat, 60, 0]

def k0_off317 (v1345 : BitVec 32) : Fin 3 → Nat :=
  let v1352 : Index := Scalar.indexCast v1345
  let c60_604 : Index := 60#32
  let c0_605 : Index := 0#32
  ![v1352.toNat, 60, 0]

def k0_chk125 (v1345 : BitVec 32) : Prop :=
  (∀ a, (k0_off316 v1345) a + S1x1x512.size a ≤ S257x64x512.size a) ∧
  (∀ a, (k0_off317 v1345) a + S1x2x512.size a ≤ S257x64x512.size a) ∧
  (∀ (hinb : ∀ a, (k0_off317 v1345) a + S1x2x512.size a ≤ S257x64x512.size a), (Rect.unit (s := S257x64x512) (k0_off317 v1345) S1x2x512.size hinb).PackedRows (EltTy.packing .bf16))
theorem k0_off316_inb : ∀ (v1345 : BitVec 32) (k0_hw125 : k0_chk125 v1345), ∀ a, (k0_off316 v1345) a + S1x1x512.size a ≤ S257x64x512.size a := fun v1345 k0_hw125 => k0_hw125.1
theorem k0_off317_inb : ∀ (v1345 : BitVec 32) (k0_hw125 : k0_chk125 v1345), ∀ a, (k0_off317 v1345) a + S1x2x512.size a ≤ S257x64x512.size a := fun v1345 k0_hw125 => k0_hw125.2.1
theorem k0_off317_packedbf16 : ∀ (v1345 : BitVec 32) (k0_hw125 : k0_chk125 v1345), (Rect.unit (s := S257x64x512) (k0_off317 v1345) S1x2x512.size (k0_off317_inb v1345 k0_hw125)).PackedRows (EltTy.packing .bf16) := fun v1345 k0_hw125 => k0_hw125.2.2 (k0_off317_inb v1345 k0_hw125)

def k0_off318 (i : grid0.Coords) (k0_t1 : Fin k0_t1_loop.trips) : Fin 2 → Nat :=
  let c61_606 : Index := 61#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1356 : Index := Scalar.indexCast v28
  ![61, v1356.toNat]
def k0_off319 (v1357 : BitVec 32) : Fin 3 → Nat :=
  let v1358 : Index := Scalar.indexCast v1357
  let c61_607 : Index := 61#32
  let c0_608 : Index := 0#32
  ![v1358.toNat, 61, 0]

def k0_off320 (v1357 : BitVec 32) : Fin 3 → Nat :=
  let v1364 : Index := Scalar.indexCast v1357
  let c0_610 : Index := 0#32
  ![v1364.toNat, 60, 0]

def k0_chk126 (v1357 : BitVec 32) : Prop :=
  (∀ a, (k0_off319 v1357) a + S1x1x512.size a ≤ S257x64x512.size a) ∧
  (∀ a, (k0_off320 v1357) a + S1x2x512.size a ≤ S257x64x512.size a) ∧
  (∀ (hinb : ∀ a, (k0_off320 v1357) a + S1x2x512.size a ≤ S257x64x512.size a), (Rect.unit (s := S257x64x512) (k0_off320 v1357) S1x2x512.size hinb).PackedRows (EltTy.packing .bf16))
theorem k0_off319_inb : ∀ (v1357 : BitVec 32) (k0_hw126 : k0_chk126 v1357), ∀ a, (k0_off319 v1357) a + S1x1x512.size a ≤ S257x64x512.size a := fun v1357 k0_hw126 => k0_hw126.1
theorem k0_off320_inb : ∀ (v1357 : BitVec 32) (k0_hw126 : k0_chk126 v1357), ∀ a, (k0_off320 v1357) a + S1x2x512.size a ≤ S257x64x512.size a := fun v1357 k0_hw126 => k0_hw126.2.1
theorem k0_off320_packedbf16 : ∀ (v1357 : BitVec 32) (k0_hw126 : k0_chk126 v1357), (Rect.unit (s := S257x64x512) (k0_off320 v1357) S1x2x512.size (k0_off320_inb v1357 k0_hw126)).PackedRows (EltTy.packing .bf16) := fun v1357 k0_hw126 => k0_hw126.2.2 (k0_off320_inb v1357 k0_hw126)

def k0_off321 (i : grid0.Coords) (k0_t1 : Fin k0_t1_loop.trips) : Fin 2 → Nat :=
  let c62_611 : Index := 62#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1368 : Index := Scalar.indexCast v28
  ![62, v1368.toNat]
def k0_off322 (v1369 : BitVec 32) : Fin 3 → Nat :=
  let v1370 : Index := Scalar.indexCast v1369
  let c62_612 : Index := 62#32
  let c0_613 : Index := 0#32
  ![v1370.toNat, 62, 0]

def k0_off323 (v1369 : BitVec 32) : Fin 3 → Nat :=
  let v1376 : Index := Scalar.indexCast v1369
  let c62_614 : Index := 62#32
  let c0_615 : Index := 0#32
  ![v1376.toNat, 62, 0]

def k0_chk127 (v1369 : BitVec 32) : Prop :=
  (∀ a, (k0_off322 v1369) a + S1x1x512.size a ≤ S257x64x512.size a) ∧
  (∀ a, (k0_off323 v1369) a + S1x2x512.size a ≤ S257x64x512.size a) ∧
  (∀ (hinb : ∀ a, (k0_off323 v1369) a + S1x2x512.size a ≤ S257x64x512.size a), (Rect.unit (s := S257x64x512) (k0_off323 v1369) S1x2x512.size hinb).PackedRows (EltTy.packing .bf16))
theorem k0_off322_inb : ∀ (v1369 : BitVec 32) (k0_hw127 : k0_chk127 v1369), ∀ a, (k0_off322 v1369) a + S1x1x512.size a ≤ S257x64x512.size a := fun v1369 k0_hw127 => k0_hw127.1
theorem k0_off323_inb : ∀ (v1369 : BitVec 32) (k0_hw127 : k0_chk127 v1369), ∀ a, (k0_off323 v1369) a + S1x2x512.size a ≤ S257x64x512.size a := fun v1369 k0_hw127 => k0_hw127.2.1
theorem k0_off323_packedbf16 : ∀ (v1369 : BitVec 32) (k0_hw127 : k0_chk127 v1369), (Rect.unit (s := S257x64x512) (k0_off323 v1369) S1x2x512.size (k0_off323_inb v1369 k0_hw127)).PackedRows (EltTy.packing .bf16) := fun v1369 k0_hw127 => k0_hw127.2.2 (k0_off323_inb v1369 k0_hw127)

def k0_off324 (i : grid0.Coords) (k0_t1 : Fin k0_t1_loop.trips) : Fin 2 → Nat :=
  let c63_616 : Index := 63#32
  let c31_i32 : BitVec 32 := 31#32
  let arg0 : BitVec 32 := BitVec.ofNat 32 (i 0).val
  let v17 : BitVec 32 := Scalar.subi c31_i32 arg0
  let c8_i32 : BitVec 32 := 8#32
  let v18 : BitVec 32 := Scalar.muli v17 c8_i32
  let c7_i32 : BitVec 32 := 7#32
  let c0_i32_24 : BitVec 32 := 0#32
  let c1_i32 : BitVec 32 := 1#32
  let arg17 : BitVec 32 := Scf.iv c0_i32_24 c1_i32 k0_t1
  let v27 : BitVec 32 := Scalar.subi c7_i32 arg17
  let v28 : BitVec 32 := Scalar.addi v18 v27
  let v1380 : Index := Scalar.indexCast v28
  ![63, v1380.toNat]
def k0_off325 (v1381 : BitVec 32) : Fin 3 → Nat :=
  let v1382 : Index := Scalar.indexCast v1381
  let c63_617 : Index := 63#32
  let c0_618 : Index := 0#32
  ![v1382.toNat, 63, 0]

def k0_off326 (v1381 : BitVec 32) : Fin 3 → Nat :=
  let v1388 : Index := Scalar.indexCast v1381
  let c0_620 : Index := 0#32
  ![v1388.toNat, 62, 0]

def k0_chk128 (v1381 : BitVec 32) : Prop :=
  (∀ a, (k0_off325 v1381) a + S1x1x512.size a ≤ S257x64x512.size a) ∧
  (∀ a, (k0_off326 v1381) a + S1x2x512.size a ≤ S257x64x512.size a) ∧
  (∀ (hinb : ∀ a, (k0_off326 v1381) a + S1x2x512.size a ≤ S257x64x512.size a), (Rect.unit (s := S257x64x512) (k0_off326 v1381) S1x2x512.size hinb).PackedRows (EltTy.packing .bf16))
theorem k0_off325_inb : ∀ (v1381 : BitVec 32) (k0_hw128 : k0_chk128 v1381), ∀ a, (k0_off325 v1381) a + S1x1x512.size a ≤ S257x64x512.size a := fun v1381 k0_hw128 => k0_hw128.1
theorem k0_off326_inb : ∀ (v1381 : BitVec 32) (k0_hw128 : k0_chk128 v1381), ∀ a, (k0_off326 v1381) a + S1x2x512.size a ≤ S257x64x512.size a := fun v1381 k0_hw128 => k0_hw128.2.1
theorem k0_off326_packedbf16 : ∀ (v1381 : BitVec 32) (k0_hw128 : k0_chk128 v1381), (Rect.unit (s := S257x64x512) (k0_off326 v1381) S1x2x512.size (k0_off326_inb v1381 k0_hw128)).PackedRows (EltTy.packing .bf16) := fun v1381 k0_hw128 => k0_hw128.2.2 (k0_off326_inb v1381 k0_hw128)

def cc0_transform_0 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S256x64x512 : Shape := ⟨3, ![256, 64, 512]⟩
abbrev S64x256 : Shape := ⟨2, ![64, 256]⟩
abbrev S512x1536 : Shape := ⟨2, ![512, 1536]⟩
abbrev S1536 : Shape := ⟨1, ![1536]⟩
abbrev S64 : Shape := ⟨1, ![64]⟩
abbrev S257 : Shape := ⟨1, ![257]⟩
abbrev S257x1x1 : Shape := ⟨3, ![257, 1, 1]⟩
abbrev S_ : Shape := ⟨0, ![]⟩
abbrev S257x64x512 : Shape := ⟨3, ![257, 64, 512]⟩
abbrev S64x512 : Shape := ⟨2, ![64, 512]⟩
abbrev S1x64x512 : Shape := ⟨3, ![1, 64, 512]⟩
abbrev S64x1536 : Shape := ⟨2, ![64, 1536]⟩
abbrev S1x1536 : Shape := ⟨2, ![1, 1536]⟩
abbrev S64x1 : Shape := ⟨2, ![64, 1]⟩
abbrev S64x2 : Shape := ⟨2, ![64, 2]⟩
abbrev S256x1x1 : Shape := ⟨3, ![256, 1, 1]⟩
abbrev S256x64x1024 : Shape := ⟨3, ![256, 64, 1024]⟩
abbrev S64x256x1024 : Shape := ⟨3, ![64, 256, 1024]⟩
abbrev S64x1024 : Shape := ⟨2, ![64, 1024]⟩
abbrev S1x64x1024 : Shape := ⟨3, ![1, 64, 1024]⟩

abbrev nBuf : Space → Nat
  | .hbm => 278
  | .vmem => 0
  | .smem => 0
  | _ => 0

abbrev hbmTy0_0 (i : Nat) : BufTy := match i % 128 with
  | 0 => ⟨S256x64x512, .f32⟩
  | 1 => ⟨S64x256, .i32⟩
  | 2 => ⟨S512x1536, .f32⟩
  | 3 => ⟨S512x1536, .f32⟩
  | 4 => ⟨S1536, .f32⟩
  | 5 => ⟨S512x1536, .f32⟩
  | 6 => ⟨S512x1536, .f32⟩
  | 7 => ⟨S1536, .f32⟩
  | 8 => ⟨S64, .i32⟩
  | 9 => ⟨S257, .i32⟩
  | 10 => ⟨S257x1x1, .i32⟩
  | 11 => ⟨S_, .f32⟩
  | 12 => ⟨S257x64x512, .f32⟩
  | 13 => ⟨S_, .f32⟩
  | 14 => ⟨S256x64x512, .f32⟩
  | 15 => ⟨S_, .f32⟩
  | 16 => ⟨S64x512, .f32⟩
  | 17 => ⟨S_, .i32⟩
  | 18 => ⟨S_, .i32⟩
  | 19 => ⟨S_, .i32⟩
  | 20 => ⟨S_, .i32⟩
  | 21 => ⟨S256x64x512, .f32⟩
  | 22 => ⟨S512x1536, .f32⟩
  | 23 => ⟨S1536, .f32⟩
  | 24 => ⟨S512x1536, .f32⟩
  | 25 => ⟨S64x256, .i32⟩
  | 26 => ⟨S64, .i32⟩
  | 27 => ⟨S257x1x1, .i32⟩
  | 28 => ⟨S512x1536, .f32⟩
  | 29 => ⟨S1536, .f32⟩
  | 30 => ⟨S512x1536, .f32⟩
  | 31 => ⟨S_, .i32⟩
  | 32 => ⟨S_, .i32⟩
  | 33 => ⟨S_, .i32⟩
  | 34 => ⟨S_, .i32⟩
  | 35 => ⟨S257x64x512, .f32⟩
  | 36 => ⟨S256x64x512, .f32⟩
  | 37 => ⟨S257x64x512, .f32⟩
  | 38 => ⟨S64x512, .f32⟩
  | 39 => ⟨S_, .i32⟩
  | 40 => ⟨S_, .i1⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S1x64x512, .f32⟩
  | 65 => ⟨S64x512, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i32⟩
  | 87 => ⟨S1x64x512, .f32⟩
  | 88 => ⟨S64x512, .f32⟩
  | 89 => ⟨S64x1536, .f32⟩
  | 90 => ⟨S1x1536, .f32⟩
  | 91 => ⟨S64x1536, .f32⟩
  | 92 => ⟨S64x1536, .f32⟩
  | 93 => ⟨S64x1536, .f32⟩
  | 94 => ⟨S64x512, .f32⟩
  | 95 => ⟨S64x512, .f32⟩
  | 96 => ⟨S64x512, .f32⟩
  | 97 => ⟨S64x512, .f32⟩
  | 98 => ⟨S64x512, .f32⟩
  | 99 => ⟨S64x512, .f32⟩
  | 100 => ⟨S64x512, .f32⟩
  | 101 => ⟨S64x512, .f32⟩
  | 102 => ⟨S64x512, .f32⟩
  | 103 => ⟨S_, .f32⟩
  | 104 => ⟨S64x512, .f32⟩
  | 105 => ⟨S64x512, .f32⟩
  | 106 => ⟨S_, .f32⟩
  | 107 => ⟨S64x512, .f32⟩
  | 108 => ⟨S64x512, .f32⟩
  | 109 => ⟨S64x512, .f32⟩
  | 110 => ⟨S64x512, .f32⟩
  | 111 => ⟨S64x512, .f32⟩
  | 112 => ⟨S_, .f32⟩
  | 113 => ⟨S64x512, .f32⟩
  | 114 => ⟨S64x512, .f32⟩
  | 115 => ⟨S_, .f32⟩
  | 116 => ⟨S64x512, .f32⟩
  | 117 => ⟨S64x512, .f32⟩
  | 118 => ⟨S64x512, .f32⟩
  | 119 => ⟨S64x512, .f32⟩
  | 120 => ⟨S64x512, .f32⟩
  | 121 => ⟨S_, .f32⟩
  | 122 => ⟨S64x512, .f32⟩
  | 123 => ⟨S64x512, .f32⟩
  | 124 => ⟨S64x512, .f32⟩
  | 125 => ⟨S64x512, .f32⟩
  | 126 => ⟨S64x512, .f32⟩
  | 127 => ⟨S_, .i32⟩
  | _ => ⟨S256x64x512, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S64x1, .i32⟩
  | 13 => ⟨S64, .i32⟩
  | 14 => ⟨S_, .i32⟩
  | 15 => ⟨S64, .i32⟩
  | 16 => ⟨S64, .i1⟩
  | 17 => ⟨S_, .i32⟩
  | 18 => ⟨S64, .i32⟩
  | 19 => ⟨S64, .i32⟩
  | 20 => ⟨S64, .i32⟩
  | 21 => ⟨S_, .i32⟩
  | 22 => ⟨S64, .i32⟩
  | 23 => ⟨S64, .i1⟩
  | 24 => ⟨S_, .i32⟩
  | 25 => ⟨S64, .i32⟩
  | 26 => ⟨S64, .i32⟩
  | 27 => ⟨S64, .i32⟩
  | 28 => ⟨S64x1, .i32⟩
  | 29 => ⟨S64x1, .i32⟩
  | 30 => ⟨S64x2, .i32⟩
  | 31 => ⟨S257x64x512, .f32⟩
  | 32 => ⟨S256x1x1, .i32⟩
  | 33 => ⟨S256x1x1, .i32⟩
  | 34 => ⟨S256x1x1, .i1⟩
  | 35 => ⟨S256x64x512, .i1⟩
  | 36 => ⟨S256x64x512, .f32⟩
  | 37 => ⟨S256x64x512, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S1x64x512, .f32⟩
  | 60 => ⟨S64x512, .f32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S64x1, .i32⟩
  | 75 => ⟨S64, .i32⟩
  | 76 => ⟨S_, .i32⟩
  | 77 => ⟨S64, .i32⟩
  | 78 => ⟨S64, .i1⟩
  | 79 => ⟨S_, .i32⟩
  | 80 => ⟨S64, .i32⟩
  | 81 => ⟨S64, .i32⟩
  | 82 => ⟨S64, .i32⟩
  | 83 => ⟨S_, .i32⟩
  | 84 => ⟨S64, .i32⟩
  | 85 => ⟨S64, .i1⟩
  | 86 => ⟨S_, .i32⟩
  | 87 => ⟨S64, .i32⟩
  | 88 => ⟨S64, .i32⟩
  | 89 => ⟨S64, .i32⟩
  | 90 => ⟨S64x1, .i32⟩
  | 91 => ⟨S64x1, .i32⟩
  | 92 => ⟨S64x2, .i32⟩
  | 93 => ⟨S64x512, .f32⟩
  | 94 => ⟨S64x1536, .f32⟩
  | 95 => ⟨S1x1536, .f32⟩
  | 96 => ⟨S64x1536, .f32⟩
  | 97 => ⟨S64x1536, .f32⟩
  | 98 => ⟨S64x1536, .f32⟩
  | 99 => ⟨S64x512, .f32⟩
  | 100 => ⟨S64x512, .f32⟩
  | 101 => ⟨S64x512, .f32⟩
  | 102 => ⟨S64x512, .f32⟩
  | 103 => ⟨S64x512, .f32⟩
  | 104 => ⟨S64x512, .f32⟩
  | 105 => ⟨S64x512, .f32⟩
  | 106 => ⟨S64x512, .f32⟩
  | 107 => ⟨S64x512, .f32⟩
  | 108 => ⟨S_, .f32⟩
  | 109 => ⟨S64x512, .f32⟩
  | 110 => ⟨S64x512, .f32⟩
  | 111 => ⟨S_, .f32⟩
  | 112 => ⟨S64x512, .f32⟩
  | 113 => ⟨S64x512, .f32⟩
  | 114 => ⟨S64x512, .f32⟩
  | 115 => ⟨S64x512, .f32⟩
  | 116 => ⟨S64x512, .f32⟩
  | 117 => ⟨S_, .f32⟩
  | 118 => ⟨S64x512, .f32⟩
  | 119 => ⟨S64x512, .f32⟩
  | 120 => ⟨S_, .f32⟩
  | 121 => ⟨S64x512, .f32⟩
  | 122 => ⟨S64x512, .f32⟩
  | 123 => ⟨S64x512, .f32⟩
  | 124 => ⟨S64x512, .f32⟩
  | 125 => ⟨S64x512, .f32⟩
  | 126 => ⟨S_, .f32⟩
  | 127 => ⟨S64x512, .f32⟩
  | _ => ⟨S256x64x512, .f32⟩

abbrev hbmTy0_2 (i : Nat) : BufTy := match i % 128 with
  | 0 => ⟨S64x512, .f32⟩
  | 1 => ⟨S64x512, .f32⟩
  | 2 => ⟨S64x512, .f32⟩
  | 3 => ⟨S64x512, .f32⟩
  | 4 => ⟨S257x1x1, .i32⟩
  | 5 => ⟨S257x1x1, .i1⟩
  | 6 => ⟨S257x64x512, .i1⟩
  | 7 => ⟨S257x64x512, .f32⟩
  | 8 => ⟨S257x64x512, .f32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S1x64x512, .f32⟩
  | 16 => ⟨S64x512, .f32⟩
  | 17 => ⟨S256x64x512, .f32⟩
  | 18 => ⟨S256x64x1024, .f32⟩
  | 19 => ⟨S64x256x1024, .f32⟩
  | 20 => ⟨S64x1024, .f32⟩
  | 21 => ⟨S1x64x1024, .f32⟩
  | _ => ⟨S256x64x512, .f32⟩

abbrev hbmTy (i : Nat) : BufTy := match i / 128 with
  | 0 => hbmTy0_0 i
  | 1 => hbmTy0_1 i
  | 2 => hbmTy0_2 i
  | _ => ⟨S256x64x512, .f32⟩

abbrev bufTy : (tb : Table) → Fin (tcTables nBuf tb) → BufTy
  | .hbm, ⟨i, _⟩ => hbmTy i
  | _, _ => ⟨S256x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_c : Ref sig .tc := ⟨.hbm, 17, rfl⟩
abbrev main_c_2 : Ref sig .tc := ⟨.hbm, 18, rfl⟩
abbrev main_c_3 : Ref sig .tc := ⟨.hbm, 19, rfl⟩
abbrev main_c_4 : Ref sig .tc := ⟨.hbm, 20, rfl⟩
abbrev main_v6_0 : Ref sig .tc := ⟨.hbm, 21, rfl⟩
abbrev main_v6_1 : Ref sig .tc := ⟨.hbm, 22, rfl⟩
abbrev main_v6_2 : Ref sig .tc := ⟨.hbm, 23, rfl⟩
abbrev main_v6_3 : Ref sig .tc := ⟨.hbm, 24, rfl⟩
abbrev main_v6_4 : Ref sig .tc := ⟨.hbm, 25, rfl⟩
abbrev main_v6_5 : Ref sig .tc := ⟨.hbm, 26, rfl⟩
abbrev main_v6_6 : Ref sig .tc := ⟨.hbm, 27, rfl⟩
abbrev main_v6_7 : Ref sig .tc := ⟨.hbm, 28, rfl⟩
abbrev main_v6_8 : Ref sig .tc := ⟨.hbm, 29, rfl⟩
abbrev main_v6_9 : Ref sig .tc := ⟨.hbm, 30, rfl⟩
abbrev main_v6_10 : Ref sig .tc := ⟨.hbm, 31, rfl⟩
abbrev main_v6_11 : Ref sig .tc := ⟨.hbm, 32, rfl⟩
abbrev main_v6_12 : Ref sig .tc := ⟨.hbm, 33, rfl⟩
abbrev main_v6_13 : Ref sig .tc := ⟨.hbm, 34, rfl⟩
abbrev main_v6_14 : Ref sig .tc := ⟨.hbm, 35, rfl⟩
abbrev main_v6_15 : Ref sig .tc := ⟨.hbm, 36, rfl⟩
abbrev main_v6_16 : Ref sig .tc := ⟨.hbm, 37, rfl⟩
abbrev main_v6_17 : Ref sig .tc := ⟨.hbm, 38, rfl⟩
abbrev main_while0c_c_22 : Ref sig .tc := ⟨.hbm, 39, rfl⟩
abbrev main_while0c_v14 : Ref sig .tc := ⟨.hbm, 40, rfl⟩
abbrev main_while0b_c_22 : Ref sig .tc := ⟨.hbm, 41, rfl⟩
abbrev main_while0b_v14 : Ref sig .tc := ⟨.hbm, 42, rfl⟩
abbrev main_while0b_c_23 : Ref sig .tc := ⟨.hbm, 43, rfl⟩
abbrev main_while0b_v15 : Ref sig .tc := ⟨.hbm, 44, rfl⟩
abbrev main_while0b_c_24 : Ref sig .tc := ⟨.hbm, 45, rfl⟩
abbrev main_while0b_v16 : Ref sig .tc := ⟨.hbm, 46, rfl⟩
abbrev main_while0b_v17 : Ref sig .tc := ⟨.hbm, 47, rfl⟩
abbrev main_while0b_c_25 : Ref sig .tc := ⟨.hbm, 48, rfl⟩
abbrev main_while0b_c_26 : Ref sig .tc := ⟨.hbm, 49, rfl⟩
abbrev main_while0b_v18 : Ref sig .tc := ⟨.hbm, 50, rfl⟩
abbrev main_while0b_c_27 : Ref sig .tc := ⟨.hbm, 51, rfl⟩
abbrev main_while0b_c_28 : Ref sig .tc := ⟨.hbm, 52, rfl⟩
abbrev main_while0b_v19 : Ref sig .tc := ⟨.hbm, 53, rfl⟩
abbrev main_while0b_c_29 : Ref sig .tc := ⟨.hbm, 54, rfl⟩
abbrev main_while0b_v20 : Ref sig .tc := ⟨.hbm, 55, rfl⟩
abbrev main_while0b_c_30 : Ref sig .tc := ⟨.hbm, 56, rfl⟩
abbrev main_while0b_c_31 : Ref sig .tc := ⟨.hbm, 57, rfl⟩
abbrev main_while0b_v21 : Ref sig .tc := ⟨.hbm, 58, rfl⟩
abbrev main_while0b_c_32 : Ref sig .tc := ⟨.hbm, 59, rfl⟩
abbrev main_while0b_c_33 : Ref sig .tc := ⟨.hbm, 60, rfl⟩
abbrev main_while0b_v22 : Ref sig .tc := ⟨.hbm, 61, rfl⟩
abbrev main_while0b_c_34 : Ref sig .tc := ⟨.hbm, 62, rfl⟩
abbrev main_while0b_v23 : Ref sig .tc := ⟨.hbm, 63, rfl⟩
abbrev main_while0b_v24 : Ref sig .tc := ⟨.hbm, 64, rfl⟩
abbrev main_while0b_v25 : Ref sig .tc := ⟨.hbm, 65, rfl⟩
abbrev main_while0b_c_35 : Ref sig .tc := ⟨.hbm, 66, rfl⟩
abbrev main_while0b_v26 : Ref sig .tc := ⟨.hbm, 67, rfl⟩
abbrev main_while0b_c_36 : Ref sig .tc := ⟨.hbm, 68, rfl⟩
abbrev main_while0b_v27 : Ref sig .tc := ⟨.hbm, 69, rfl⟩
abbrev main_while0b_v28 : Ref sig .tc := ⟨.hbm, 70, rfl⟩
abbrev main_while0b_c_37 : Ref sig .tc := ⟨.hbm, 71, rfl⟩
abbrev main_while0b_c_38 : Ref sig .tc := ⟨.hbm, 72, rfl⟩
abbrev main_while0b_v29 : Ref sig .tc := ⟨.hbm, 73, rfl⟩
abbrev main_while0b_c_39 : Ref sig .tc := ⟨.hbm, 74, rfl⟩
abbrev main_while0b_c_40 : Ref sig .tc := ⟨.hbm, 75, rfl⟩
abbrev main_while0b_v30 : Ref sig .tc := ⟨.hbm, 76, rfl⟩
abbrev main_while0b_c_41 : Ref sig .tc := ⟨.hbm, 77, rfl⟩
abbrev main_while0b_v31 : Ref sig .tc := ⟨.hbm, 78, rfl⟩
abbrev main_while0b_c_42 : Ref sig .tc := ⟨.hbm, 79, rfl⟩
abbrev main_while0b_c_43 : Ref sig .tc := ⟨.hbm, 80, rfl⟩
abbrev main_while0b_v32 : Ref sig .tc := ⟨.hbm, 81, rfl⟩
abbrev main_while0b_c_44 : Ref sig .tc := ⟨.hbm, 82, rfl⟩
abbrev main_while0b_c_45 : Ref sig .tc := ⟨.hbm, 83, rfl⟩
abbrev main_while0b_v33 : Ref sig .tc := ⟨.hbm, 84, rfl⟩
abbrev main_while0b_c_46 : Ref sig .tc := ⟨.hbm, 85, rfl⟩
abbrev main_while0b_v34 : Ref sig .tc := ⟨.hbm, 86, rfl⟩
abbrev main_while0b_v35 : Ref sig .tc := ⟨.hbm, 87, rfl⟩
abbrev main_while0b_v36 : Ref sig .tc := ⟨.hbm, 88, rfl⟩
abbrev main_while0b_v37 : Ref sig .tc := ⟨.hbm, 89, rfl⟩
abbrev main_while0b_v38 : Ref sig .tc := ⟨.hbm, 90, rfl⟩
abbrev main_while0b_v39 : Ref sig .tc := ⟨.hbm, 91, rfl⟩
abbrev main_while0b_v40 : Ref sig .tc := ⟨.hbm, 92, rfl⟩
abbrev main_while0b_v41 : Ref sig .tc := ⟨.hbm, 93, rfl⟩
abbrev main_while0b_v42 : Ref sig .tc := ⟨.hbm, 94, rfl⟩
abbrev main_while0b_v43 : Ref sig .tc := ⟨.hbm, 95, rfl⟩
abbrev main_while0b_v44 : Ref sig .tc := ⟨.hbm, 96, rfl⟩
abbrev main_while0b_v45 : Ref sig .tc := ⟨.hbm, 97, rfl⟩
abbrev main_while0b_v46 : Ref sig .tc := ⟨.hbm, 98, rfl⟩
abbrev main_while0b_v47 : Ref sig .tc := ⟨.hbm, 99, rfl⟩
abbrev main_while0b_v48 : Ref sig .tc := ⟨.hbm, 100, rfl⟩
abbrev main_while0b_v49 : Ref sig .tc := ⟨.hbm, 101, rfl⟩
abbrev main_while0b_v50 : Ref sig .tc := ⟨.hbm, 102, rfl⟩
abbrev main_while0b_cst_47 : Ref sig .tc := ⟨.hbm, 103, rfl⟩
abbrev main_while0b_v51 : Ref sig .tc := ⟨.hbm, 104, rfl⟩
abbrev main_while0b_v52 : Ref sig .tc := ⟨.hbm, 105, rfl⟩
abbrev main_while0b_cst_48 : Ref sig .tc := ⟨.hbm, 106, rfl⟩
abbrev main_while0b_v53 : Ref sig .tc := ⟨.hbm, 107, rfl⟩
abbrev main_while0b_v54 : Ref sig .tc := ⟨.hbm, 108, rfl⟩
abbrev main_while0b_v55 : Ref sig .tc := ⟨.hbm, 109, rfl⟩
abbrev main_while0b_v56 : Ref sig .tc := ⟨.hbm, 110, rfl⟩
abbrev main_while0b_v57 : Ref sig .tc := ⟨.hbm, 111, rfl⟩
abbrev main_while0b_cst_49 : Ref sig .tc := ⟨.hbm, 112, rfl⟩
abbrev main_while0b_v58 : Ref sig .tc := ⟨.hbm, 113, rfl⟩
abbrev main_while0b_v59 : Ref sig .tc := ⟨.hbm, 114, rfl⟩
abbrev main_while0b_cst_50 : Ref sig .tc := ⟨.hbm, 115, rfl⟩
abbrev main_while0b_v60 : Ref sig .tc := ⟨.hbm, 116, rfl⟩
abbrev main_while0b_v61 : Ref sig .tc := ⟨.hbm, 117, rfl⟩
abbrev main_while0b_v62 : Ref sig .tc := ⟨.hbm, 118, rfl⟩
abbrev main_while0b_v63 : Ref sig .tc := ⟨.hbm, 119, rfl⟩
abbrev main_while0b_v64 : Ref sig .tc := ⟨.hbm, 120, rfl⟩
abbrev main_while0b_cst_51 : Ref sig .tc := ⟨.hbm, 121, rfl⟩
abbrev main_while0b_v65 : Ref sig .tc := ⟨.hbm, 122, rfl⟩
abbrev main_while0b_v66 : Ref sig .tc := ⟨.hbm, 123, rfl⟩
abbrev main_while0b_v67 : Ref sig .tc := ⟨.hbm, 124, rfl⟩
abbrev main_while0b_v68 : Ref sig .tc := ⟨.hbm, 125, rfl⟩
abbrev main_while0b_v69 : Ref sig .tc := ⟨.hbm, 126, rfl⟩
abbrev main_while0b_c_52 : Ref sig .tc := ⟨.hbm, 127, rfl⟩
abbrev main_while0b_c_53 : Ref sig .tc := ⟨.hbm, 128, rfl⟩
abbrev main_while0b_v70 : Ref sig .tc := ⟨.hbm, 129, rfl⟩
abbrev main_while0b_c_54 : Ref sig .tc := ⟨.hbm, 130, rfl⟩
abbrev main_while0b_c_55 : Ref sig .tc := ⟨.hbm, 131, rfl⟩
abbrev main_while0b_v71 : Ref sig .tc := ⟨.hbm, 132, rfl⟩
abbrev main_while0b_c_56 : Ref sig .tc := ⟨.hbm, 133, rfl⟩
abbrev main_while0b_v72 : Ref sig .tc := ⟨.hbm, 134, rfl⟩
abbrev main_while0b_c_57 : Ref sig .tc := ⟨.hbm, 135, rfl⟩
abbrev main_while0b_v73 : Ref sig .tc := ⟨.hbm, 136, rfl⟩
abbrev main_while0b_c_58 : Ref sig .tc := ⟨.hbm, 137, rfl⟩
abbrev main_while0b_v74 : Ref sig .tc := ⟨.hbm, 138, rfl⟩
abbrev main_while0b_v75 : Ref sig .tc := ⟨.hbm, 139, rfl⟩
abbrev main_while0b_v76 : Ref sig .tc := ⟨.hbm, 140, rfl⟩
abbrev main_while0b_v77 : Ref sig .tc := ⟨.hbm, 141, rfl⟩
abbrev main_while0b_c_59 : Ref sig .tc := ⟨.hbm, 142, rfl⟩
abbrev main_while0b_v78 : Ref sig .tc := ⟨.hbm, 143, rfl⟩
abbrev main_while0b_v79 : Ref sig .tc := ⟨.hbm, 144, rfl⟩
abbrev main_while0b_c_60 : Ref sig .tc := ⟨.hbm, 145, rfl⟩
abbrev main_while0b_v80 : Ref sig .tc := ⟨.hbm, 146, rfl⟩
abbrev main_while0b_v81 : Ref sig .tc := ⟨.hbm, 147, rfl⟩
abbrev main_while0b_v82 : Ref sig .tc := ⟨.hbm, 148, rfl⟩
abbrev main_while0b_c_61 : Ref sig .tc := ⟨.hbm, 149, rfl⟩
abbrev main_while0b_v83 : Ref sig .tc := ⟨.hbm, 150, rfl⟩
abbrev main_while0b_v84 : Ref sig .tc := ⟨.hbm, 151, rfl⟩
abbrev main_while0b_c_62 : Ref sig .tc := ⟨.hbm, 152, rfl⟩
abbrev main_while0b_v85 : Ref sig .tc := ⟨.hbm, 153, rfl⟩
abbrev main_while0b_v86 : Ref sig .tc := ⟨.hbm, 154, rfl⟩
abbrev main_while0b_v87 : Ref sig .tc := ⟨.hbm, 155, rfl⟩
abbrev main_while0b_v88 : Ref sig .tc := ⟨.hbm, 156, rfl⟩
abbrev main_while0b_v89 : Ref sig .tc := ⟨.hbm, 157, rfl⟩
abbrev main_while0b_v90 : Ref sig .tc := ⟨.hbm, 158, rfl⟩
abbrev main_while0b_v91 : Ref sig .tc := ⟨.hbm, 159, rfl⟩
abbrev main_while0b_v92 : Ref sig .tc := ⟨.hbm, 160, rfl⟩
abbrev main_while0b_v93 : Ref sig .tc := ⟨.hbm, 161, rfl⟩
abbrev main_while0b_v94 : Ref sig .tc := ⟨.hbm, 162, rfl⟩
abbrev main_while0b_call0_v0 : Ref sig .tc := ⟨.hbm, 163, rfl⟩
abbrev main_while0b_call0_v1 : Ref sig .tc := ⟨.hbm, 164, rfl⟩
abbrev main_while0b_v95 : Ref sig .tc := ⟨.hbm, 165, rfl⟩
abbrev main_while0b_c_63 : Ref sig .tc := ⟨.hbm, 166, rfl⟩
abbrev main_while0b_v96 : Ref sig .tc := ⟨.hbm, 167, rfl⟩
abbrev main_while0b_c_64 : Ref sig .tc := ⟨.hbm, 168, rfl⟩
abbrev main_while0b_v97 : Ref sig .tc := ⟨.hbm, 169, rfl⟩
abbrev main_while0b_v98 : Ref sig .tc := ⟨.hbm, 170, rfl⟩
abbrev main_while0b_c_65 : Ref sig .tc := ⟨.hbm, 171, rfl⟩
abbrev main_while0b_c_66 : Ref sig .tc := ⟨.hbm, 172, rfl⟩
abbrev main_while0b_v99 : Ref sig .tc := ⟨.hbm, 173, rfl⟩
abbrev main_while0b_c_67 : Ref sig .tc := ⟨.hbm, 174, rfl⟩
abbrev main_while0b_c_68 : Ref sig .tc := ⟨.hbm, 175, rfl⟩
abbrev main_while0b_v100 : Ref sig .tc := ⟨.hbm, 176, rfl⟩
abbrev main_while0b_c_69 : Ref sig .tc := ⟨.hbm, 177, rfl⟩
abbrev main_while0b_v101 : Ref sig .tc := ⟨.hbm, 178, rfl⟩
abbrev main_while0b_c_70 : Ref sig .tc := ⟨.hbm, 179, rfl⟩
abbrev main_while0b_c_71 : Ref sig .tc := ⟨.hbm, 180, rfl⟩
abbrev main_while0b_v102 : Ref sig .tc := ⟨.hbm, 181, rfl⟩
abbrev main_while0b_c_72 : Ref sig .tc := ⟨.hbm, 182, rfl⟩
abbrev main_while0b_c_73 : Ref sig .tc := ⟨.hbm, 183, rfl⟩
abbrev main_while0b_v103 : Ref sig .tc := ⟨.hbm, 184, rfl⟩
abbrev main_while0b_c_74 : Ref sig .tc := ⟨.hbm, 185, rfl⟩
abbrev main_while0b_v104 : Ref sig .tc := ⟨.hbm, 186, rfl⟩
abbrev main_while0b_v105 : Ref sig .tc := ⟨.hbm, 187, rfl⟩
abbrev main_while0b_v106 : Ref sig .tc := ⟨.hbm, 188, rfl⟩
abbrev main_while0b_c_75 : Ref sig .tc := ⟨.hbm, 189, rfl⟩
abbrev main_while0b_c_76 : Ref sig .tc := ⟨.hbm, 190, rfl⟩
abbrev main_while0b_v107 : Ref sig .tc := ⟨.hbm, 191, rfl⟩
abbrev main_while0b_c_77 : Ref sig .tc := ⟨.hbm, 192, rfl⟩
abbrev main_while0b_c_78 : Ref sig .tc := ⟨.hbm, 193, rfl⟩
abbrev main_while0b_v108 : Ref sig .tc := ⟨.hbm, 194, rfl⟩
abbrev main_while0b_c_79 : Ref sig .tc := ⟨.hbm, 195, rfl⟩
abbrev main_while0b_v109 : Ref sig .tc := ⟨.hbm, 196, rfl⟩
abbrev main_while0b_c_80 : Ref sig .tc := ⟨.hbm, 197, rfl⟩
abbrev main_while0b_v110 : Ref sig .tc := ⟨.hbm, 198, rfl⟩
abbrev main_while0b_c_81 : Ref sig .tc := ⟨.hbm, 199, rfl⟩
abbrev main_while0b_v111 : Ref sig .tc := ⟨.hbm, 200, rfl⟩
abbrev main_while0b_v112 : Ref sig .tc := ⟨.hbm, 201, rfl⟩
abbrev main_while0b_v113 : Ref sig .tc := ⟨.hbm, 202, rfl⟩
abbrev main_while0b_v114 : Ref sig .tc := ⟨.hbm, 203, rfl⟩
abbrev main_while0b_c_82 : Ref sig .tc := ⟨.hbm, 204, rfl⟩
abbrev main_while0b_v115 : Ref sig .tc := ⟨.hbm, 205, rfl⟩
abbrev main_while0b_v116 : Ref sig .tc := ⟨.hbm, 206, rfl⟩
abbrev main_while0b_c_83 : Ref sig .tc := ⟨.hbm, 207, rfl⟩
abbrev main_while0b_v117 : Ref sig .tc := ⟨.hbm, 208, rfl⟩
abbrev main_while0b_v118 : Ref sig .tc := ⟨.hbm, 209, rfl⟩
abbrev main_while0b_v119 : Ref sig .tc := ⟨.hbm, 210, rfl⟩
abbrev main_while0b_c_84 : Ref sig .tc := ⟨.hbm, 211, rfl⟩
abbrev main_while0b_v120 : Ref sig .tc := ⟨.hbm, 212, rfl⟩
abbrev main_while0b_v121 : Ref sig .tc := ⟨.hbm, 213, rfl⟩
abbrev main_while0b_c_85 : Ref sig .tc := ⟨.hbm, 214, rfl⟩
abbrev main_while0b_v122 : Ref sig .tc := ⟨.hbm, 215, rfl⟩
abbrev main_while0b_v123 : Ref sig .tc := ⟨.hbm, 216, rfl⟩
abbrev main_while0b_v124 : Ref sig .tc := ⟨.hbm, 217, rfl⟩
abbrev main_while0b_v125 : Ref sig .tc := ⟨.hbm, 218, rfl⟩
abbrev main_while0b_v126 : Ref sig .tc := ⟨.hbm, 219, rfl⟩
abbrev main_while0b_v127 : Ref sig .tc := ⟨.hbm, 220, rfl⟩
abbrev main_while0b_v128 : Ref sig .tc := ⟨.hbm, 221, rfl⟩
abbrev main_while0b_v129 : Ref sig .tc := ⟨.hbm, 222, rfl⟩
abbrev main_while0b_v130 : Ref sig .tc := ⟨.hbm, 223, rfl⟩
abbrev main_while0b_v131 : Ref sig .tc := ⟨.hbm, 224, rfl⟩
abbrev main_while0b_v132 : Ref sig .tc := ⟨.hbm, 225, rfl⟩
abbrev main_while0b_v133 : Ref sig .tc := ⟨.hbm, 226, rfl⟩
abbrev main_while0b_v134 : Ref sig .tc := ⟨.hbm, 227, rfl⟩
abbrev main_while0b_v135 : Ref sig .tc := ⟨.hbm, 228, rfl⟩
abbrev main_while0b_v136 : Ref sig .tc := ⟨.hbm, 229, rfl⟩
abbrev main_while0b_v137 : Ref sig .tc := ⟨.hbm, 230, rfl⟩
abbrev main_while0b_v138 : Ref sig .tc := ⟨.hbm, 231, rfl⟩
abbrev main_while0b_v139 : Ref sig .tc := ⟨.hbm, 232, rfl⟩
abbrev main_while0b_v140 : Ref sig .tc := ⟨.hbm, 233, rfl⟩
abbrev main_while0b_v141 : Ref sig .tc := ⟨.hbm, 234, rfl⟩
abbrev main_while0b_v142 : Ref sig .tc := ⟨.hbm, 235, rfl⟩
abbrev main_while0b_cst_86 : Ref sig .tc := ⟨.hbm, 236, rfl⟩
abbrev main_while0b_v143 : Ref sig .tc := ⟨.hbm, 237, rfl⟩
abbrev main_while0b_v144 : Ref sig .tc := ⟨.hbm, 238, rfl⟩
abbrev main_while0b_cst_87 : Ref sig .tc := ⟨.hbm, 239, rfl⟩
abbrev main_while0b_v145 : Ref sig .tc := ⟨.hbm, 240, rfl⟩
abbrev main_while0b_v146 : Ref sig .tc := ⟨.hbm, 241, rfl⟩
abbrev main_while0b_v147 : Ref sig .tc := ⟨.hbm, 242, rfl⟩
abbrev main_while0b_v148 : Ref sig .tc := ⟨.hbm, 243, rfl⟩
abbrev main_while0b_v149 : Ref sig .tc := ⟨.hbm, 244, rfl⟩
abbrev main_while0b_cst_88 : Ref sig .tc := ⟨.hbm, 245, rfl⟩
abbrev main_while0b_v150 : Ref sig .tc := ⟨.hbm, 246, rfl⟩
abbrev main_while0b_v151 : Ref sig .tc := ⟨.hbm, 247, rfl⟩
abbrev main_while0b_cst_89 : Ref sig .tc := ⟨.hbm, 248, rfl⟩
abbrev main_while0b_v152 : Ref sig .tc := ⟨.hbm, 249, rfl⟩
abbrev main_while0b_v153 : Ref sig .tc := ⟨.hbm, 250, rfl⟩
abbrev main_while0b_v154 : Ref sig .tc := ⟨.hbm, 251, rfl⟩
abbrev main_while0b_v155 : Ref sig .tc := ⟨.hbm, 252, rfl⟩
abbrev main_while0b_v156 : Ref sig .tc := ⟨.hbm, 253, rfl⟩
abbrev main_while0b_cst_90 : Ref sig .tc := ⟨.hbm, 254, rfl⟩
abbrev main_while0b_v157 : Ref sig .tc := ⟨.hbm, 255, rfl⟩
abbrev main_while0b_v158 : Ref sig .tc := ⟨.hbm, 256, rfl⟩
abbrev main_while0b_v159 : Ref sig .tc := ⟨.hbm, 257, rfl⟩
abbrev main_while0b_v160 : Ref sig .tc := ⟨.hbm, 258, rfl⟩
abbrev main_while0b_v161 : Ref sig .tc := ⟨.hbm, 259, rfl⟩
abbrev main_while0b_v162 : Ref sig .tc := ⟨.hbm, 260, rfl⟩
abbrev main_while0b_v163 : Ref sig .tc := ⟨.hbm, 261, rfl⟩
abbrev main_while0b_call1_v0 : Ref sig .tc := ⟨.hbm, 262, rfl⟩
abbrev main_while0b_call1_v1 : Ref sig .tc := ⟨.hbm, 263, rfl⟩
abbrev main_while0b_v164 : Ref sig .tc := ⟨.hbm, 264, rfl⟩
abbrev main_while0b_c_91 : Ref sig .tc := ⟨.hbm, 265, rfl⟩
abbrev main_while0b_v165 : Ref sig .tc := ⟨.hbm, 266, rfl⟩
abbrev main_while0b_c_92 : Ref sig .tc := ⟨.hbm, 267, rfl⟩
abbrev main_while0b_v166 : Ref sig .tc := ⟨.hbm, 268, rfl⟩
abbrev main_while0b_c_93 : Ref sig .tc := ⟨.hbm, 269, rfl⟩
abbrev main_while0b_v167 : Ref sig .tc := ⟨.hbm, 270, rfl⟩
abbrev main_v7 : Ref sig .tc := ⟨.hbm, 271, rfl⟩
abbrev main_v8 : Ref sig .tc := ⟨.hbm, 272, rfl⟩
abbrev main_v9 : Ref sig .tc := ⟨.hbm, 273, rfl⟩
abbrev main_v10 : Ref sig .tc := ⟨.hbm, 274, rfl⟩
abbrev main_v11 : Ref sig .tc := ⟨.hbm, 275, rfl⟩
abbrev main_v12 : Ref sig .tc := ⟨.hbm, 276, rfl⟩
abbrev main_v13 : Ref sig .tc := ⟨.hbm, 277, rfl⟩

abbrev nD : Nat := 1
abbrev τ : Topo := Topo.v7x

variable {F : FTy → Type} [FloatOps F]

abbrev main_while0_count : Scf.Loop 32 := ⟨0#32, 256#32, 1#32⟩
-- ==== Proof.Runs.lean ====
module

public import Idealize.ShloMosaic.Lib.VecWindow
public import Idealize.ShloMosaic.Lib.Pipeline.TableIdle
public import Idealize.ShloMosaic.Lib.Scf

/-! Programs run on states. `Run held p s Q`: from the assertion `held s`, the program `p` ends with a value and a
    state that satisfy `Q`, the assertion holding of that state. The rules below step a program one operation at a
    time; the state is a plain Lean value, so a run is proved without any separation logic in the goal. -/

@[expose] public section

namespace Cert.Proof

open Idealize.ShloMosaic
open Idealize.SL
open Idealize.SL.RA Idealize.SL.Sem Idealize.SL.ProofMode
open Idealize.SL.BI (sProp bigSep)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} {𝒱 : Variants} {c : Thread nD τ} {bd : Option 𝒱.V} {E : Set Name}

variable {St : Type} {held : St → sProp (MT nD τ sig Ix Val Name U Lvl)} {α β : Type}

variable (defs 𝒱 c bd E held) in
/-- From `held s`, the program ends with a value `r` and a state `s'` such that `Q r s'`, holding `held s'`. -/
def Run (p : Prog (TpuEff nD τ sig Val Λ c.2) α) (s : St) (Q : α → St → Prop) : Prop :=
  ∀ K : α → sProp (MT nD τ sig Ix Val Name U Lvl), (∀ r s', Q r s' → held s' ⊢ K r) → held s ⊢ wp frame (wpE defs 𝒱 c bd) E p K

variable (c held) in
/-- In the state `s` the memref `m` holds `X`, and can be read. -/
def Gets (s : St) {sp : Space} {sh : Shape} {e : EltTy} (m : Memref sig c.2.kind sp sh e) (X : sh.Idx → Val e) : Prop :=
  ∃ q, held s ⊢ iprop(owns c m q X ∗ (owns c m q X -∗ held s))

variable (c held) in
/-- In the state `s` the memref `m` holds `X`, and a write of `X'` over the whole of it leads to `upd X'`. -/
def Sets (s : St) {sp : Space} {sh : Shape} {e : EltTy} (m : Memref sig c.2.kind sp sh e) (X : sh.Idx → Val e)
    (upd : (sh.Idx → Val e) → St) : Prop :=
  held s ⊢ iprop(owns c m fullShare X ∗ ∀ X', owns c m fullShare X' -∗ held (upd X'))

/-- A returned value. -/
theorem Run.ret {s : St} {Q : α → St → Prop} (a : α) (h : Q a s) : Run defs 𝒱 c bd E held (pure a) s Q :=
  fun _ hK => (hK a s h).trans (le_wp_ret _ _ _ a _)

/-- One program after another. -/
theorem Run.bind {s : St} {Q : β → St → Prop} {p : Prog (TpuEff nD τ sig Val Λ c.2) α}
    {k : α → Prog (TpuEff nD τ sig Val Λ c.2) β}
    (h : Run defs 𝒱 c bd E held p s (fun r s' => Run defs 𝒱 c bd E held (k r) s' Q)) :
    Run defs 𝒱 c bd E held (p >>= k) s Q := by
  intro K hK
  rw [wp_bind]
  exact h _ fun r s' hr => hr K hK

/-- A weaker conclusion. -/
theorem Run.mono {s : St} {Q Q' : α → St → Prop} {p : Prog (TpuEff nD τ sig Val Λ c.2) α}
    (h : Run defs 𝒱 c bd E held p s Q) (hQ : ∀ r s', Q r s' → Q' r s') : Run defs 𝒱 c bd E held p s Q' :=
  fun K hK => h K fun r s' hr => hK r s' (hQ r s' hr)

/-- An assumed condition that holds. -/
theorem Run.assume {s : St} {Q : α → St → Prop} {C : Prop} {dec : Decidable C} (hc : C)
    {k : PLift C → Prog (TpuEff nD τ sig Val Λ c.2) α}
    (h : Run defs 𝒱 c bd E held (k ⟨hc⟩) s Q) :
    Run defs 𝒱 c bd E held (Prog.lift (TpuEff.assume C dec) >>= k) s Q := by
  intro K hK
  exact exec_assume 𝒱 c bd E dec k hc (h K hK)

variable [∀ e, Nonempty (Val e)]

/-- A read of a window of a memref. -/
theorem Run.load {s : St} {Q : α → St → Prop} {cs : CoreSpace} {sh : Shape} {e : EltTy} {m : Memref sig c.2.kind cs sh e}
    {X : sh.Idx → Val e} (hg : Gets c held s m X) {off size : Fin sh.rank → ℕ} {inb : ∀ a, off a + size a ≤ sh.size a}
    {hl : m.view.LoadsAt (Rect.unit off size inb).toLoadRect}
    {k : ((Rect.unit off size inb).shape.Idx → Val e) → Prog (TpuEff nD τ sig Val Λ c.2) α}
    (h : Run defs 𝒱 c bd E held (k (VecWindow.window X off size inb)) s Q) :
    Run defs 𝒱 c bd E held (Prog.lift (.load m (Rect.unit off size inb).toLoadRect hl) >>= k) s Q := by
  intro K hK
  obtain ⟨q, hg⟩ := hg
  refine hg.trans ?_
  rw [owns_eq_rep]
  have h' := h K hK
  have hw : (m.view.loc c ↦[m.view.set]{q} m.view.rep X : sProp (MT nD τ sig Ix Val Name U Lvl))
      ⊢ iprop(((m.view.loc c ↦[m.view.set]{q} m.view.rep X)
          -∗ wp frame (wpE defs 𝒱 c bd) E (k (m.view.readAt Val (Rect.unit off size inb).toLoadRect (m.view.rep X))) K)
        -∗ wp frame (wpE defs 𝒱 c bd) E (Prog.lift (.load m (Rect.unit off size inb).toLoadRect hl) >>= k) K) :=
    wp_load 𝒱 c bd E (hl := hl) (k := k) (Finset.map_subset_map.mpr (Finset.subset_univ _))
  rw [View.readAt_rep_unit m.view X inb rfl inb] at hw
  iintro ⟨H, HR⟩
  iapply hw $$ H
  iintro H
  iapply h'
  iapply HR $$ H

/-- A read of one word of a memref. -/
theorem Run.word {s : St} {Q : α → St → Prop} {sh : Shape} {e : EltTy} {m : Memref sig c.2.kind .smem sh e}
    {X : sh.Idx → Val e} (hg : Gets c held s m X) {off size : Fin sh.rank → ℕ} {inb : ∀ a, off a + size a ≤ sh.size a}
    {h1 : (Rect.unit off size inb).shape.numel = 1} {hp : e.packing = 1}
    {k : Val e → Prog (TpuEff nD τ sig Val Λ c.2) α}
    (h : Run defs 𝒱 c bd E held (k (VecWindow.window X off size inb (Shape.Idx.first (h1.symm ▸ Nat.one_pos)))) s Q) :
    Run defs 𝒱 c bd E held (smemLoad m (Rect.unit off size inb) h1 hp >>= k) s Q :=
  Run.load (k := fun f => k (f (Shape.Idx.first (h1.symm ▸ Nat.one_pos)))) (hl := View.loadsAt_rect (View.loads_smem_one hp h1)) hg h

/-- A write of a window of a memref. -/
theorem Run.store {s : St} {Q : α → St → Prop} {cs : CoreSpace} {sh : Shape} {e : EltTy} {m : Memref sig c.2.kind cs sh e}
    {X : sh.Idx → Val e} {upd : (sh.Idx → Val e) → St} (hg : Sets c held s m X upd) {off size : Fin sh.rank → ℕ}
    {inb : ∀ a, off a + size a ≤ sh.size a} {w : (Rect.unit off size inb).shape.Idx → Val e}
    {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α}
    (h : Run defs 𝒱 c bd E held (k ⟨⟩) (upd (VecWindow.put X off size w)) Q) :
    Run defs 𝒱 c bd E held (Prog.lift (.store m (Rect.unit off size inb) w Finset.univ hx hm) >>= k) s Q := by
  intro K hK
  refine hg.trans ?_
  rw [owns_eq_rep]
  have h' := h K hK
  have hw : (m.view.loc c ↦[m.view.set]{fullShare} m.view.rep X : sProp (MT nD τ sig Ix Val Name U Lvl))
      ⊢ iprop(((m.view.loc c ↦[m.view.set]{fullShare} m.view.writes Val (m.view.rep X) [⟨Rect.unit off size inb, w⟩])
          -∗ wp frame (wpE defs 𝒱 c bd) E (k ⟨⟩) K)
        -∗ wp frame (wpE defs 𝒱 c bd) E (Prog.lift (.store m (Rect.unit off size inb) w Finset.univ hx hm) >>= k) K) :=
    wp_store_writes₀ 𝒱 c bd E (hx := hx) (hm := hm) (k := k) (View.set_slice_subset m.view _)
  have hr := pointsTo_rep_of_read (Ix := Ix) (Name := Name) (U := U) (Lvl := Lvl) c m
    (m.view.writes Val (m.view.rep X) [⟨Rect.unit off size inb, w⟩]) fullShare _ (View.read_writes_rep_unit m.view X inb w rfl)
  rw [← owns_eq_rep] at hr
  iintro ⟨H, HR⟩
  iapply hw $$ H
  iintro H
  iapply h'
  iapply HR
  iapply hr $$ H

/-- A window read, changed and written back. -/
theorem Run.storeSub {s : St} {Q : α → St → Prop} {sh : Shape} {e : EltTy} {m : Memref sig c.2.kind .vmem sh e}
    {X : sh.Idx → Val e} {upd : (sh.Idx → Val e) → St} (hget : Gets c held s m X) (hg : Sets c held s m X upd) {off size : Fin sh.rank → ℕ}
    {inb : ∀ a, off a + size a ≤ sh.size a} {w : ((Rect.unit off size inb).shape.Idx → Val e) → ((Rect.unit off size inb).shape.Idx → Val e)}
    {hl : m.view.LoadsAt (Rect.unit off size inb).toLoadRect} {hs : (m.access (Rect.unit off size inb)).Stores Finset.univ}
    {k : PUnit → Prog (TpuEff nD τ sig Val Λ c.2) α}
    (h : Run defs 𝒱 c bd E held (k ⟨⟩) (upd (VecWindow.put X off size (w (VecWindow.window X off size inb)))) Q) :
    Run defs 𝒱 c bd E held (storeSubelements m (Rect.unit off size inb) w hl hs >>= k) s Q :=
  Run.load (k := fun old => Prog.lift (.store m (Rect.unit off size inb) (w old) Finset.univ hs (.inl rfl)) >>= k) (hl := hl) hget
    (Run.store hg h)

/-- A counted loop, by an invariant on the states. -/
theorem Run.loop {s : St} {Q : Unit → St → Prop} {l : Scf.Loop 32} {hok : l.OK}
    {body : Fin l.trips → Unit → Prog (TpuEff nD τ sig Val Λ c.2) Unit} (I : Nat → St → Prop) (h0 : I 0 s)
    (hbody : ∀ (k : Fin l.trips) s, I k s → Run defs 𝒱 c bd E held (body k ()) s (fun _ s' => I (k.val + 1) s'))
    (hend : ∀ s', I l.trips s' → Q () s') :
    Run defs 𝒱 c bd E held (Scf.Loop.for l hok () body) s Q := by
  intro K hK
  have hw := Scf.wp_for frame (wpE defs 𝒱 c bd) E l.lb l.ub l.st hok () body
    (fun n _ => iprop(∃ s, ⌜I n s⌝ ∗ held s)) (fun k acc => by
      iintro ⟨%s, %hs, H⟩
      iapply (hbody k s hs (fun _ => iprop(∃ s, ⌜I (k.val + 1) s⌝ ∗ held s)) (fun r s' hs' => by
        iintro H
        iexists s'
        isplitr
        · ipureintro; exact hs'
        · iexact H))
      iexact H) (Q := K)
  refine Entails.trans ?_ hw
  iintro H
  isplitl [H]
  · iexists s
    isplitr
    · ipureintro; exact h0
    · iexact H
  · iintro %acc ⟨%s', %hs', H⟩
    iapply (hK () s' (hend s' hs'))
    iexact H

end Cert.Proof
-- ==== Proof.Lanes.lean ====
module

public import proofs.«01_k».proof.Proof.Runs
public import proofs.«01_k».proof.Proof.Gen.KernelIdeal
public import Idealize.ShloMosaic.Lib.Pointwise

/-! One lane of the two unrolled loops of the kernel's body: the gather of a parent's row into the table of parents, and
    the scatter-add of a child's row onto its parent's sum. Everything is stated for an arbitrary arithmetic `F`. -/

@[expose] public section

noncomputable section

namespace Cert.Proof

open Idealize.ShloMosaic Idealize.SL.Sem
open Cert.KernelIdeal

variable {F : FTy → Type} [FloatOps F]

/-- A window of a matrix, at an index. -/
theorem window2 {α : Type} {n m : Nat} (X : (⟨2, ![n, m]⟩ : Shape).Idx → α) (o p s r : Nat)
    (inb : ∀ a, (![o, p] : Fin 2 → Nat) a + (![s, r] : Fin 2 → Nat) a ≤ (⟨2, ![n, m]⟩ : Shape).size a)
    (x : (Rect.unit (s := ⟨2, ![n, m]⟩) ![o, p] ![s, r] inb).shape.Idx) :
    VecWindow.window (s := ⟨2, ![n, m]⟩) X ![o, p] ![s, r] inb x
      = X (ix2 ⟨o + (x 0).val, Nat.lt_of_lt_of_le (Nat.add_lt_add_left (x 0).isLt o) (inb 0)⟩
          ⟨p + (x 1).val, Nat.lt_of_lt_of_le (Nat.add_lt_add_left (x 1).isLt p) (inb 1)⟩) :=
  congrArg X (funext fun a => Fin.ext (match a with
    | ⟨0, _⟩ => (by show o + 1 * (x 0).val = o + (x 0).val; omega)
    | ⟨1, _⟩ => (by show p + 1 * (x 1).val = p + (x 1).val; omega)))

/-- A window of a rank-3 array, at an index. -/
theorem window3 {α : Type} {n m l : Nat} (X : (⟨3, ![n, m, l]⟩ : Shape).Idx → α) (o p q s r u : Nat)
    (inb : ∀ a, (![o, p, q] : Fin 3 → Nat) a + (![s, r, u] : Fin 3 → Nat) a ≤ (⟨3, ![n, m, l]⟩ : Shape).size a)
    (x : (Rect.unit (s := ⟨3, ![n, m, l]⟩) ![o, p, q] ![s, r, u] inb).shape.Idx) :
    VecWindow.window (s := ⟨3, ![n, m, l]⟩) X ![o, p, q] ![s, r, u] inb x
      = X (ix3 ⟨o + (x 0).val, Nat.lt_of_lt_of_le (Nat.add_lt_add_left (x 0).isLt o) (inb 0)⟩
          ⟨p + (x 1).val, Nat.lt_of_lt_of_le (Nat.add_lt_add_left (x 1).isLt p) (inb 1)⟩
          ⟨q + (x 2).val, Nat.lt_of_lt_of_le (Nat.add_lt_add_left (x 2).isLt q) (inb 2)⟩) :=
  congrArg X (funext fun a => Fin.ext (match a with
    | ⟨0, _⟩ => (by show o + 1 * (x 0).val = o + (x 0).val; omega)
    | ⟨1, _⟩ => (by show p + 1 * (x 1).val = p + (x 1).val; omega)
    | ⟨2, _⟩ => (by show q + 1 * (x 2).val = q + (x 2).val; omega)))

/-- The head of node `t` in tree `b` (0 outside the table). -/
def hd (H : Vec F S64x256 .i32) (b t : Nat) : BitVec 32 :=
  if h : b < 64 ∧ t < 256 then H (ix2 ⟨b, h.1⟩ ⟨t, h.2⟩) else 0#32

/-- The rows of the table of states after `n` lanes of the gather at node `t`: each of the first `n` trees has the row of
    its head. -/
def gat (H : Vec F S64x256 .i32) (t : Nat) (hid : Vec F S257x64x512 .bf16) (hp : Vec F S64x512 .bf16) (n : Nat) :
    Vec F S64x512 .bf16 :=
  fun j => if (j 0).val < n then
    (if h : (hd H (j 0).val t).toNat < 257 then hid (ix3 ⟨(hd H (j 0).val t).toNat, h⟩ (j 0) (j 1)) else hp j) else hp j

/-- The sums of the children after `n` lanes of the scatter at node `t`: each of the first `n` trees has its row of `h`
    added to the sum of its head. -/
def sct (H : Vec F S64x256 .i32) (t : Nat) (h : Vec F S64x512 .bf16) (cs : Vec F S257x64x512 .bf16) (n : Nat) :
    Vec F S257x64x512 .bf16 :=
  fun j => if (j 1).val < n ∧ (j 0).val = (hd H (j 1).val t).toNat then FloatOps.addf (cs j) (h (ix2 (j 1) (j 2))) else cs j

/-- The word read at `[b, t]` is the head. -/
theorem word_eq (H : Vec F S64x256 .i32) (b t : Nat) (inb : ∀ a, (![b, t] : Fin 2 → Nat) a + S1x1.size a ≤ S64x256.size a)
    (x : (Rect.unit (s := S64x256) ![b, t] S1x1.size inb).shape.Idx) :
    VecWindow.window H ![b, t] S1x1.size inb x = hd H b t := by
  have h0 : b + 1 ≤ 64 := inb 0
  have h1 : t + 1 ≤ 256 := inb 1
  unfold hd
  rw [dif_pos ⟨by omega, by omega⟩]
  unfold VecWindow.window
  refine congrArg H (funext fun a => Fin.ext ?_)
  have hx : (x a).val < S1x1.size a := (x a).isLt
  match a with
  | ⟨0, _⟩ =>
    have hx : (x 0).val < 1 := (x 0).isLt
    show b + 1 * (x 0).val = b
    omega
  | ⟨1, _⟩ =>
    have hx : (x 1).val < 1 := (x 1).isLt
    show t + 1 * (x 1).val = t
    omega

/-- A row of the sums or of the states is in bounds at every head in range. -/
theorem row_ok (v : BitVec 32) (hv : v.toNat < 257) (b : Nat) (hb : b < 64) :
    ∀ a, (![v.toNat, b, 0] : Fin 3 → Nat) a + S1x1x512.size a ≤ S257x64x512.size a := fun a =>
  match a with
  | ⟨0, _⟩ => by show v.toNat + 1 ≤ 257; omega
  | ⟨1, _⟩ => by show b + 1 ≤ 64; omega
  | ⟨2, _⟩ => by show 0 + 512 ≤ 512; omega

/-- So is the pair of rows a store goes through. -/
theorem pair_ok (v : BitVec 32) (hv : v.toNat < 257) (b : Nat) (hb : b + 2 ≤ 64) :
    ∀ a, (![v.toNat, b, 0] : Fin 3 → Nat) a + S1x2x512.size a ≤ S257x64x512.size a := fun a =>
  match a with
  | ⟨0, _⟩ => by show v.toNat + 1 ≤ 257; omega
  | ⟨1, _⟩ => by show b + 2 ≤ 64; omega
  | ⟨2, _⟩ => by show 0 + 512 ≤ 512; omega

/-- The side condition of a scatter lane. -/
theorem scatter_ok (v : BitVec 32) (hv : v.toNat < 257) (b b2 : Nat) (hb : b < 64) (hb2 : b2 + 2 ≤ 64) (h2 : 2 ∣ b2) :
    (∀ a, (![v.toNat, b, 0] : Fin 3 → Nat) a + S1x1x512.size a ≤ S257x64x512.size a) ∧
    (∀ a, (![v.toNat, b2, 0] : Fin 3 → Nat) a + S1x2x512.size a ≤ S257x64x512.size a) ∧
    (∀ (hinb : ∀ a, (![v.toNat, b2, 0] : Fin 3 → Nat) a + S1x2x512.size a ≤ S257x64x512.size a),
      (Rect.unit (s := S257x64x512) ![v.toNat, b2, 0] S1x2x512.size hinb).PackedRows (EltTy.packing .bf16)) :=
  ⟨row_ok v hv b hb, pair_ok v hv b2 hb2, fun _ =>
    have hr : 2 ≤ S257x64x512.rank := by decide
    .inr ⟨hr, rfl, .inl ⟨h2, (⟨1, rfl⟩ : (2 : Nat) ∣ 2)⟩⟩⟩

/-- The store of lane `b` of the gather. -/
theorem gat_put (H : Vec F S64x256 .i32) (t : Nat) (hid : Vec F S257x64x512 .bf16) (hp : Vec F S64x512 .bf16)
    (b e o : Nat) (ho : o < 2) (hb : b = e + o)
    (inb : ∀ a, (![e, 0] : Fin 2 → Nat) a + S2x512.size a ≤ S64x512.size a) (hs : S2x512.Slices ![o, 0] S1x512)
    (inb3 : ∀ a, (![(hd H b t).toNat, b, 0] : Fin 3 → Nat) a + S1x1x512.size a ≤ S257x64x512.size a)
    (h1 : S1x1x512.ShapeCasts S512) (h2 : S512.ShapeCasts S1x512) :
    VecWindow.put (gat H t hid hp b) ![e, 0] S2x512.size
      (updateSlice (VecWindow.window (gat H t hid hp b) ![e, 0] S2x512.size inb)
        (shapeCast S1x512 (shapeCast S512 (VecWindow.window hid ![(hd H b t).toNat, b, 0] S1x1x512.size inb3) h1) h2) ![o, 0] hs)
      = gat H t hid hp (b + 1) := by
  have i0 : e + 2 ≤ 64 := inb 0
  have i3 : (hd H b t).toNat + 1 ≤ 257 := inb3 0
  funext j
  idx_vars j
  have hmem : (∀ a, (![e, 0] : Fin 2 → Nat) a ≤ (ix2 j0 j1 a).val ∧ (ix2 j0 j1 a).val < (![e, 0] : Fin 2 → Nat) a + S2x512.size a)
      ↔ e ≤ j0.val ∧ j0.val < e + 2 :=
    ⟨fun h => h 0, fun h a => match a with
      | ⟨0, _⟩ => h
      | ⟨1, _⟩ => ⟨Nat.zero_le _, by have := j1.isLt; show j1.val < 0 + 512; omega⟩⟩
  unfold VecWindow.put
  by_cases hj : e ≤ j0.val ∧ j0.val < e + 2
  · rw [dif_pos (hmem.mpr hj)]
    pointwise
    rw [window3, window2]
    unfold gat
    pointwise
    have u0 : e + (Rect.unitLocal (s := S64x512) (off := ![e, 0]) (size := S2x512.size) (ix2 j0 j1) (hmem.mpr hj) 0).val = j0.val :=
      Nat.add_sub_cancel' hj.1
    have u1 : (Rect.unitLocal (s := S64x512) (off := ![e, 0]) (size := S2x512.size) (ix2 j0 j1) (hmem.mpr hj) 1 : Fin 512) = j1 :=
      Fin.ext (Nat.sub_zero _)
    simp only [u0, u1]
    by_cases hjb : j0.val = b
    · subst hjb
      rw [dif_pos (by omega), if_pos (by omega), dif_pos (by omega)]
    · rw [dif_neg (by omega)]
      by_cases hlt : j0.val < b
      · rw [if_pos hlt, if_pos (by omega)]
      · rw [if_neg hlt, if_neg (by omega)]
  · rw [dif_neg (fun h => hj (hmem.mp h))]
    unfold gat
    pointwise
    by_cases h1 : j0.val < b
    · rw [if_pos h1, if_pos (by omega)]
    · rw [if_neg h1, if_neg (by omega)]

/-- The store of lane `b` of the scatter. -/
theorem sct_put (H : Vec F S64x256 .i32) (t : Nat) (h : Vec F S64x512 .bf16) (cs : Vec F S257x64x512 .bf16)
    (b e o : Nat) (ho : o < 2) (hb : b = e + o)
    (inb : ∀ a, (![(hd H b t).toNat, e, 0] : Fin 3 → Nat) a + S1x2x512.size a ≤ S257x64x512.size a)
    (hs : S1x2x512.Slices ![0, o, 0] S1x1x512)
    (inb3 : ∀ a, (![(hd H b t).toNat, b, 0] : Fin 3 → Nat) a + S1x1x512.size a ≤ S257x64x512.size a)
    (h1 : S1x1x512.ShapeCasts S512) (h2 : S512.ShapeCasts S1x1x512) (h3 : S64x512.Slices ![b, 0] S1x512) (h4 : S1x512.ShapeCasts S512) :
    VecWindow.put (sct H t h cs b) ![(hd H b t).toNat, e, 0] S1x2x512.size
      (updateSlice (VecWindow.window (sct H t h cs b) ![(hd H b t).toNat, e, 0] S1x2x512.size inb)
        (shapeCast S1x1x512 (addf (shapeCast S512 (VecWindow.window (sct H t h cs b) ![(hd H b t).toNat, b, 0] S1x1x512.size inb3) h1)
          (shapeCast S512 (extractStridedSlice S1x512 ![b, 0] h h3) h4)) h2) ![0, o, 0] hs)
      = sct H t h cs (b + 1) := by
  have i1 : e + 2 ≤ 64 := inb 1
  have i0 : (hd H b t).toNat + 1 ≤ 257 := inb 0
  funext j
  idx_vars j
  have hmem : (∀ a, (![(hd H b t).toNat, e, 0] : Fin 3 → Nat) a ≤ (ix3 j0 j1 j2 a).val
        ∧ (ix3 j0 j1 j2 a).val < (![(hd H b t).toNat, e, 0] : Fin 3 → Nat) a + S1x2x512.size a)
      ↔ j0.val = (hd H b t).toNat ∧ e ≤ j1.val ∧ j1.val < e + 2 :=
    ⟨fun h => ⟨by have : (hd H b t).toNat ≤ j0.val ∧ j0.val < (hd H b t).toNat + 1 := h 0; omega, h 1⟩, fun h a => match a with
      | ⟨0, _⟩ => (by show (hd H b t).toNat ≤ j0.val ∧ j0.val < (hd H b t).toNat + 1; omega)
      | ⟨1, _⟩ => h.2
      | ⟨2, _⟩ => ⟨Nat.zero_le _, by have := j2.isLt; show j2.val < 0 + 512; omega⟩⟩
  unfold VecWindow.put
  by_cases hj : j0.val = (hd H b t).toNat ∧ e ≤ j1.val ∧ j1.val < e + 2
  · rw [dif_pos (hmem.mpr hj)]
    pointwise
    rw [window3, window3]
    unfold sct
    pointwise
    have u0 : e + (Rect.unitLocal (s := S257x64x512) (off := ![(hd H b t).toNat, e, 0]) (size := S1x2x512.size) (ix3 j0 j1 j2) (hmem.mpr hj) 1).val = j1.val :=
      Nat.add_sub_cancel' hj.2.1
    have u1 : (Rect.unitLocal (s := S257x64x512) (off := ![(hd H b t).toNat, e, 0]) (size := S1x2x512.size) (ix3 j0 j1 j2) (hmem.mpr hj) 2 : Fin 512) = j2 :=
      Fin.ext (Nat.sub_zero _)
    have hj0 := hj.1
    simp only [u0, u1]
    by_cases hjb : j1.val = b
    · subst hjb
      rw [dif_pos (by omega), if_pos ⟨by omega, hj0⟩]
      simp only [← hj0, Fin.eta]
    · rw [dif_neg (by omega)]
      simp only [← hj0, Fin.eta]
      by_cases hlt : j1.val < b
      · have hlt' : j1.val < b + 1 := by omega
        simp only [hlt, hlt', true_and]
      · have hlt' : ¬ j1.val < b + 1 := by omega
        simp only [hlt, hlt', false_and]
  · rw [dif_neg (fun h => hj (hmem.mp h))]
    unfold sct
    pointwise
    by_cases hjb : j1.val = b
    · have : ¬ (j0.val = (hd H j1.val t).toNat) := by rw [hjb]; omega
      simp only [this, and_false]
    · have : j1.val < b ↔ j1.val < b + 1 := by omega
      simp only [this]

end Cert.Proof
-- ==== Proof.Body.lean ====
module

public import proofs.«01_k».proof.Proof.Lanes
public import proofs.«01_k».proof.Proof.Gen.KernelIdeal.Skeleton

/-! The kernel's body as a run on the contents of its buffers. -/

@[expose] public section

noncomputable section

namespace Cert.Proof

open Idealize.ShloMosaic
open Idealize.SL
open Idealize.SL.RA Idealize.SL.Sem Idealize.SL.ProofMode
open Idealize.SL.BI (sProp bigSep)
open scoped Idealize.SL.BI
open Idealize.SL.BI.BIBase Idealize.SL.BI.Laws
open Cert.KernelIdeal Cert.KernelIdeal.Gen

variable {F : FTy → Type} [FloatOps F]

/-- What the buffers that the body writes hold: the two result blocks, the sums of the children, the states of the
    top-down pass, the two products of the inputs with the input weights, the states of the parents. -/
structure Bufs (F : FTy → Type) where
  o10 : Vec F S8x64x512 .bf16
  o11 : Vec F S8x64x512 .bf16
  cs : Vec F S257x64x512 .bf16
  hid : Vec F S257x64x512 .bf16
  gx : Vec F S512x1536 .f32
  gy : Vec F S512x1536 .f32
  hp : Vec F S64x512 .bf16

/-- What the buffers that the body only reads hold. -/
structure Ins (F : FTy → Type) where
  H : Vec F S64x256 .i32
  xr : Vec F S8x64x512 .f32
  xf : Vec F S8x64x512 .f32
  wd : Vec F S512x1536 .f32
  ud : Vec F S512x1536 .f32
  bd : Vec F S1x1536 .f32
  wt : Vec F S512x1536 .f32
  ut : Vec F S512x1536 .f32
  bt : Vec F S1x1536 .f32

variable {Ix : Type} [DecidableEq Ix] {Name : Type} [DecidableEq Name] {U : Type} [URA U] {Lvl : Type} [Preorder Lvl]
  {defs : Defs nD τ sig (Elt F) Λ₀} {𝒱 : Variants} {c : Dev nD} {bd : Option 𝒱.V} {E : Set Name}
  {held : Bufs F → sProp (MT nD τ sig Ix (Elt F) Name U Lvl)}

variable (c held) in
/-- The assertion `held` gives each of the body's buffers. -/
structure Acc (I : Ins F) (arg1 : Memref sig .tc .smem S64x256 .i32) (arg2 arg3 : Memref sig .tc .vmem S8x64x512 .f32)
    (arg4 arg5 : Memref sig .tc .vmem S512x1536 .f32) (arg6 : Memref sig .tc .vmem S1x1536 .f32)
    (arg7 arg8 : Memref sig .tc .vmem S512x1536 .f32) (arg9 : Memref sig .tc .vmem S1x1536 .f32)
    (arg10 arg11 : Memref sig .tc .vmem S8x64x512 .bf16) (arg12 arg13 : Memref sig .tc .vmem S257x64x512 .bf16)
    (arg14 arg15 : Memref sig .tc .vmem S512x1536 .f32) (arg16 : Memref sig .tc .vmem S64x512 .bf16) : Prop where
  g1 : ∀ s, Gets c.tc held s arg1 I.H
  g2 : ∀ s, Gets c.tc held s arg2 I.xr
  g3 : ∀ s, Gets c.tc held s arg3 I.xf
  g4 : ∀ s, Gets c.tc held s arg4 I.wd
  g5 : ∀ s, Gets c.tc held s arg5 I.ud
  g6 : ∀ s, Gets c.tc held s arg6 I.bd
  g7 : ∀ s, Gets c.tc held s arg7 I.wt
  g8 : ∀ s, Gets c.tc held s arg8 I.ut
  g9 : ∀ s, Gets c.tc held s arg9 I.bt
  s10 : ∀ a b cs hid gx gy hp, Sets c.tc held ⟨a, b, cs, hid, gx, gy, hp⟩ arg10 a (fun X => ⟨X, b, cs, hid, gx, gy, hp⟩)
  s11 : ∀ a b cs hid gx gy hp, Sets c.tc held ⟨a, b, cs, hid, gx, gy, hp⟩ arg11 b (fun X => ⟨a, X, cs, hid, gx, gy, hp⟩)
  s12 : ∀ a b cs hid gx gy hp, Sets c.tc held ⟨a, b, cs, hid, gx, gy, hp⟩ arg12 cs (fun X => ⟨a, b, X, hid, gx, gy, hp⟩)
  s13 : ∀ a b cs hid gx gy hp, Sets c.tc held ⟨a, b, cs, hid, gx, gy, hp⟩ arg13 hid (fun X => ⟨a, b, cs, X, gx, gy, hp⟩)
  s14 : ∀ a b cs hid gx gy hp, Sets c.tc held ⟨a, b, cs, hid, gx, gy, hp⟩ arg14 gx (fun X => ⟨a, b, cs, hid, X, gy, hp⟩)
  s15 : ∀ a b cs hid gx gy hp, Sets c.tc held ⟨a, b, cs, hid, gx, gy, hp⟩ arg15 gy (fun X => ⟨a, b, cs, hid, gx, X, hp⟩)
  s16 : ∀ a b cs hid gx gy hp, Sets c.tc held ⟨a, b, cs, hid, gx, gy, hp⟩ arg16 hp (fun X => ⟨a, b, cs, hid, gx, gy, X⟩)

/-- A buffer that can be written can be read, if writing back what it holds changes nothing. -/
theorem Sets.gets {St : Type} {held : St → sProp (MT nD τ sig Ix (Elt F) Name U Lvl)} {c : Thread nD τ} {s : St} {sp : Space}
    {sh : Shape} {e : EltTy} {m : Memref sig c.2.kind sp sh e} {X : sh.Idx → Elt F e} {upd : (sh.Idx → Elt F e) → St}
    (h : Sets c held s m X upd) (hs : upd X = s) : Gets c held s m X := by
  refine ⟨fullShare, h.trans ?_⟩
  iintro ⟨H, HR⟩
  isplitl [H]
  · iexact H
  · iintro H
    rw [← hs]
    iapply HR $$ H

variable {I : Ins F} {arg1 : Memref sig .tc .smem S64x256 .i32} {arg2 arg3 : Memref sig .tc .vmem S8x64x512 .f32}
    {arg4 arg5 : Memref sig .tc .vmem S512x1536 .f32} {arg6 : Memref sig .tc .vmem S1x1536 .f32}
    {arg7 arg8 : Memref sig .tc .vmem S512x1536 .f32} {arg9 : Memref sig .tc .vmem S1x1536 .f32}
    {arg10 arg11 : Memref sig .tc .vmem S8x64x512 .bf16} {arg12 arg13 : Memref sig .tc .vmem S257x64x512 .bf16}
    {arg14 arg15 : Memref sig .tc .vmem S512x1536 .f32} {arg16 : Memref sig .tc .vmem S64x512 .bf16}
    {α : Type} {s : Bufs F} {Q : α → Bufs F → Prop}

/-- One row can be cut out of the rows of the trees. -/
theorem slices_ok (n : Nat) (hn : n < 64) : S64x512.Slices ![n, 0] S1x512 :=
  ⟨rfl, fun a => match a with
    | ⟨0, _⟩ => (by show n + 1 ≤ 64; omega)
    | ⟨1, _⟩ => (by show 0 + 512 ≤ 512; omega)⟩

section Rules

variable (A : Acc c held I arg1 arg2 arg3 arg4 arg5 arg6 arg7 arg8 arg9 arg10 arg11 arg12 arg13 arg14 arg15 arg16)
include A

/-- The read of a head. -/
theorem Acc.word {off : Fin 2 → Nat} [hc : ClosedOff off] {b t : Nat} (hf : ClosedOff.form off = ![b, t])
    {inb : ∀ a, off a + S1x1.size a ≤ S64x256.size a}
    {h1 : S1x1.numel = 1} {hp : EltTy.packing .i32 = 1}
    {k : Elt F .i32 → Prog (TpuEff nD τ sig (Elt F) Λ₀ .tc) α}
    (h : Run defs 𝒱 c.tc bd E held (k (hd I.H b t)) s Q) :
    Run defs 𝒱 c.tc bd E held (smemLoad arg1 (Rect.unit (s := S64x256) off S1x1.size inb) h1 hp >>= k) s Q := by
  obtain rfl : off = ![b, t] := hc.eq.trans hf
  refine Run.word (A.g1 s) ?_
  rw [word_eq]
  exact h

/-- The read of a head that ends a part of the body. -/
theorem Acc.wordEnd {off : Fin 2 → Nat} [hc : ClosedOff off] {b t : Nat} (hf : ClosedOff.form off = ![b, t])
    {inb : ∀ a, off a + S1x1.size a ≤ S64x256.size a} {h1 : S1x1.numel = 1} {hp : EltTy.packing .i32 = 1}
    {Q : Elt F .i32 → Bufs F → Prop} (h : Q (hd I.H b t) s) :
    Run defs 𝒱 c.tc bd E held (smemLoad arg1 (Rect.unit (s := S64x256) off S1x1.size inb) h1 hp) s Q :=
  A.word (h1 := h1) (hp := hp) (k := fun v => (pure v : Prog (TpuEff nD τ sig (Elt F) Λ₀ .tc) (Elt F .i32))) hf (Run.ret _ h)

/-- The read of a buffer. -/
theorem Acc.load {sh : Shape} {e : EltTy} {m : Memref sig .tc .vmem sh e}
    {X : sh.Idx → Elt F e} (hg : Gets c.tc held s m X) {off size : Fin sh.rank → ℕ} {inb : ∀ a, off a + size a ≤ sh.size a}
    {hl : m.view.LoadsAt (Rect.unit off size inb).toLoadRect}
    {k : ((Rect.unit off size inb).shape.Idx → Elt F e) → Prog (TpuEff nD τ sig (Elt F) Λ₀ .tc) α}
    (h : Run defs 𝒱 c.tc bd E held (k (VecWindow.window X off size inb)) s Q) :
    Run defs 𝒱 c.tc bd E held (Prog.lift (.load m (Rect.unit off size inb).toLoadRect hl) >>= k) s Q :=
  Run.load hg h

/-- A write to a buffer. -/
theorem Acc.store {sh : Shape} {e : EltTy} {m : Memref sig .tc .vmem sh e}
    {X : sh.Idx → Elt F e} {upd : (sh.Idx → Elt F e) → Bufs F} (hg : Sets c.tc held s m X upd) {off size : Fin sh.rank → ℕ}
    {inb : ∀ a, off a + size a ≤ sh.size a} {w : (Rect.unit off size inb).shape.Idx → Elt F e}
    {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α}
    (h : Run defs 𝒱 c.tc bd E held (k ⟨⟩) (upd (VecWindow.put X off size w)) Q) :
    Run defs 𝒱 c.tc bd E held (Prog.lift (.store m (Rect.unit off size inb) w Finset.univ hx hm) >>= k) s Q :=
  Run.store hg h

/-- A condition that the body assumes. -/
theorem Acc.assume {C : Prop} {dec : Decidable C} (hc : C) {k : PLift C → Prog (TpuEff nD τ sig (Elt F) Λ₀ .tc) α}
    (h : Run defs 𝒱 c.tc bd E held (k ⟨hc⟩) s Q) :
    Run defs 𝒱 c.tc bd E held (Prog.lift (TpuEff.assume C dec) >>= k) s Q :=
  Run.assume hc h

/-- A returned value. -/
theorem Acc.ret (a : α) (h : Q a s) : Run defs 𝒱 c.tc bd E held (pure a : Prog (TpuEff nD τ sig (Elt F) Λ₀ .tc) α) s Q :=
  Run.ret a h

/-- What buffer 10 holds can be read. -/
theorem Acc.g10 (a b : Vec F S8x64x512 .bf16) (cs hid : Vec F S257x64x512 .bf16) (gx gy : Vec F S512x1536 .f32) (hp : Vec F S64x512 .bf16) :
    Gets c.tc held ⟨a, b, cs, hid, gx, gy, hp⟩ arg10 a := (A.s10 _ _ _ _ _ _ _).gets rfl

/-- What buffer 11 holds can be read. -/
theorem Acc.g11 (a b : Vec F S8x64x512 .bf16) (cs hid : Vec F S257x64x512 .bf16) (gx gy : Vec F S512x1536 .f32) (hp : Vec F S64x512 .bf16) :
    Gets c.tc held ⟨a, b, cs, hid, gx, gy, hp⟩ arg11 b := (A.s11 _ _ _ _ _ _ _).gets rfl

/-- What buffer 12 holds can be read. -/
theorem Acc.g12 (a b : Vec F S8x64x512 .bf16) (cs hid : Vec F S257x64x512 .bf16) (gx gy : Vec F S512x1536 .f32) (hp : Vec F S64x512 .bf16) :
    Gets c.tc held ⟨a, b, cs, hid, gx, gy, hp⟩ arg12 cs := (A.s12 _ _ _ _ _ _ _).gets rfl

/-- What buffer 13 holds can be read. -/
theorem Acc.g13 (a b : Vec F S8x64x512 .bf16) (cs hid : Vec F S257x64x512 .bf16) (gx gy : Vec F S512x1536 .f32) (hp : Vec F S64x512 .bf16) :
    Gets c.tc held ⟨a, b, cs, hid, gx, gy, hp⟩ arg13 hid := (A.s13 _ _ _ _ _ _ _).gets rfl

/-- What buffer 14 holds can be read. -/
theorem Acc.g14 (a b : Vec F S8x64x512 .bf16) (cs hid : Vec F S257x64x512 .bf16) (gx gy : Vec F S512x1536 .f32) (hp : Vec F S64x512 .bf16) :
    Gets c.tc held ⟨a, b, cs, hid, gx, gy, hp⟩ arg14 gx := (A.s14 _ _ _ _ _ _ _).gets rfl

/-- What buffer 15 holds can be read. -/
theorem Acc.g15 (a b : Vec F S8x64x512 .bf16) (cs hid : Vec F S257x64x512 .bf16) (gx gy : Vec F S512x1536 .f32) (hp : Vec F S64x512 .bf16) :
    Gets c.tc held ⟨a, b, cs, hid, gx, gy, hp⟩ arg15 gy := (A.s15 _ _ _ _ _ _ _).gets rfl

/-- What buffer 16 holds can be read. -/
theorem Acc.g16 (a b : Vec F S8x64x512 .bf16) (cs hid : Vec F S257x64x512 .bf16) (gx gy : Vec F S512x1536 .f32) (hp : Vec F S64x512 .bf16) :
    Gets c.tc held ⟨a, b, cs, hid, gx, gy, hp⟩ arg16 hp := (A.s16 _ _ _ _ _ _ _).gets rfl

/-- The store of one lane of the gather. -/
theorem Acc.gather {e o n t : Nat} {a b : Vec F S8x64x512 .bf16} {cs hid : Vec F S257x64x512 .bf16} {gx gy : Vec F S512x1536 .f32}
    {hp : Vec F S64x512 .bf16} {pay : Vec F S1x512 .bf16} {inb : ∀ a, (![e, 0] : Fin 2 → Nat) a + S2x512.size a ≤ S64x512.size a}
    {hs : S2x512.Slices ![o, 0] S1x512} {hl : arg16.view.LoadsAt (Rect.unit (s := S64x512) ![e, 0] S2x512.size inb).toLoadRect}
    {hst : (arg16.access (Rect.unit (s := S64x512) ![e, 0] S2x512.size inb)).Stores Finset.univ}
    {k : PUnit → Prog (TpuEff nD τ sig (Elt F) Λ₀ .tc) α}
    (hv : (hd I.H n t).toNat < 257) (ho : o < 2) (hn : n < 64) (hb : n = e + o)
    (hpay : pay = shapeCast S1x512 (shapeCast S512 (VecWindow.window hid ![(hd I.H n t).toNat, n, 0] S1x1x512.size (row_ok _ hv n hn))
      shapeCasts_S1x1x512_S512) shapeCasts_S512_S1x512)
    (h : Run defs 𝒱 c.tc bd E held (k ⟨⟩) ⟨a, b, cs, hid, gx, gy, gat I.H t hid hp (n + 1)⟩ Q) :
    Run defs 𝒱 c.tc bd E held (storeSubelements arg16 (Rect.unit (s := S64x512) ![e, 0] S2x512.size inb)
      (fun old => updateSlice old pay ![o, 0] hs) hl hst >>= k) ⟨a, b, cs, hid, gx, gy, gat I.H t hid hp n⟩ Q := by
  subst hpay
  refine Run.storeSub ((A.s16 _ _ _ _ _ _ _).gets rfl) (A.s16 _ _ _ _ _ _ _) ?_
  rw [gat_put I.H t hid hp n e o ho hb]
  exact h

/-- The store of the first lane of the gather. -/
theorem Acc.gather0 {t : Nat} {a b : Vec F S8x64x512 .bf16} {cs hid : Vec F S257x64x512 .bf16} {gx gy : Vec F S512x1536 .f32}
    {hp : Vec F S64x512 .bf16} {pay : Vec F S1x512 .bf16} {inb : ∀ a, (![0, 0] : Fin 2 → Nat) a + S2x512.size a ≤ S64x512.size a}
    {hs : S2x512.Slices ![0, 0] S1x512} {hl : arg16.view.LoadsAt (Rect.unit (s := S64x512) ![0, 0] S2x512.size inb).toLoadRect}
    {hst : (arg16.access (Rect.unit (s := S64x512) ![0, 0] S2x512.size inb)).Stores Finset.univ}
    {k : PUnit → Prog (TpuEff nD τ sig (Elt F) Λ₀ .tc) α}
    (hv : (hd I.H 0 t).toNat < 257)
    (hpay : pay = shapeCast S1x512 (shapeCast S512 (VecWindow.window hid ![(hd I.H 0 t).toNat, 0, 0] S1x1x512.size (row_ok _ hv 0 (by decide)))
      shapeCasts_S1x1x512_S512) shapeCasts_S512_S1x512)
    (h : Run defs 𝒱 c.tc bd E held (k ⟨⟩) ⟨a, b, cs, hid, gx, gy, gat I.H t hid hp 1⟩ Q) :
    Run defs 𝒱 c.tc bd E held (storeSubelements arg16 (Rect.unit (s := S64x512) ![0, 0] S2x512.size inb)
      (fun old => updateSlice old pay ![0, 0] hs) hl hst >>= k) ⟨a, b, cs, hid, gx, gy, hp⟩ Q := by
  have hz : gat I.H t hid hp 0 = hp := funext fun j => if_neg (Nat.not_lt_zero _)
  have := A.gather (defs := defs) (𝒱 := 𝒱) (bd := bd) (E := E) (a := a) (b := b) (cs := cs) (gx := gx) (gy := gy) (hp := hp)
    (inb := inb) (hs := hs) (hl := hl) (hst := hst) hv (by decide) (by decide) rfl hpay h
  rwa [hz] at this

/-- The store of one lane of the scatter. -/
theorem Acc.scatter {o n t : Nat} {r : Vec F S64x512 .bf16} {a b : Vec F S8x64x512 .bf16} {cs hid : Vec F S257x64x512 .bf16}
    {gx gy : Vec F S512x1536 .f32} {hp : Vec F S64x512 .bf16} {pay : Vec F S1x1x512 .bf16} {off : Fin 3 → Nat}
    {inb : ∀ a, off a + S1x2x512.size a ≤ S257x64x512.size a}
    {hs : S1x2x512.Slices ![0, o, 0] S1x1x512} {hl : arg12.view.LoadsAt (Rect.unit (s := S257x64x512) off S1x2x512.size inb).toLoadRect}
    {hst : (arg12.access (Rect.unit (s := S257x64x512) off S1x2x512.size inb)).Stores Finset.univ}
    {k : PUnit → Prog (TpuEff nD τ sig (Elt F) Λ₀ .tc) α}
    (hv : (hd I.H n t).toNat < 257) (ho : o < 2) (hn : n < 64) (hle : o ≤ n) (hoff : off = ![(hd I.H n t).toNat, n - o, 0])
    (hpay : pay = shapeCast S1x1x512 (addf (shapeCast S512 (VecWindow.window (sct I.H t r cs n) ![(hd I.H n t).toNat, n, 0] S1x1x512.size
      (row_ok _ hv n hn)) shapeCasts_S1x1x512_S512) (shapeCast S512 (extractStridedSlice S1x512 ![n, 0] r (slices_ok n hn)) shapeCasts_S1x512_S512))
      shapeCasts_S512_S1x1x512)
    (h : Run defs 𝒱 c.tc bd E held (k ⟨⟩) ⟨a, b, sct I.H t r cs (n + 1), hid, gx, gy, hp⟩ Q) :
    Run defs 𝒱 c.tc bd E held (storeSubelements arg12 (Rect.unit (s := S257x64x512) off S1x2x512.size inb)
      (fun old => updateSlice old pay ![0, o, 0] hs) hl hst >>= k) ⟨a, b, sct I.H t r cs n, hid, gx, gy, hp⟩ Q := by
  subst hpay hoff
  refine Run.storeSub ((A.s12 _ _ _ _ _ _ _).gets rfl) (A.s12 _ _ _ _ _ _ _) ?_
  rw [sct_put I.H t r cs n (n - o) o ho (Nat.sub_add_cancel hle).symm]
  exact h

/-- The store of the first lane of the scatter. -/
theorem Acc.scatter0 {t : Nat} {r : Vec F S64x512 .bf16} {a b : Vec F S8x64x512 .bf16} {cs hid : Vec F S257x64x512 .bf16}
    {gx gy : Vec F S512x1536 .f32} {hp : Vec F S64x512 .bf16} {pay : Vec F S1x1x512 .bf16} {off : Fin 3 → Nat}
    {inb : ∀ a, off a + S1x2x512.size a ≤ S257x64x512.size a}
    {hs : S1x2x512.Slices ![0, 0, 0] S1x1x512} {hl : arg12.view.LoadsAt (Rect.unit (s := S257x64x512) off S1x2x512.size inb).toLoadRect}
    {hst : (arg12.access (Rect.unit (s := S257x64x512) off S1x2x512.size inb)).Stores Finset.univ}
    {k : PUnit → Prog (TpuEff nD τ sig (Elt F) Λ₀ .tc) α}
    (hv : (hd I.H 0 t).toNat < 257) (hoff : off = ![(hd I.H 0 t).toNat, 0, 0])
    (hpay : pay = shapeCast S1x1x512 (addf (shapeCast S512 (VecWindow.window cs ![(hd I.H 0 t).toNat, 0, 0] S1x1x512.size
      (row_ok _ hv 0 (by decide))) shapeCasts_S1x1x512_S512) (shapeCast S512 (extractStridedSlice S1x512 ![0, 0] r (slices_ok 0 (by decide))) shapeCasts_S1x512_S512))
      shapeCasts_S512_S1x1x512)
    (h : Run defs 𝒱 c.tc bd E held (k ⟨⟩) ⟨a, b, sct I.H t r cs 1, hid, gx, gy, hp⟩ Q) :
    Run defs 𝒱 c.tc bd E held (storeSubelements arg12 (Rect.unit (s := S257x64x512) off S1x2x512.size inb)
      (fun old => updateSlice old pay ![0, 0, 0] hs) hl hst >>= k) ⟨a, b, cs, hid, gx, gy, hp⟩ Q := by
  have hz : sct I.H t r cs 0 = cs := funext fun j => if_neg (fun h => Nat.not_lt_zero _ h.1)
  have := A.scatter (defs := defs) (𝒱 := 𝒱) (bd := bd) (E := E) (r := r) (cs := cs) (a := a) (b := b) (hid := hid) (gx := gx) (gy := gy) (hp := hp)
    (inb := inb) (hs := hs) (hl := hl) (hst := hst) (n := 0) (t := t) (pay := pay) hv (by decide) (by decide) (by decide) hoff (by rw [hz]; exact hpay) h
  rwa [hz] at this

end Rules

/-- The new states of the bottom-up pass, before rounding. -/
def stepUp (i : grid0.Coords) (k : Fin k0_t1_loop.trips) (v21 : FVec F S1x1536 .f32) (v24 : Vec F S512x1536 .f32) (s : Bufs F) :
    FVec F S64x512 .f32 :=
  k0_pay84 v21 v24 (VecWindow.window s.cs (k0_off129 i k) S1x64x512.size (k0_off129_inb i k))
    (VecWindow.window s.gx (k0_off130 k) S64x1536.size (k0_off130_inb k))

/-- The states of the parents that the top-down pass reads. -/
def parents (I : Ins F) (i : grid0.Coords) (k : Fin k0_t1_loop.trips) (s : Bufs F) : Vec F S64x512 .bf16 :=
  gat I.H (8 * (i 0).val + k.val) s.hid s.hp 64

/-- One trip of the body's loop, on the contents of the buffers. -/
def trip (I : Ins F) (i : grid0.Coords) (k : Fin k0_t1_loop.trips) (v21 v23 : FVec F S1x1536 .f32) (s : Bufs F) : Bufs F :=
  let p := VecWindow.window (parents I i k s) ![0, 0] S64x512.size inb_S64x512_S64x512_0_0
  let y := VecWindow.window s.gy (k0_off131 k) S64x1536.size (k0_off131_inb k)
  { o10 := VecWindow.put s.o10 (k0_off132 k) S1x64x512.size (k0_pay89 (stepUp i k v21 I.ud s))
    o11 := VecWindow.put s.o11 (k0_off133 k) S1x64x512.size
      (k0_pay90 v23 (k0_pay82 p) (k0_pay83 I.ut p) y (k0_pay85 y) (k0_pay86 v23))
    cs := sct I.H (255 - (8 * (i 0).val + k.val)) (k0_pay88 (stepUp i k v21 I.ud s)) s.cs 64
    hid := VecWindow.put s.hid (k0_off134 i k) S1x64x512.size
      (k0_pay91 v23 (k0_pay82 p) (k0_pay83 I.ut p) y (k0_pay85 y) (k0_pay86 v23))
    gx := s.gx
    gy := s.gy
    hp := parents I i k s }

set_option maxHeartbeats 40000000 in
/-- One trip of the body's loop runs as `trip` says. -/
theorem Acc.trip (A : Acc c held I arg1 arg2 arg3 arg4 arg5 arg6 arg7 arg8 arg9 arg10 arg11 arg12 arg13 arg14 arg15 arg16)
    (hv : ∀ b t, (hd I.H b t).toNat < 257) (i : grid0.Coords) (k : Fin k0_t1_loop.trips) (harg1 : arg1.IsWhole) (harg2 : arg2.IsWhole)
    (harg3 : arg3.IsWhole) (harg4 : arg4.IsWhole) (harg5 : arg5.IsWhole) (harg6 : arg6.IsWhole) (harg7 : arg7.IsWhole)
    (harg8 : arg8.IsWhole) (harg9 : arg9.IsWhole) (harg10 : arg10.IsWhole) (harg11 : arg11.IsWhole) (harg12 : arg12.IsWhole)
    (harg13 : arg13.IsWhole) (harg14 : arg14.IsWhole) (harg15 : arg15.IsWhole) (harg16 : arg16.IsWhole) (v18 v19 : BitVec 32)
    (v21 v23 : FVec F S1x1536 .f32) (s : Bufs F) :
    Run defs 𝒱 c.tc bd E held (k0_t1_body (F := F) i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16 v18 v19 v21 v23 I.ud I.ut
      0#32 k ()) s (fun _ s' => s' = trip I i k v21 v23 s) := by
  obtain ⟨o10, o11, cs, hid, gx, gy, hp⟩ := s
  unfold k0_t1_body
  beta_reduce
  refine Run.bind ?_
  rw [k0_part1_eq_skeleton]; unfold k0_part1_skel
  refine A.word rfl ?_
  repeat first
    | (with_reducible refine A.assume ?_ ?_
       · first
         | exact row_ok _ (hv _ _) _ (by decide)
         | exact scatter_ok _ (hv _ _) _ _ (by decide) (by decide) (by decide))
    | (with_reducible refine A.gather (t := 8 * (i 0).val + k.val) (hv _ _) ?_ ?_ ?_ ?_ ?_
       · decide
       · decide
       · exact rfl
       · exact rfl)
    | (with_reducible refine A.gather0 (t := 8 * (i 0).val + k.val) (hv _ _) ?_ ?_
       · exact rfl)
    | (with_reducible refine A.scatter (t := 255 - (8 * (i 0).val + k.val)) (hv _ _) ?_ ?_ ?_ ?_ ?_ ?_
       · decide
       · decide
       · decide
       · exact rfl
       · exact rfl)
    | (with_reducible refine A.scatter0 (t := 255 - (8 * (i 0).val + k.val)) (r := k0_pay88 (stepUp i k v21 I.ud ⟨o10, o11, cs, hid, gx, gy, hp⟩)) (hv _ _) ?_ ?_ ?_
       · exact rfl
       · exact rfl)
    | with_reducible refine A.load (A.g13 _ _ _ _ _ _ _) ?_
    | with_reducible refine A.load (A.g16 _ _ _ _ _ _ _) ?_
    | with_reducible refine A.load (A.g12 _ _ _ _ _ _ _) ?_
    | with_reducible refine A.load (A.g14 _ _ _ _ _ _ _) ?_
    | with_reducible refine A.load (A.g15 _ _ _ _ _ _ _) ?_
    | with_reducible refine A.load (A.g10 _ _ _ _ _ _ _) ?_
    | with_reducible refine A.load (A.g11 _ _ _ _ _ _ _) ?_
    | with_reducible refine A.store (A.s10 _ _ _ _ _ _ _) ?_
    | with_reducible refine A.store (A.s11 _ _ _ _ _ _ _) ?_
    | with_reducible refine A.store (A.s13 _ _ _ _ _ _ _) ?_
    | (with_reducible refine A.ret _ ?_
       beta_reduce
       try
         refine Run.bind ?_
         first
           | (rw [k0_part2_eq_skeleton]; unfold k0_part2_skel) | (rw [k0_part3_eq_skeleton]; unfold k0_part3_skel) | (rw [k0_part4_eq_skeleton]; unfold k0_part4_skel) | (rw [k0_part5_eq_skeleton]; unfold k0_part5_skel) | (rw [k0_part6_eq_skeleton]; unfold k0_part6_skel) | (rw [k0_part7_eq_skeleton]; unfold k0_part7_skel) | (rw [k0_part8_eq_skeleton]; unfold k0_part8_skel) | (rw [k0_part9_eq_skeleton]; unfold k0_part9_skel) | (rw [k0_part10_eq_skeleton]; unfold k0_part10_skel) | (rw [k0_part11_eq_skeleton]; unfold k0_part11_skel) | (rw [k0_part12_eq_skeleton]; unfold k0_part12_skel) | (rw [k0_part13_eq_skeleton]; unfold k0_part13_skel) | (rw [k0_part14_eq_skeleton]; unfold k0_part14_skel) | (rw [k0_part15_eq_skeleton]; unfold k0_part15_skel) | (rw [k0_part16_eq_skeleton]; unfold k0_part16_skel) | (rw [k0_part17_eq_skeleton]; unfold k0_part17_skel) | (rw [k0_part18_eq_skeleton]; unfold k0_part18_skel) | (rw [k0_part19_eq_skeleton]; unfold k0_part19_skel) | (rw [k0_part20_eq_skeleton]; unfold k0_part20_skel) | (rw [k0_part21_eq_skeleton]; unfold k0_part21_skel) | (rw [k0_part22_eq_skeleton]; unfold k0_part22_skel) | (rw [k0_part23_eq_skeleton]; unfold k0_part23_skel) | (rw [k0_part24_eq_skeleton]; unfold k0_part24_skel) | (rw [k0_part25_eq_skeleton]; unfold k0_part25_skel) | (rw [k0_part26_eq_skeleton]; unfold k0_part26_skel) | (rw [k0_part27_eq_skeleton]; unfold k0_part27_skel) | (rw [k0_part28_eq_skeleton]; unfold k0_part28_skel) | (rw [k0_part29_eq_skeleton]; unfold k0_part29_skel) | (rw [k0_part30_eq_skeleton]; unfold k0_part30_skel) | (rw [k0_part31_eq_skeleton]; unfold k0_part31_skel) | (rw [k0_part32_eq_skeleton]; unfold k0_part32_skel) | (rw [k0_part33_eq_skeleton]; unfold k0_part33_skel) | (rw [k0_part34_eq_skeleton]; unfold k0_part34_skel) | (rw [k0_part35_eq_skeleton]; unfold k0_part35_skel) | (rw [k0_part36_eq_skeleton]; unfold k0_part36_skel) | (rw [k0_part37_eq_skeleton]; unfold k0_part37_skel) | (rw [k0_part38_eq_skeleton]; unfold k0_part38_skel))
    | refine A.word rfl ?_
    | (refine A.wordEnd rfl ?_
       beta_reduce
       try
         refine Run.bind ?_
         first
           | (rw [k0_part2_eq_skeleton]; unfold k0_part2_skel) | (rw [k0_part3_eq_skeleton]; unfold k0_part3_skel) | (rw [k0_part4_eq_skeleton]; unfold k0_part4_skel) | (rw [k0_part5_eq_skeleton]; unfold k0_part5_skel) | (rw [k0_part6_eq_skeleton]; unfold k0_part6_skel) | (rw [k0_part7_eq_skeleton]; unfold k0_part7_skel) | (rw [k0_part8_eq_skeleton]; unfold k0_part8_skel) | (rw [k0_part9_eq_skeleton]; unfold k0_part9_skel) | (rw [k0_part10_eq_skeleton]; unfold k0_part10_skel) | (rw [k0_part11_eq_skeleton]; unfold k0_part11_skel) | (rw [k0_part12_eq_skeleton]; unfold k0_part12_skel) | (rw [k0_part13_eq_skeleton]; unfold k0_part13_skel) | (rw [k0_part14_eq_skeleton]; unfold k0_part14_skel) | (rw [k0_part15_eq_skeleton]; unfold k0_part15_skel) | (rw [k0_part16_eq_skeleton]; unfold k0_part16_skel) | (rw [k0_part17_eq_skeleton]; unfold k0_part17_skel) | (rw [k0_part18_eq_skeleton]; unfold k0_part18_skel) | (rw [k0_part19_eq_skeleton]; unfold k0_part19_skel) | (rw [k0_part20_eq_skeleton]; unfold k0_part20_skel) | (rw [k0_part21_eq_skeleton]; unfold k0_part21_skel) | (rw [k0_part22_eq_skeleton]; unfold k0_part22_skel) | (rw [k0_part23_eq_skeleton]; unfold k0_part23_skel) | (rw [k0_part24_eq_skeleton]; unfold k0_part24_skel) | (rw [k0_part25_eq_skeleton]; unfold k0_part25_skel) | (rw [k0_part26_eq_skeleton]; unfold k0_part26_skel) | (rw [k0_part27_eq_skeleton]; unfold k0_part27_skel) | (rw [k0_part28_eq_skeleton]; unfold k0_part28_skel) | (rw [k0_part29_eq_skeleton]; unfold k0_part29_skel) | (rw [k0_part30_eq_skeleton]; unfold k0_part30_skel) | (rw [k0_part31_eq_skeleton]; unfold k0_part31_skel) | (rw [k0_part32_eq_skeleton]; unfold k0_part32_skel) | (rw [k0_part33_eq_skeleton]; unfold k0_part33_skel) | (rw [k0_part34_eq_skeleton]; unfold k0_part34_skel) | (rw [k0_part35_eq_skeleton]; unfold k0_part35_skel) | (rw [k0_part36_eq_skeleton]; unfold k0_part36_skel) | (rw [k0_part37_eq_skeleton]; unfold k0_part37_skel) | (rw [k0_part38_eq_skeleton]; unfold k0_part38_skel))
  exact rfl

end Cert.Proof
-- ==== Proof.Point.lean ====
module

public import proofs.«01_k».proof.Proof.Body

/-! The whole body at one point of the grid, as a run on the contents of its buffers. -/

@[expose] public section

noncomputable section

namespace Cert.Proof

open Idealize.ShloMosaic
open Idealize.SL
open Idealize.SL.RA Idealize.SL.Sem Idealize.SL.ProofMode
open Idealize.SL.BI (sProp bigSep)
open scoped Idealize.SL.BI
open Idealize.SL.BI.BIBase Idealize.SL.BI.Laws
open Cert.KernelIdeal Cert.KernelIdeal.Gen

variable {F : FTy → Type} [FloatOps F]

/-- The window that is the whole of a matrix. -/
theorem window_all2 {α : Type} {n m : Nat} (X : (⟨2, ![n, m]⟩ : Shape).Idx → α)
    (inb : ∀ a, (![0, 0] : Fin 2 → Nat) a + (![n, m] : Fin 2 → Nat) a ≤ (⟨2, ![n, m]⟩ : Shape).size a) :
    VecWindow.window (s := ⟨2, ![n, m]⟩) X ![0, 0] ![n, m] inb = X :=
  funext fun x => congrArg X (funext fun a => Fin.ext (match a with
    | ⟨0, _⟩ => (by show 0 + 1 * (x 0).val = (x 0).val; omega)
    | ⟨1, _⟩ => (by show 0 + 1 * (x 1).val = (x 1).val; omega)))

/-- The window that is the whole of a rank-3 array. -/
theorem window_all3 {α : Type} {n m l : Nat} (X : (⟨3, ![n, m, l]⟩ : Shape).Idx → α)
    (inb : ∀ a, (![0, 0, 0] : Fin 3 → Nat) a + (![n, m, l] : Fin 3 → Nat) a ≤ (⟨3, ![n, m, l]⟩ : Shape).size a) :
    VecWindow.window (s := ⟨3, ![n, m, l]⟩) X ![0, 0, 0] ![n, m, l] inb = X :=
  funext fun x => congrArg X (funext fun a => Fin.ext (match a with
    | ⟨0, _⟩ => (by show 0 + 1 * (x 0).val = (x 0).val; omega)
    | ⟨1, _⟩ => (by show 0 + 1 * (x 1).val = (x 1).val; omega)
    | ⟨2, _⟩ => (by show 0 + 1 * (x 2).val = (x 2).val; omega)))

/-- A write over the whole of a matrix. -/
theorem put_all2 {α : Type} {n m : Nat} (X w : (⟨2, ![n, m]⟩ : Shape).Idx → α) :
    VecWindow.put (s := ⟨2, ![n, m]⟩) X ![0, 0] ![n, m] w = w := by
  funext j
  unfold VecWindow.put
  have h : ∀ a, (![0, 0] : Fin 2 → Nat) a ≤ (j a).val ∧ (j a).val < (![0, 0] : Fin 2 → Nat) a + (![n, m] : Fin 2 → Nat) a :=
    fun a => match a with
      | ⟨0, _⟩ => ⟨Nat.zero_le _, by have h := (j 0).isLt; show (j 0).val < 0 + n; rw [Nat.zero_add]; exact h⟩
      | ⟨1, _⟩ => ⟨Nat.zero_le _, by have h := (j 1).isLt; show (j 1).val < 0 + m; rw [Nat.zero_add]; exact h⟩
  rw [dif_pos h]
  exact congrArg w (funext fun a => Fin.ext (match a with
    | ⟨0, _⟩ => (by show (j 0).val - 0 = (j 0).val; omega)
    | ⟨1, _⟩ => (by show (j 1).val - 0 = (j 1).val; omega)))

/-- A write over the whole of a rank-3 array. -/
theorem put_all3 {α : Type} {n m l : Nat} (X w : (⟨3, ![n, m, l]⟩ : Shape).Idx → α) :
    VecWindow.put (s := ⟨3, ![n, m, l]⟩) X ![0, 0, 0] ![n, m, l] w = w := by
  funext j
  unfold VecWindow.put
  have h : ∀ a, (![0, 0, 0] : Fin 3 → Nat) a ≤ (j a).val ∧ (j a).val < (![0, 0, 0] : Fin 3 → Nat) a + (![n, m, l] : Fin 3 → Nat) a :=
    fun a => match a with
      | ⟨0, _⟩ => ⟨Nat.zero_le _, by have h := (j 0).isLt; show (j 0).val < 0 + n; rw [Nat.zero_add]; exact h⟩
      | ⟨1, _⟩ => ⟨Nat.zero_le _, by have h := (j 1).isLt; show (j 1).val < 0 + m; rw [Nat.zero_add]; exact h⟩
      | ⟨2, _⟩ => ⟨Nat.zero_le _, by have h := (j 2).isLt; show (j 2).val < 0 + l; rw [Nat.zero_add]; exact h⟩
  rw [dif_pos h]
  exact congrArg w (funext fun a => Fin.ext (match a with
    | ⟨0, _⟩ => (by show (j 0).val - 0 = (j 0).val; omega)
    | ⟨1, _⟩ => (by show (j 1).val - 0 = (j 1).val; omega)
    | ⟨2, _⟩ => (by show (j 2).val - 0 = (j 2).val; omega)))

/-- The body's test for the first point of the grid. -/
theorem first_iff (x : Fin 32) :
    (Scalar.cmpi .ne (Scalar.extui (Scalar.cmpi .eq (BitVec.ofNat 32 x.val) 0#32) : BitVec 32) 0#32 = 1#1) ↔ (x.val = 0) := by
  revert x; decide

/-- What the buffers hold before the first trip of the loop. -/
def start (I : Ins F) (i : grid0.Coords) (s : Bufs F) : Bufs F :=
  { o10 := s.o10
    o11 := s.o11
    cs := if (i 0).val = 0 then k0_pay168 else s.cs
    hid := if (i 0).val = 0 then VecWindow.put s.hid ![256, 0, 0] S1x64x512.size k0_pay169 else s.hid
    gx := k0_pay170 I.xr I.wd
    gy := k0_pay171 I.xf I.wt
    hp := s.hp }

/-- What they hold after `n` trips. -/
def trips (I : Ins F) (i : grid0.Coords) (s : Bufs F) : Nat → Bufs F
  | 0 => start I i s
  | n + 1 => if h : n < k0_t1_loop.trips then trip I i ⟨n, h⟩ (k0_pay172 I.bd) (k0_pay173 I.bt) (trips I i s n) else trips I i s n

/-- One more trip. -/
theorem trips_succ (I : Ins F) (i : grid0.Coords) (s : Bufs F) (k : Fin k0_t1_loop.trips) :
    trips I i s (k.val + 1) = trip I i k (k0_pay172 I.bd) (k0_pay173 I.bt) (trips I i s k.val) := by
  rw [trips, dif_pos k.isLt]

variable {Ix : Type} [DecidableEq Ix] {Name : Type} [DecidableEq Name] {U : Type} [URA U] {Lvl : Type} [Preorder Lvl]
  {defs : Defs nD τ sig (Elt F) Λ₀} {𝒱 : Variants} {c : Dev nD} {bd : Option 𝒱.V} {E : Set Name}
  {held : Bufs F → sProp (MT nD τ sig Ix (Elt F) Name U Lvl)}
  {I : Ins F} {arg1 : Memref sig .tc .smem S64x256 .i32} {arg2 arg3 : Memref sig .tc .vmem S8x64x512 .f32}
    {arg4 arg5 : Memref sig .tc .vmem S512x1536 .f32} {arg6 : Memref sig .tc .vmem S1x1536 .f32}
    {arg7 arg8 : Memref sig .tc .vmem S512x1536 .f32} {arg9 : Memref sig .tc .vmem S1x1536 .f32}
    {arg10 arg11 : Memref sig .tc .vmem S8x64x512 .bf16} {arg12 arg13 : Memref sig .tc .vmem S257x64x512 .bf16}
    {arg14 arg15 : Memref sig .tc .vmem S512x1536 .f32} {arg16 : Memref sig .tc .vmem S64x512 .bf16}

set_option maxHeartbeats 4000000 in
/-- The body at one point of the grid runs as `trips` says. -/
theorem Acc.body (A : Acc c held I arg1 arg2 arg3 arg4 arg5 arg6 arg7 arg8 arg9 arg10 arg11 arg12 arg13 arg14 arg15 arg16)
    (hv : ∀ b t, (hd I.H b t).toNat < 257) (i : grid0.Coords) (harg1 : arg1.IsWhole) (harg2 : arg2.IsWhole)
    (harg3 : arg3.IsWhole) (harg4 : arg4.IsWhole) (harg5 : arg5.IsWhole) (harg6 : arg6.IsWhole) (harg7 : arg7.IsWhole)
    (harg8 : arg8.IsWhole) (harg9 : arg9.IsWhole) (harg10 : arg10.IsWhole) (harg11 : arg11.IsWhole) (harg12 : arg12.IsWhole)
    (harg13 : arg13.IsWhole) (harg14 : arg14.IsWhole) (harg15 : arg15.IsWhole) (harg16 : arg16.IsWhole) (s : Bufs F) :
    Run defs 𝒱 c.tc bd E held (cc0__both_kernel (F := F) i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16) s
      (fun _ s' => s' = trips I i s 8) := by
  rw [cc0__both_kernel_eq_skeleton]
  unfold cc0__both_kernel_skel
  refine Run.bind ?_
  refine Run.mono (Q := fun r s' => s' = start I i s ∧ r.2.2.1 = k0_pay172 I.bd ∧ r.2.2.2.1 = k0_pay173 I.bt ∧ r.2.2.2.2.1 = I.ud
      ∧ r.2.2.2.2.2.1 = I.ut ∧ r.2.2.2.2.2.2 = 0#32) ?_ ?_
  · obtain ⟨o10, o11, cs, hid, gx, gy, hp⟩ := s
    rw [k0_part39_eq_skeleton]
    unfold k0_part39_skel
    dsimp only
    have e1 := window_all2 I.bd (fun a => inb_S1x1536_S1x1536_0_0 a)
    have e2 := window_all2 I.bt (fun a => inb_S1x1536_S1x1536_0_0 a)
    have e3 := window_all2 I.ud (fun a => inb_S512x1536_S512x1536_0_0 a)
    have e4 := window_all2 I.ut (fun a => inb_S512x1536_S512x1536_0_0 a)
    have e5 := window_all2 I.wd (fun a => inb_S512x1536_S512x1536_0_0 a)
    have e6 := window_all2 I.wt (fun a => inb_S512x1536_S512x1536_0_0 a)
    have e7 := window_all3 I.xr (fun a => inb_S8x64x512_S8x64x512_0_0_0 a)
    have e8 := window_all3 I.xf (fun a => inb_S8x64x512_S8x64x512_0_0_0 a)
    have p1 := (put_all2 gx (k0_pay170 (VecWindow.window I.xr ![0, 0, 0] S8x64x512.size (fun a => inb_S8x64x512_S8x64x512_0_0_0 a))
      (VecWindow.window I.wd ![0, 0] S512x1536.size (fun a => inb_S512x1536_S512x1536_0_0 a)))).trans (congrArg₂ k0_pay170 e7 e5)
    have p2 := (put_all2 gy (k0_pay171 (VecWindow.window I.xf ![0, 0, 0] S8x64x512.size (fun a => inb_S8x64x512_S8x64x512_0_0_0 a))
      (VecWindow.window I.wt ![0, 0] S512x1536.size (fun a => inb_S512x1536_S512x1536_0_0 a)))).trans (congrArg₂ k0_pay171 e8 e6)
    by_cases hi : (i 0).val = 0
    · rw [dif_pos ((first_iff (i 0)).mpr hi)]
      refine Run.load (A.g12 _ _ _ _ _ _ _) ?_
      refine Run.store (A.s12 _ _ _ _ _ _ _) ?_
      refine Run.load (A.g13 _ _ _ _ _ _ _) ?_
      refine Run.store (A.s13 _ _ _ _ _ _ _) ?_
      refine Run.load (A.g2 _) ?_
      refine Run.load (A.g4 _) ?_
      refine Run.load (A.g14 _ _ _ _ _ _ _) ?_
      refine Run.store (A.s14 _ _ _ _ _ _ _) ?_
      refine Run.load (A.g3 _) ?_
      refine Run.load (A.g7 _) ?_
      refine Run.load (A.g15 _ _ _ _ _ _ _) ?_
      refine Run.store (A.s15 _ _ _ _ _ _ _) ?_
      refine Run.load (A.g6 _) ?_
      refine Run.load (A.g9 _) ?_
      refine Run.load (A.g5 _) ?_
      refine Run.load (A.g8 _) ?_
      refine Run.ret _ ?_
      refine ⟨?_, congrArg k0_pay172 e1, congrArg k0_pay173 e2, e3, e4, rfl⟩
      unfold start
      rw [if_pos hi, if_pos hi]
      have p3 := put_all3 cs (k0_pay168 (F := F))
      refine Eq.trans (congrArg (fun X => Bufs.mk o10 o11 X _ _ _ hp) p3) ?_
      rw [← p1, ← p2]
    · rw [dif_neg (fun h => hi ((first_iff (i 0)).mp h))]
      refine Run.load (A.g2 _) ?_
      refine Run.load (A.g4 _) ?_
      refine Run.load (A.g14 _ _ _ _ _ _ _) ?_
      refine Run.store (A.s14 _ _ _ _ _ _ _) ?_
      refine Run.load (A.g3 _) ?_
      refine Run.load (A.g7 _) ?_
      refine Run.load (A.g15 _ _ _ _ _ _ _) ?_
      refine Run.store (A.s15 _ _ _ _ _ _ _) ?_
      refine Run.load (A.g6 _) ?_
      refine Run.load (A.g9 _) ?_
      refine Run.load (A.g5 _) ?_
      refine Run.load (A.g8 _) ?_
      refine Run.ret _ ?_
      refine ⟨?_, congrArg k0_pay172 e1, congrArg k0_pay173 e2, e3, e4, rfl⟩
      unfold start
      rw [if_neg hi, if_neg hi]
      rw [← p1, ← p2]
  · rintro ⟨v18, v19, v21, v23, v24, v25, c0⟩ s' ⟨rfl, h1, h2, h3, h4, h5⟩
    dsimp only at h1 h2 h3 h4 h5
    subst h1 h2 h3 h4 h5
    refine Run.bind ?_
    refine Run.loop (fun n s' => s' = trips I i s n) rfl ?_ ?_
    · rintro k s' rfl
      refine Run.mono (A.trip hv i k harg1 harg2 harg3 harg4 harg5 harg6 harg7 harg8 harg9 harg10 harg11 harg12 harg13 harg14 harg15 harg16
        v18 v19 _ _ _) ?_
      rintro r s' rfl
      exact (trips_succ I i s k).symm
    · rintro s' rfl
      exact Run.ret _ rfl

end Cert.Proof
-- ==== Proof.Grid.lean ====
module

public import proofs.«01_k».proof.Proof.Point

/-! The two passes as recursions over the nodes, and the invariant of the kernel's grid that ties the contents of its
    buffers to them. Everything is stated for an arbitrary arithmetic `F`. -/

@[expose] public section

noncomputable section

namespace Cert.Proof

open Idealize.ShloMosaic
open Idealize.SL.Sem
open Cert.KernelIdeal Cert.KernelIdeal.Gen

variable {F : FTy → Type} [FloatOps F]

/-- The arrays the kernel reads: the heads, the inputs of the nodes, and the weights and biases of the two units. -/
structure Arrs (F : FTy → Type) where
  H : Vec F S64x256 .i32
  x : Vec F S256x64x512 .f32
  wd : Vec F S512x1536 .f32
  ud : Vec F S512x1536 .f32
  bd : Vec F S1x1536 .f32
  wt : Vec F S512x1536 .f32
  ut : Vec F S512x1536 .f32
  bt : Vec F S1x1536 .f32

/-- The inputs of the eight nodes of block `b`. -/
def blk (x : Vec F S256x64x512 .f32) (b : Nat) : Vec F S8x64x512 .f32 :=
  fun j => x (ix3 ⟨(8 * b + (j 0).val) % 256, Nat.mod_lt _ (by decide)⟩ (j 1) (j 2))

/-- What the body reads at point `i` of the grid. -/
def Arrs.at (P : Arrs F) (i : Nat) : Ins F :=
  ⟨P.H, blk P.x (31 - i), blk P.x i, P.wd, P.ud, P.bd, P.wt, P.ut, P.bt⟩

/-- The loop runs eight trips. -/
theorem trips8 : k0_t1_loop.trips = 8 := by decide

/-- The trip of step `n`. -/
def tripOf (n : Nat) : Fin k0_t1_loop.trips := ⟨n % 8, trips8 ▸ Nat.mod_lt n (by decide)⟩

/-- Row `r` of a table of states. -/
def slab (X : Vec F S257x64x512 .bf16) (r : Nat) : Vec F S1x64x512 .bf16 :=
  fun j => X (ix3 ⟨r % 257, Nat.mod_lt _ (by decide)⟩ (j 1) (j 2))

/-- The input's share of the gates of the bottom-up unit for block `b`, at trip `k`. -/
def gxAt (P : Arrs F) (b : Nat) (k : Fin k0_t1_loop.trips) : Vec F S64x1536 .f32 :=
  VecWindow.window (k0_pay170 (blk P.x b) P.wd) (k0_off130 k) S64x1536.size (k0_off130_inb k)

/-- The input's share of the gates of the bottom-up unit at step `n`. -/
def gxOf (P : Arrs F) (n : Nat) : Vec F S64x1536 .f32 := gxAt P (31 - n / 8) (tripOf n)

/-- The input's share of the gates of the top-down unit for block `b`, at trip `k`. -/
def gyAt (P : Arrs F) (b : Nat) (k : Fin k0_t1_loop.trips) : Vec F S64x1536 .f32 :=
  VecWindow.window (k0_pay171 (blk P.x b) P.wt) (k0_off131 k) S64x1536.size (k0_off131_inb k)

/-- The input's share of the gates of the top-down unit at step `n`. -/
def gyOf (P : Arrs F) (n : Nat) : Vec F S64x1536 .f32 := gyAt P (n / 8) (tripOf n)

/-- The state of node `255 - n` in the bottom-up pass, from the sums of the children. -/
def upOf (P : Arrs F) (n : Nat) (cs : Vec F S257x64x512 .bf16) : FVec F S64x512 .f32 :=
  k0_pay84 (k0_pay172 P.bd) P.ud (slab cs (255 - n)) (gxOf P n)

/-- The sums of the children after `n` steps of the bottom-up pass. -/
def sums (P : Arrs F) : Nat → Vec F S257x64x512 .bf16
  | 0 => k0_pay168
  | n + 1 => sct P.H (255 - n) (k0_pay88 (upOf P n (sums P n))) (sums P n) 64

/-- The state that step `n` of the bottom-up pass leaves for node `255 - n`. -/
def up (P : Arrs F) (n : Nat) : FVec F S64x512 .bf16 := k0_pay88 (upOf P n (sums P n))

/-- The states of the parents of node `n`, from a table of states. -/
def par (P : Arrs F) (n : Nat) (T : Vec F S257x64x512 .bf16) : Vec F S64x512 .bf16 :=
  gat P.H n T (fun _ => Scalar.ofBits .bf16 0x0000#16) 64

/-- The state of a node in the top-down pass, from its input's share of the gates and the states of its parents. -/
def unit (P : Arrs F) (y : Vec F S64x1536 .f32) (p : Vec F S64x512 .bf16) : FVec F S64x512 .bf16 :=
  k0_pay87 (k0_pay173 P.bt) (k0_pay82 p) (k0_pay83 P.ut p) y (k0_pay85 y) (k0_pay86 (k0_pay173 P.bt))

/-- The states after `n` steps of the top-down pass. -/
def table (P : Arrs F) : Nat → Vec F S257x64x512 .bf16
  | 0 => fun _ => Scalar.ofBits .bf16 0x0000#16
  | n + 1 => fun j => if (j 0).val = n then unit P (gyOf P n) (par P n (table P n)) (ix2 (j 1) (j 2)) else table P n j

/-- The state that step `n` of the top-down pass leaves for node `n`. -/
def down (P : Arrs F) (n : Nat) : FVec F S64x512 .bf16 := unit P (gyOf P n) (par P n (table P n))

/-- Every head is an earlier node or the root's zero row. -/
def Earlier (H : Vec F S64x256 .i32) : Prop :=
  ∀ b t, b < 64 → t < 256 → (hd H b t).toNat < t ∨ (hd H b t).toNat = 256

/-- So every head is in range. -/
theorem Earlier.lt {H : Vec F S64x256 .i32} (h : Earlier H) (b t : Nat) : (hd H b t).toNat < 257 := by
  by_cases hb : b < 64 ∧ t < 256
  · rcases h b t hb.1 hb.2 with h | h <;> omega
  · unfold hd
    rw [dif_neg hb]
    decide

/-- A write of one slab of a rank-3 array, at an index. -/
theorem put_slab {α : Type} {n m l : Nat} (X : (⟨3, ![n, m, l]⟩ : Shape).Idx → α) (w : (⟨3, ![1, m, l]⟩ : Shape).Idx → α)
    (off : Fin 3 → Nat) (a : Nat) (ho : off = ![a, 0, 0]) (j0 : Fin n) (j1 : Fin m) (j2 : Fin l) :
    VecWindow.put (s := ⟨3, ![n, m, l]⟩) X off ![1, m, l] w (ix3 j0 j1 j2) = if j0.val = a then w (ix3 0 j1 j2) else X (ix3 j0 j1 j2) := by
  subst ho
  unfold VecWindow.put
  by_cases h : j0.val = a
  · rw [if_pos h, dif_pos (fun x => match x with
      | ⟨0, _⟩ => (by show a ≤ j0.val ∧ j0.val < a + 1; omega)
      | ⟨1, _⟩ => (by have := j1.isLt; show 0 ≤ j1.val ∧ j1.val < 0 + m; omega)
      | ⟨2, _⟩ => (by have := j2.isLt; show 0 ≤ j2.val ∧ j2.val < 0 + l; omega))]
    exact congrArg w (funext fun x => Fin.ext (match x with
      | ⟨0, _⟩ => (by show j0.val - a = 0; omega)
      | ⟨1, _⟩ => (by show j1.val - 0 = j1.val; omega)
      | ⟨2, _⟩ => (by show j2.val - 0 = j2.val; omega)))
  · rw [if_neg h, dif_neg (fun hh => h (by have : a ≤ j0.val ∧ j0.val < a + 1 := hh 0; omega))]

/-- A read of one slab of a table of states. -/
theorem window_slab (X : Vec F S257x64x512 .bf16) (off : Fin 3 → Nat) (r : Nat) (ho : off = ![r, 0, 0])
    (inb : ∀ a, off a + S1x64x512.size a ≤ S257x64x512.size a) :
    VecWindow.window X off S1x64x512.size inb = slab X r := by
  subst ho
  have h0 : r + 1 ≤ 257 := inb 0
  funext x
  refine congrArg X (funext fun a => Fin.ext ?_)
  match a with
  | ⟨0, _⟩ =>
    have hx : (x 0).val < 1 := (x 0).isLt
    show r + 1 * (x 0).val = r % 257
    rw [Nat.mod_eq_of_lt (by omega)]
    omega
  | ⟨1, _⟩ => show 0 + 1 * (x 1).val = (x 1).val; omega
  | ⟨2, _⟩ => show 0 + 1 * (x 2).val = (x 2).val; omega

/-- What the buffers hold after `k` trips at point `i`: the sums and the states of the recursions, and the rows of the two
    result blocks that are already written. -/
structure Inv (P : Arrs F) (i k : Nat) (s : Bufs F) : Prop where
  cs : s.cs = sums P (8 * i + k)
  hid : ∀ (j0 : Fin 257) (j1 : Fin 64) (j2 : Fin 512), j0.val < 8 * i + k ∨ j0.val = 256 →
    s.hid (ix3 j0 j1 j2) = table P (8 * i + k) (ix3 j0 j1 j2)
  gx : s.gx = k0_pay170 (blk P.x (31 - i)) P.wd
  gy : s.gy = k0_pay171 (blk P.x i) P.wt
  o10 : ∀ (r : Fin 8) (j1 : Fin 64) (j2 : Fin 512), 7 - r.val < k →
    s.o10 (ix3 r j1 j2) = up P (8 * i + (7 - r.val)) (ix2 j1 j2)
  o11 : ∀ (r : Fin 8) (j1 : Fin 64) (j2 : Fin 512), r.val < k →
    s.o11 (ix3 r j1 j2) = down P (8 * i + r.val) (ix2 j1 j2)

/-- The gather of the parents depends only on the rows of the heads. -/
theorem gat_congr (P : Arrs F) (hE : Earlier P.H) (n : Nat) (hn : n < 256) (X T : Vec F S257x64x512 .bf16) (hp : Vec F S64x512 .bf16)
    (h : ∀ (j0 : Fin 257) (j1 : Fin 64) (j2 : Fin 512), j0.val < n ∨ j0.val = 256 → X (ix3 j0 j1 j2) = T (ix3 j0 j1 j2)) :
    gat P.H n X hp 64 = par P n T := by
  funext j
  have hj : (j 0).val < 64 := (j 0).isLt
  have hlt := hE.lt (j 0).val n
  unfold par gat
  rw [if_pos hj, if_pos hj, dif_pos hlt, dif_pos hlt]
  exact h _ _ _ (hE (j 0).val n hj hn)

/-- One trip keeps the invariant. -/
theorem Inv.trip {P : Arrs F} (hE : Earlier P.H) (i : grid0.Coords) (k : Fin k0_t1_loop.trips) {s : Bufs F}
    (h : Inv P (i 0).val k.val s) :
    Inv P (i 0).val (k.val + 1) (trip (P.at (i 0).val) i k (k0_pay172 P.bd) (k0_pay173 P.bt) s) := by
  have hi : (i 0).val < 32 := (i 0).isLt
  have hk : k.val < 8 := trips8 ▸ k.isLt
  have hn : 8 * (i 0).val + k.val < 256 := by omega
  have hdiv : (8 * (i 0).val + k.val) / 8 = (i 0).val := by omega
  have htrip : tripOf (8 * (i 0).val + k.val) = k := Fin.ext (by show (8 * (i 0).val + k.val) % 8 = k.val; omega)
  have hup : stepUp i k (k0_pay172 P.bd) P.ud s = upOf P (8 * (i 0).val + k.val) (sums P (8 * (i 0).val + k.val)) := by
    have e1 : gxOf P (8 * (i 0).val + k.val) = gxAt P (31 - (i 0).val) k := congrArg₂ (gxAt P) (congrArg (31 - ·) hdiv) htrip
    unfold stepUp upOf
    rw [e1, h.gx, h.cs, window_slab _ _ _ (k0_off129_eq i k)]
    unfold gxAt
    rfl
  have hpar : parents (P.at (i 0).val) i k s = par P (8 * (i 0).val + k.val) (table P (8 * (i 0).val + k.val)) :=
    gat_congr P hE _ hn _ _ _ h.hid
  have hwin : VecWindow.window (parents (P.at (i 0).val) i k s) ![0, 0] S64x512.size inb_S64x512_S64x512_0_0
      = par P (8 * (i 0).val + k.val) (table P (8 * (i 0).val + k.val)) := (window_all2 _ _).trans hpar
  have hy : VecWindow.window s.gy (k0_off131 k) S64x1536.size (k0_off131_inb k) = gyOf P (8 * (i 0).val + k.val) := by
    have e1 : gyOf P (8 * (i 0).val + k.val) = gyAt P (i 0).val k := congrArg₂ (gyAt P) hdiv htrip
    rw [e1, h.gy]
    rfl
  refine ⟨?_, ?_, h.gx, h.gy, ?_, ?_⟩
  · show sct P.H _ (k0_pay88 (stepUp i k _ P.ud s)) s.cs 64 = _
    rw [hup, h.cs]
    rfl
  · intro j0 j1 j2 hj
    refine (put_slab s.hid _ _ _ (k0_off134_eq i k) j0 j1 j2).trans ?_
    show _ = if j0.val = 8 * (i 0).val + k.val then down P (8 * (i 0).val + k.val) (ix2 j1 j2) else table P (8 * (i 0).val + k.val) (ix3 j0 j1 j2)
    by_cases hjn : j0.val = 8 * (i 0).val + k.val
    · rw [if_pos hjn, if_pos hjn]
      rw [hwin, hy]
      unfold k0_pay91
      pointwise
      rfl
    · rw [if_neg hjn, if_neg hjn]
      exact h.hid j0 j1 j2 (by omega)
  · intro r j1 j2 hr
    refine (put_slab s.o10 _ _ _ (k0_off132_eq k) r j1 j2).trans ?_
    by_cases hrk : r.val = 7 - k.val
    · rw [if_pos hrk]
      have e : 7 - r.val = k.val := by omega
      rw [e]
      refine (congrArg (fun X => k0_pay89 X (ix3 0 j1 j2)) hup).trans ?_
      unfold k0_pay89 up
      pointwise
    · rw [if_neg hrk]
      exact h.o10 r j1 j2 (by have := r.isLt; omega)
  · intro r j1 j2 hr
    refine (put_slab s.o11 _ _ _ (k0_off133_eq k) r j1 j2).trans ?_
    by_cases hrk : r.val = k.val
    · rw [if_pos hrk, hrk]
      rw [hwin, hy]
      unfold k0_pay90
      pointwise
      rfl
    · rw [if_neg hrk]
      exact h.o11 r j1 j2 (by omega)

/-- What the tables hold between points: nothing is known before the first point, and the recursions' values later. -/
structure Between (P : Arrs F) (i : Nat) (cs hid : Vec F S257x64x512 .bf16) : Prop where
  cs : i ≠ 0 → cs = sums P (8 * i)
  hid : i ≠ 0 → ∀ (j0 : Fin 257) (j1 : Fin 64) (j2 : Fin 512), j0.val < 8 * i ∨ j0.val = 256 →
    hid (ix3 j0 j1 j2) = table P (8 * i) (ix3 j0 j1 j2)

/-- Before the first trip the invariant holds. -/
theorem Between.start {P : Arrs F} (i : grid0.Coords) {s : Bufs F} (h : Between P (i 0).val s.cs s.hid) :
    Inv P (i 0).val 0 (start (P.at (i 0).val) i s) := by
  refine ⟨?_, ?_, rfl, rfl, fun _ _ _ h => absurd h (Nat.not_lt_zero _), fun _ _ _ h => absurd h (Nat.not_lt_zero _)⟩
  · unfold Cert.Proof.start
    by_cases hi : (i 0).val = 0
    · rw [hi]
      rfl
    · dsimp only
      rw [if_neg hi]
      exact h.cs hi
  · intro j0 j1 j2 hj
    unfold Cert.Proof.start
    by_cases hi : (i 0).val = 0
    · dsimp only
      rw [if_pos hi]
      refine (put_slab s.hid _ _ 256 rfl j0 j1 j2).trans ?_
      rw [if_pos (by omega), hi]
      unfold k0_pay169
      pointwise
      rfl
    · dsimp only
      rw [if_neg hi]
      exact h.hid hi j0 j1 j2 hj

/-- After `n` trips the invariant holds. -/
theorem Between.trips {P : Arrs F} (hE : Earlier P.H) (i : grid0.Coords) {s : Bufs F} (h : Between P (i 0).val s.cs s.hid) :
    ∀ n, n ≤ 8 → Inv P (i 0).val n (trips (P.at (i 0).val) i s n)
  | 0, _ => h.start i
  | n + 1, hn => by
    have hlt : n < k0_t1_loop.trips := by rw [trips8]; omega
    rw [trips_succ (P.at (i 0).val) i s ⟨n, hlt⟩]
    exact Inv.trip hE i ⟨n, hlt⟩ (Between.trips hE i h n (by omega))

/-- The block of the bottom-up result that point `i` writes. -/
def upBlk (P : Arrs F) (i : Nat) : Vec F S8x64x512 .bf16 := fun j => up P (8 * i + (7 - (j 0).val)) (ix2 (j 1) (j 2))

/-- The block of the top-down result that point `i` writes. -/
def downBlk (P : Arrs F) (i : Nat) : Vec F S8x64x512 .bf16 := fun j => down P (8 * i + (j 0).val) (ix2 (j 1) (j 2))

/-- The body at point `i` leaves the recursions' values of the next point, and its two result blocks. -/
theorem Between.point {P : Arrs F} (hE : Earlier P.H) (i : grid0.Coords) {s : Bufs F} (h : Between P (i 0).val s.cs s.hid) :
    Between P ((i 0).val + 1) (Cert.Proof.trips (P.at (i 0).val) i s 8).cs (Cert.Proof.trips (P.at (i 0).val) i s 8).hid
      ∧ (Cert.Proof.trips (P.at (i 0).val) i s 8).o10 = upBlk P (i 0).val
      ∧ (Cert.Proof.trips (P.at (i 0).val) i s 8).o11 = downBlk P (i 0).val := by
  have H := h.trips hE i 8 (Nat.le_refl _)
  refine ⟨⟨fun _ => H.cs, fun _ => H.hid⟩, ?_, ?_⟩
  · funext j
    idx_vars j
    exact H.o10 j0 j1 j2 (by omega)
  · funext j
    idx_vars j
    exact H.o11 j0 j1 j2 j0.isLt

end Cert.Proof
-- ==== Proof.Around.lean ====
module

public import proofs.«01_k».proof.Proof.Grid
public import proofs.«01_k».proof.Proof.Gen.KernelIdeal.Launch
public import Idealize.ShloMosaic.Lib.Pipeline.FrameBody
public import Idealize.ShloMosaic.Lib.Pipeline.FrameSuffix

/-! The region of the kernel: what its body finds and leaves at every point of the grid, as the pipeline's proof data, and
    the body's obligation. -/

@[expose] public section

noncomputable section

namespace Cert.Proof

open Idealize.ShloMosaic
open Idealize.ShloMosaic.TcCoe
open Idealize.SL
open Idealize.SL.RA Idealize.SL.Sem Idealize.SL.ProofMode
open Idealize.SL.BI (sProp bigSep)
open scoped Idealize.SL.BI
open Idealize.SL.BI.BIBase Idealize.SL.BI.Laws
open Idealize.ShloMosaic.Pipeline (Dat Cfg Window BodyObligation BodyObligationLoose)
open Cert.KernelIdeal Cert.KernelIdeal.Gen

section Parts

variable {nD : Nat} {τ : Topo} {sig : RefSig} {Ix : Type} [DecidableEq Ix]
variable {Val : EltTy → Type} {Name : Type} [DecidableEq Name]
variable {U : Type} [URA U]
variable {Lvl : Type} {c : Thread nD τ} {St : Type} {A B : St → sProp (MT nD τ sig Ix Val Name U Lvl)}
variable {s : St} {sp : Space} {sh : Shape} {e : EltTy} {m : Memref sig c.2.kind sp sh e} {X : sh.Idx → Val e}
  {upd : (sh.Idx → Val e) → St}

/-- A memref that is all that is held can be read. -/
theorem Gets.one (q : PosShare TreeShare) : Gets c (fun _ : St => (owns c m q X : sProp (MT nD τ sig Ix Val Name U Lvl))) s m X :=
  ⟨q, by
    iintro H
    isplitl [H]
    · iexact H
    · iintro H
      iexact H⟩

/-- What the left part gives, both give. -/
theorem Gets.left (h : Gets c A s m X) : Gets c (fun s => iprop(A s ∗ B s)) s m X := by
  obtain ⟨q, h⟩ := h
  refine ⟨q, ?_⟩
  iintro ⟨HA, HB⟩
  ihave H := h $$ HA
  icases H with ⟨H1, H2⟩
  isplitl [H1]
  · iexact H1
  · iintro H
    isplitl [H H2]
    · iapply H2 $$ H
    · iexact HB

/-- What the right part gives, both give. -/
theorem Gets.right (h : Gets c B s m X) : Gets c (fun s => iprop(A s ∗ B s)) s m X := by
  obtain ⟨q, h⟩ := h
  refine ⟨q, ?_⟩
  iintro ⟨HA, HB⟩
  ihave H := h $$ HB
  icases H with ⟨H1, H2⟩
  isplitl [H1]
  · iexact H1
  · iintro H
    isplitl [HA]
    · iexact HA
    · iapply H2 $$ H

/-- A memref that is all that is held can be written. -/
theorem Sets.one (f : St → sh.Idx → Val e) (hf : ∀ X', f (upd X') = X') :
    Sets c (fun s => (owns c m fullShare (f s) : sProp (MT nD τ sig Ix Val Name U Lvl))) s m (f s) upd := by
  unfold Sets
  iintro H
  isplitl [H]
  · iexact H
  · iintro %X' H
    dsimp only
    rw [hf]
    iexact H

/-- What the left part gives, both give, if the right part does not mind. -/
theorem Sets.left (hB : ∀ X', B (upd X') = B s) (h : Sets c A s m X upd) : Sets c (fun s => iprop(A s ∗ B s)) s m X upd := by
  unfold Sets at h ⊢
  iintro ⟨HA, HB⟩
  ihave H := h $$ HA
  icases H with ⟨H1, H2⟩
  isplitl [H1]
  · iexact H1
  · iintro %X' H
    isplitl [H H2]
    · iapply H2 $$ H
    · rw [hB]
      iexact HB

/-- What the right part gives, both give, if the left part does not mind. -/
theorem Sets.right (hA : ∀ X', A (upd X') = A s) (h : Sets c B s m X upd) : Sets c (fun s => iprop(A s ∗ B s)) s m X upd := by
  unfold Sets at h ⊢
  iintro ⟨HA, HB⟩
  ihave H := h $$ HB
  icases H with ⟨H1, H2⟩
  isplitl [H1]
  · iexact H1
  · iintro %X' H
    isplitl [HA]
    · rw [hA]
      iexact HA
    · iapply H2 $$ H

end Parts

variable {F : FTy → Type} [FloatOps F]

local notation "𝕄" => MT nD τ sig Unit (Elt F) ℕ (UR sig nD τ) ℕ

section Held

variable (c : Dev nD) (q : PosShare TreeShare) (I : Ins F) (R : sProp (MT nD τ sig Unit (Elt F) ℕ (UR sig nD τ) ℕ)) (arg1 : Memref sig .tc .smem S64x256 .i32) (arg2 arg3 : Memref sig .tc .vmem S8x64x512 .f32)
    (arg4 arg5 : Memref sig .tc .vmem S512x1536 .f32) (arg6 : Memref sig .tc .vmem S1x1536 .f32)
    (arg7 arg8 : Memref sig .tc .vmem S512x1536 .f32) (arg9 : Memref sig .tc .vmem S1x1536 .f32)
    (arg10 arg11 : Memref sig .tc .vmem S8x64x512 .bf16) (arg12 arg13 : Memref sig .tc .vmem S257x64x512 .bf16)
    (arg14 arg15 : Memref sig .tc .vmem S512x1536 .f32) (arg16 : Memref sig .tc .vmem S64x512 .bf16)

/-- The body's buffers and what rides along. -/
def holds (s : Bufs F) : sProp (MT nD τ sig Unit (Elt F) ℕ (UR sig nD τ) ℕ) :=
  iprop(R ∗ owns c.tc arg1 q I.H ∗ owns c.tc arg2 fullShare I.xr ∗ owns c.tc arg3 fullShare I.xf ∗ owns c.tc arg4 fullShare I.wd
    ∗ owns c.tc arg5 fullShare I.ud ∗ owns c.tc arg6 fullShare I.bd ∗ owns c.tc arg7 fullShare I.wt
    ∗ owns c.tc arg8 fullShare I.ut ∗ owns c.tc arg9 fullShare I.bt
    ∗ owns c.tc arg10 fullShare s.o10 ∗ owns c.tc arg11 fullShare s.o11 ∗ owns c.tc arg12 fullShare s.cs
    ∗ owns c.tc arg13 fullShare s.hid ∗ owns c.tc arg14 fullShare s.gx ∗ owns c.tc arg15 fullShare s.gy
    ∗ owns c.tc arg16 fullShare s.hp)

/-- They give the body access to each. -/
theorem holds_acc : Acc c (holds c q I R arg1 arg2 arg3 arg4 arg5 arg6 arg7 arg8 arg9 arg10 arg11 arg12 arg13 arg14 arg15 arg16) I
    arg1 arg2 arg3 arg4 arg5 arg6 arg7 arg8 arg9 arg10 arg11 arg12 arg13 arg14 arg15 arg16 where
  g1 _ := .right (.left (.one _))
  g2 _ := .right (.right (.left (.one _)))
  g3 _ := .right (.right (.right (.left (.one _))))
  g4 _ := .right (.right (.right (.right (.left (.one _)))))
  g5 _ := .right (.right (.right (.right (.right (.left (.one _))))))
  g6 _ := .right (.right (.right (.right (.right (.right (.left (.one _)))))))
  g7 _ := .right (.right (.right (.right (.right (.right (.right (.left (.one _))))))))
  g8 _ := .right (.right (.right (.right (.right (.right (.right (.right (.left (.one _)))))))))
  g9 _ := .right (.right (.right (.right (.right (.right (.right (.right (.right (.left (.one _))))))))))
  s10 _ _ _ _ _ _ _ := .right (fun _ => rfl) (.right (fun _ => rfl) (.right (fun _ => rfl) (.right (fun _ => rfl) (.right (fun _ => rfl)
    (.right (fun _ => rfl) (.right (fun _ => rfl) (.right (fun _ => rfl) (.right (fun _ => rfl)
    (.right (fun _ => rfl) (.left (fun _ => rfl) (Sets.one Bufs.o10 fun _ => rfl)))))))))))
  s11 _ _ _ _ _ _ _ := .right (fun _ => rfl) (.right (fun _ => rfl) (.right (fun _ => rfl) (.right (fun _ => rfl) (.right (fun _ => rfl)
    (.right (fun _ => rfl) (.right (fun _ => rfl) (.right (fun _ => rfl) (.right (fun _ => rfl) (.right (fun _ => rfl)
    (.right (fun _ => rfl) (.left (fun _ => rfl) (Sets.one Bufs.o11 fun _ => rfl))))))))))))
  s12 _ _ _ _ _ _ _ := .right (fun _ => rfl) (.right (fun _ => rfl) (.right (fun _ => rfl) (.right (fun _ => rfl) (.right (fun _ => rfl)
    (.right (fun _ => rfl) (.right (fun _ => rfl) (.right (fun _ => rfl) (.right (fun _ => rfl) (.right (fun _ => rfl) (.right (fun _ => rfl)
    (.right (fun _ => rfl) (.left (fun _ => rfl) (Sets.one Bufs.cs fun _ => rfl)))))))))))))
  s13 _ _ _ _ _ _ _ := .right (fun _ => rfl) (.right (fun _ => rfl) (.right (fun _ => rfl) (.right (fun _ => rfl) (.right (fun _ => rfl)
    (.right (fun _ => rfl) (.right (fun _ => rfl) (.right (fun _ => rfl) (.right (fun _ => rfl) (.right (fun _ => rfl) (.right (fun _ => rfl)
    (.right (fun _ => rfl) (.right (fun _ => rfl) (.left (fun _ => rfl) (Sets.one Bufs.hid fun _ => rfl))))))))))))))
  s14 _ _ _ _ _ _ _ := .right (fun _ => rfl) (.right (fun _ => rfl) (.right (fun _ => rfl) (.right (fun _ => rfl) (.right (fun _ => rfl)
    (.right (fun _ => rfl) (.right (fun _ => rfl) (.right (fun _ => rfl) (.right (fun _ => rfl) (.right (fun _ => rfl) (.right (fun _ => rfl)
    (.right (fun _ => rfl) (.right (fun _ => rfl) (.right (fun _ => rfl) (.left (fun _ => rfl) (Sets.one Bufs.gx fun _ => rfl)))))))))))))))
  s15 _ _ _ _ _ _ _ := .right (fun _ => rfl) (.right (fun _ => rfl) (.right (fun _ => rfl) (.right (fun _ => rfl) (.right (fun _ => rfl)
    (.right (fun _ => rfl) (.right (fun _ => rfl) (.right (fun _ => rfl) (.right (fun _ => rfl) (.right (fun _ => rfl) (.right (fun _ => rfl)
    (.right (fun _ => rfl) (.right (fun _ => rfl) (.right (fun _ => rfl)
    (.right (fun _ => rfl) (.left (fun _ => rfl) (Sets.one Bufs.gy fun _ => rfl))))))))))))))))
  s16 _ _ _ _ _ _ _ := .right (fun _ => rfl) (.right (fun _ => rfl) (.right (fun _ => rfl) (.right (fun _ => rfl) (.right (fun _ => rfl)
    (.right (fun _ => rfl) (.right (fun _ => rfl) (.right (fun _ => rfl) (.right (fun _ => rfl) (.right (fun _ => rfl) (.right (fun _ => rfl)
    (.right (fun _ => rfl) (.right (fun _ => rfl) (.right (fun _ => rfl) (.right (fun _ => rfl)
    (.right (fun _ => rfl) (Sets.one Bufs.hp fun _ => rfl))))))))))))))))

end Held

/-- The arrays the kernel reads, from the contents of the buffers when the region is entered. -/
def arrsOf (V : Valuation τ sig (Elt F)) : Arrs F where
  H := V (Proc.devRef .tc main_arg1)
  x := V (Proc.devRef .tc main_arg0)
  wd := V (Proc.devRef .tc main_arg2)
  ud := V (Proc.devRef .tc main_arg3)
  bd := V (Proc.devRef .tc main_v0)
  wt := V (Proc.devRef .tc main_arg5)
  ut := V (Proc.devRef .tc main_arg6)
  bt := V (Proc.devRef .tc main_v1)

/-- The grid has one axis. -/
theorem coord_val : ∀ t : Fin grid0.N, (grid0.coords t 0).val = t.val := by decide

section Region

variable (a : (pcfg0 (F := F)).Adm) (V : Dev nD → Valuation τ sig (Elt F)) (c : Dev nD)

/-- What a window's staging buffer holds after the body. -/
def leftAt (P : Arrs F) : (w : Fin 10) → Nat → (spec0 w).block.Idx → Elt F (spec0 w).elt
  | 0, t => blk P.x (31 - t)
  | 1, t => blk P.x t
  | 2, _ => P.wd
  | 3, _ => P.ud
  | 4, _ => P.bd
  | 5, _ => P.wt
  | 6, _ => P.ut
  | 7, _ => P.bt
  | 8, t => upBlk P t
  | 9, t => downBlk P t
  | ⟨_ + 10, h⟩, _ => absurd h (Nat.not_lt.2 (Nat.le_add_left _ _))

/-- The body's own buffers. -/
def scratch (s : Bufs F) : sProp (MT nD τ sig Unit (Elt F) ℕ (UR sig nD τ) ℕ) :=
  iprop(owns c.tc (Memref.whole cc0_scratch0) fullShare s.cs ∗ owns c.tc (Memref.whole cc0_scratch1) fullShare s.hid
    ∗ owns c.tc (Memref.whole cc0_scratch2) fullShare s.gx ∗ owns c.tc (Memref.whole cc0_scratch3) fullShare s.gy
    ∗ owns c.tc (Memref.whole cc0_scratch4) fullShare s.hp)

/-- What holds between points: the body's own buffers at contents the recursions describe, and the table of heads. -/
def between (t : Nat) : sProp (MT nD τ sig Unit (Elt F) ℕ (UR sig nD τ) ℕ) :=
  iprop(∃ s : Bufs F, ⌜Between (arrsOf (V c)) t s.cs s.hid⌝ ∗ scratch c s
    ∗ owns c.tc (Memref.whole main_arg1) fullShare.right (arrsOf (V c)).H ∗ ∃ r, prngReg c r)

/-- The region's proof data. -/
def dat : Dat τ (Elt F) Unit ℕ (UR sig nD τ) ℕ (cfg0 a) c where
  A w := V c (Proc.devRef .tc (Pipeline.arrRef spec0 w))
  after w t := leftAt (arrsOf (V c)) w t.val
  Φ t := between V c t.val
  q w := Pipeline.shareOf spec0 w
  owed _ := 0

/-- The body table runs the kernel's body on the staging buffers. -/
theorem defs_tc (t : Fin grid0.N) (s : (w : Fin 10) → Fin (spec0 w).nbuf) :
    (defs₀ (F := F)) .tc (cfg0 a).body ((cfg0 a).bodyArgs t s) =
      cc0__both_kernel (grid0.coords t) (Memref.whole main_arg1) (Memref.isWhole_whole _) (spec0_0.stage (s 0)) (hstage0_0 ((s 0).cast nbuf0_0))
        (spec0_1.stage (s 1)) (hstage0_1 ((s 1).cast nbuf0_1)) (spec0_2.stage (s 2)) (hstage0_2 ((s 2).cast nbuf0_2))
        (spec0_3.stage (s 3)) (hstage0_3 ((s 3).cast nbuf0_3)) (spec0_4.stage (s 4)) (hstage0_4 ((s 4).cast nbuf0_4))
        (spec0_5.stage (s 5)) (hstage0_5 ((s 5).cast nbuf0_5)) (spec0_6.stage (s 6)) (hstage0_6 ((s 6).cast nbuf0_6))
        (spec0_7.stage (s 7)) (hstage0_7 ((s 7).cast nbuf0_7)) (spec0_8.stage (s 8)) (hstage0_8 ((s 8).cast nbuf0_8))
        (spec0_9.stage (s 9)) (hstage0_9 ((s 9).cast nbuf0_9)) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _) := rfl

/-- The block index of the windows that run backwards. -/
theorem back_index : ∀ t : Fin grid0.N, cc0_transform_0 (grid0.coords t) = ![31 - t.val, 0, 0] := by decide

/-- The block index of the windows that run forwards. -/
theorem forth_index : ∀ t : Fin grid0.N, cc0_transform_1 (grid0.coords t) = ![t.val, 0, 0] := by decide

/-- A block of the inputs, read through its window. -/
theorem blk_read (X : Vec F S256x64x512 .f32) (b : Nat) (hb : b < 32) (f : Fin 3 → Nat) (hf : f = ![b, 0, 0])
    (j : S8x64x512.Idx) (j' : S256x64x512.Idx) (h : ∀ x, (j' x).val = f x * S8x64x512.size x + 1 * (j x).val) :
    X j' = blk X b j := by
  subst hf
  refine congrArg X (funext fun x => Fin.ext ((h x).trans ?_))
  match x with
  | ⟨0, _⟩ =>
    have hj : (j 0).val < 8 := (j 0).isLt
    show b * 8 + 1 * (j 0).val = (8 * b + (j 0).val) % 256
    rw [Nat.mod_eq_of_lt (by omega)]
    omega
  | ⟨1, _⟩ => show 0 * 64 + 1 * (j 1).val = (j 1).val; omega
  | ⟨2, _⟩ => show 0 * 512 + 1 * (j 2).val = (j 2).val; omega

/-- The one block of a matrix, read through its window. -/
theorem mat_read {α : Type} {n m : Nat} (X : (⟨2, ![n, m]⟩ : Shape).Idx → α) (j j' : (⟨2, ![n, m]⟩ : Shape).Idx)
    (h : ∀ x, (j' x).val = (![0, 0] : Fin 2 → Nat) x * (![n, m] : Fin 2 → Nat) x + 1 * (j x).val) : X j' = X j := by
  refine congrArg X (funext fun x => Fin.ext ((h x).trans ?_))
  match x with
  | ⟨0, _⟩ => show 0 * n + 1 * (j 0).val = (j 0).val; omega
  | ⟨1, _⟩ => show 0 * m + 1 * (j 1).val = (j 1).val; omega

/-- What a fetch puts into an input window's staging buffer. -/
theorem fetched_in (w : Fin 10) (hw : (spec0 w).isOut = false) (t : Fin grid0.N) (d) :
    (dat a V c).fetched w t d = leftAt (arrsOf (V c)) w t.val := by
  have ht : t.val < 32 := N_0 ▸ t.isLt
  match w with
  | 0 => exact funext fun j => blk_read _ (31 - t.val) (by omega) _ (back_index t) j _ fun x => rfl
  | 1 => exact funext fun j => blk_read _ t.val ht _ (forth_index t) j _ fun x => rfl
  | 2 => exact funext fun j => mat_read (arrsOf (V c)).wd j _ fun x => rfl
  | 3 => exact funext fun j => mat_read (arrsOf (V c)).ud j _ fun x => rfl
  | 4 => exact funext fun j => mat_read (arrsOf (V c)).bd j _ fun x => rfl
  | 5 => exact funext fun j => mat_read (arrsOf (V c)).wt j _ fun x => rfl
  | 6 => exact funext fun j => mat_read (arrsOf (V c)).ut j _ fun x => rfl
  | 7 => exact funext fun j => mat_read (arrsOf (V c)).bt j _ fun x => rfl
  | 8 => exact absurd hw (by decide)
  | 9 => exact absurd hw (by decide)

/-- So that is what the body finds there. -/
theorem before_in (w : Fin 10) (hw : (spec0 w).isOut = false) (t : Fin grid0.N) (d) :
    (dat a V c).before w t d = leftAt (arrsOf (V c)) w t.val := by
  have h := fun t => fetched_in a V c w hw t (leftAt (arrsOf (V c)) w t.val)
  rw [(dat a V c).before_in_eq_fetched w hw (fun _ => rfl) (fun _ _ _ => rfl) (fun t => ?_) t d]
  · exact fetched_in a V c w hw t d
  · rw [← (dat a V c).cut_fetched w t (leftAt (arrsOf (V c)) w t.val)]
    exact congrArg _ (h t).symm

/-- What is left after one point: the next state between points, what rode along, and the staging buffers. -/
def wpPost (s : (w : Fin 10) → Fin (spec0 w).nbuf) (R : sProp (MT nD τ sig Unit (Elt F) ℕ (UR sig nD τ) ℕ)) (t : Fin grid0.N) :
    sProp (MT nD τ sig Unit (Elt F) ℕ (UR sig nD τ) ℕ) :=
        iprop(between V c (t.val + 1) ∗ R
        ∗ owns c.tc (spec0_0.stage (s 0)) fullShare (leftAt (arrsOf (V c)) 0 t.val)
        ∗ owns c.tc (spec0_1.stage (s 1)) fullShare (leftAt (arrsOf (V c)) 1 t.val)
        ∗ owns c.tc (spec0_2.stage (s 2)) fullShare (leftAt (arrsOf (V c)) 2 t.val)
        ∗ owns c.tc (spec0_3.stage (s 3)) fullShare (leftAt (arrsOf (V c)) 3 t.val)
        ∗ owns c.tc (spec0_4.stage (s 4)) fullShare (leftAt (arrsOf (V c)) 4 t.val)
        ∗ owns c.tc (spec0_5.stage (s 5)) fullShare (leftAt (arrsOf (V c)) 5 t.val)
        ∗ owns c.tc (spec0_6.stage (s 6)) fullShare (leftAt (arrsOf (V c)) 6 t.val)
        ∗ owns c.tc (spec0_7.stage (s 7)) fullShare (leftAt (arrsOf (V c)) 7 t.val)
        ∗ owns c.tc (spec0_8.stage (s 8)) fullShare (leftAt (arrsOf (V c)) 8 t.val)
        ∗ owns c.tc (spec0_9.stage (s 9)) fullShare (leftAt (arrsOf (V c)) 9 t.val))

/-- The body's obligation at one point, window by window. -/
theorem body_at (hE : Earlier (arrsOf (V c)).H) (t : Fin grid0.N) (s : (w : Fin 10) → Fin (spec0 w).nbuf)
    (R : sProp (MT nD τ sig Unit (Elt F) ℕ (UR sig nD τ) ℕ)) (d : (w : Fin 10) → (spec0 w).block.Idx → Elt F (spec0 w).elt) :
    iprop(between V c t.val ∗ R
        ∗ owns c.tc (spec0_0.stage (s 0)) fullShare (leftAt (arrsOf (V c)) 0 t.val)
        ∗ owns c.tc (spec0_1.stage (s 1)) fullShare (leftAt (arrsOf (V c)) 1 t.val)
        ∗ owns c.tc (spec0_2.stage (s 2)) fullShare (leftAt (arrsOf (V c)) 2 t.val)
        ∗ owns c.tc (spec0_3.stage (s 3)) fullShare (leftAt (arrsOf (V c)) 3 t.val)
        ∗ owns c.tc (spec0_4.stage (s 4)) fullShare (leftAt (arrsOf (V c)) 4 t.val)
        ∗ owns c.tc (spec0_5.stage (s 5)) fullShare (leftAt (arrsOf (V c)) 5 t.val)
        ∗ owns c.tc (spec0_6.stage (s 6)) fullShare (leftAt (arrsOf (V c)) 6 t.val)
        ∗ owns c.tc (spec0_7.stage (s 7)) fullShare (leftAt (arrsOf (V c)) 7 t.val)
        ∗ owns c.tc (spec0_8.stage (s 8)) fullShare (d 8)
        ∗ owns c.tc (spec0_9.stage (s 9)) fullShare (d 9))
      ⊢ wp frame (wpE (defs₀ (F := F)) Variants.none c none) Set.univ ((defs₀ (F := F)) .tc (cfg0 a).body ((cfg0 a).bodyArgs t s)) fun _ => wpPost V c s R t := by
  rw [defs_tc a t s]
  have hi := coord_val t
  unfold between
  iintro ⟨⟨%s0, %hb, Hs, HH, Hp⟩, HR, H0, H1, H2, H3, H4, H5, H6, H7, H8, H9⟩
  unfold scratch
  icases Hs with ⟨Hc, Hh, Hx, Hy, Hq⟩
  have hrun := (holds_acc c fullShare.right ((arrsOf (V c)).at (grid0.coords t 0).val) iprop(R ∗ ∃ r, prngReg c r)
    (Memref.whole main_arg1) (spec0_0.stage (s 0)) (spec0_1.stage (s 1)) (spec0_2.stage (s 2)) (spec0_3.stage (s 3)) (spec0_4.stage (s 4))
    (spec0_5.stage (s 5)) (spec0_6.stage (s 6)) (spec0_7.stage (s 7)) (spec0_8.stage (s 8)) (spec0_9.stage (s 9)) (Memref.whole cc0_scratch0)
    (Memref.whole cc0_scratch1) (Memref.whole cc0_scratch2) (Memref.whole cc0_scratch3) (Memref.whole cc0_scratch4)).body
    (defs := defs₀ (F := F)) (𝒱 := Variants.none) (bd := none) (E := Set.univ) hE.lt
    (grid0.coords t) (Memref.isWhole_whole _) (hstage0_0 ((s 0).cast nbuf0_0)) (hstage0_1 ((s 1).cast nbuf0_1)) (hstage0_2 ((s 2).cast nbuf0_2))
    (hstage0_3 ((s 3).cast nbuf0_3)) (hstage0_4 ((s 4).cast nbuf0_4)) (hstage0_5 ((s 5).cast nbuf0_5)) (hstage0_6 ((s 6).cast nbuf0_6))
    (hstage0_7 ((s 7).cast nbuf0_7)) (hstage0_8 ((s 8).cast nbuf0_8)) (hstage0_9 ((s 9).cast nbuf0_9)) (Memref.isWhole_whole _)
    (Memref.isWhole_whole _) (Memref.isWhole_whole _) (Memref.isWhole_whole _) (Memref.isWhole_whole _)
    ⟨d 8, d 9, s0.cs, s0.hid, s0.gx, s0.gy, s0.hp⟩
  rw [← hi] at hb
  have hpt := Between.point hE (grid0.coords t) (s := ⟨d 8, d 9, s0.cs, s0.hid, s0.gx, s0.gy, s0.hp⟩) hb
  have hpost : ∀ (r : Unit) (s' : Bufs F), s' = trips ((arrsOf (V c)).at (grid0.coords t 0).val) (grid0.coords t) ⟨d 8, d 9, s0.cs, s0.hid, s0.gx, s0.gy, s0.hp⟩ 8 →
      holds c fullShare.right ((arrsOf (V c)).at (grid0.coords t 0).val) iprop(R ∗ ∃ r, prngReg c r)
        (Memref.whole main_arg1) (spec0_0.stage (s 0)) (spec0_1.stage (s 1)) (spec0_2.stage (s 2)) (spec0_3.stage (s 3)) (spec0_4.stage (s 4))
        (spec0_5.stage (s 5)) (spec0_6.stage (s 6)) (spec0_7.stage (s 7)) (spec0_8.stage (s 8)) (spec0_9.stage (s 9)) (Memref.whole cc0_scratch0)
        (Memref.whole cc0_scratch1) (Memref.whole cc0_scratch2) (Memref.whole cc0_scratch3) (Memref.whole cc0_scratch4) s'
      ⊢ (fun _ => wpPost V c s R t) r := by
    intro _ s' hs'
    rw [← hs', hi] at hpt
    obtain ⟨hb', h10, h11⟩ := hpt
    unfold holds wpPost between scratch
    rw [hi, h10, h11]
    iintro ⟨⟨HR, Hp⟩, HH, H0, H1, H2, H3, H4, H5, H6, H7, H8, H9, Hc, Hh, Hx, Hy, Hq⟩
    isplitl [HH Hp Hc Hh Hx Hy Hq]
    · iexists s'
      isplitr
      · ipureintro; exact hb'
      isplitl [Hc Hh Hx Hy Hq]
      · isplitl [Hc]; · iexact Hc
        isplitl [Hh]; · iexact Hh
        isplitl [Hx]; · iexact Hx
        isplitl [Hy]; · iexact Hy
        iexact Hq
      isplitl [HH]; · iexact HH
      iexact Hp
    isplitl [HR]; · iexact HR
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  have hgo := hrun _ hpost
  iapply hgo
  unfold holds
  rw [hi]
  isplitl [HR Hp]
  · isplitl [HR]; · iexact HR
    iexact Hp
  isplitl [HH]; · iexact HH
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hc]; · iexact Hc
  isplitl [Hh]; · iexact Hh
  isplitl [Hx]; · iexact Hx
  isplitl [Hy]; · iexact Hy
  iexact Hq

/-- The body's obligation at every point. -/
theorem body_obligation (hE : Earlier (arrsOf (V c)).H) :
    Pipeline.BodyObligation (dat a V c) (defs₀ (F := F)) Variants.none () Set.univ := by
  intro t
  rw [bigSep_W0, bigSep_W0]
  rw [show (dat a V c).Φ t.castSucc = between V c t.val from rfl, show (dat a V c).Φ t.succ = between V c (t.val + 1) from rfl,
    show (dat a V c).owesAt () t.succ = (dat a V c).owesAt () t.castSucc from rfl]
  iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hat := body_at a V c hE t ((cfg0 a).slots t) ((dat a V c).owesAt () t.castSucc) (fun w => match w with
    | 8 => (dat a V c).before 8 t d8
    | 9 => (dat a V c).before 9 t d9
    | w => leftAt (arrsOf (V c)) w t.val)
  unfold wpPost at hat
  rw [before_in a V c 0 rfl t d0, before_in a V c 1 rfl t d1, before_in a V c 2 rfl t d2, before_in a V c 3 rfl t d3,
    before_in a V c 4 rfl t d4, before_in a V c 5 rfl t d5, before_in a V c 6 rfl t d6, before_in a V c 7 rfl t d7]
  iapply hat
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Region

end Cert.Proof
-- ==== Proof.Whole.lean ====
module

public import proofs.«01_k».proof.Proof.Around
public import Idealize.ShloMosaic.Lib.Pipeline.FrameSuffix
public import Idealize.ShloMosaic.Lib.Pipeline.ValueKit
public import Idealize.ShloMosaic.Lib.StableHlo.RunRead

@[expose] public section

/-! The whole program's run: the region's invariant holds at its entry and gives the buffers back at its exit, the two arrays it
    writes are assembled from their blocks, and the operations before and after the region are read at their results. -/

noncomputable section

namespace Cert.Proof

open Idealize.ShloMosaic
open Idealize.ShloMosaic.TcCoe
open Idealize.SL
open Idealize.SL.RA Idealize.SL.Sem Idealize.SL.ProofMode
open Idealize.SL.BI (sProp bigSep)
open scoped Idealize.SL.BI
open Idealize.SL.BI.BIBase Idealize.SL.BI.Laws
open Cert.KernelIdeal Cert.KernelIdeal.Gen

variable {F : FTy → Type} [FloatOps F]

section Region

variable (a : (pcfg0 (F := F)).Adm) (V : Dev nD → Valuation τ sig (Elt F)) (c : Dev nD)

/-- The first result of the region: node `t`'s row is the upward state of node `t`. -/
def upAll (P : Arrs F) : Vec F S256x64x512 .bf16 := fun j => up P (255 - (j 0).val) (ix2 (j 1) (j 2))

/-- The second result of the region: node `t`'s row is the downward state of node `t`. -/
def downAll (P : Arrs F) : Vec F S256x64x512 .bf16 := fun j => down P (j 0).val (ix2 (j 1) (j 2))

/-- Some contents of the table: the windows' geometry does not depend on them. -/
def someAdm : (pcfg0 (F := Ideal)).Adm :=
  ⟨fun | 0 => fun _ => (0 : BitVec 32) | ⟨_ + 1, h⟩ => absurd h (Nat.not_lt.2 (Nat.le_add_left _ _)), trivial⟩

/-- The blocks of the first result cover it. -/
theorem covers_up : ((cfg0 (F := Ideal) someAdm).win 8).Covers := by decide +kernel

/-- The blocks of the second result cover it. -/
theorem covers_down : ((cfg0 (F := Ideal) someAdm).win 9).Covers := by decide +kernel

/-- A block of the first result, written through its window. -/
theorem up_block (P : Arrs F) (b : Nat) (hb : b < 32) (f : Fin 3 → Nat) (hf : f = ![31 - b, 0, 0])
    (j : S8x64x512.Idx) (j' : S256x64x512.Idx) (h : ∀ x, (j' x).val = f x * S8x64x512.size x + 1 * (j x).val) :
    upBlk P b j = upAll P j' := by
  subst hf
  have h0 : (j' 0).val = (31 - b) * 8 + 1 * (j 0).val := h 0
  have h1 : j' 1 = j 1 := Fin.ext ((h 1).trans (show 0 * 64 + 1 * (j 1).val = (j 1).val by omega))
  have h2 : j' 2 = j 2 := Fin.ext ((h 2).trans (show 0 * 512 + 1 * (j 2).val = (j 2).val by omega))
  have hj : (j 0).val < 8 := (j 0).isLt
  unfold upBlk upAll
  rw [h1, h2, show 255 - (j' 0).val = 8 * b + (7 - (j 0).val) by omega]

/-- A block of the second result, written through its window. -/
theorem down_block (P : Arrs F) (b : Nat) (hb : b < 32) (f : Fin 3 → Nat) (hf : f = ![b, 0, 0])
    (j : S8x64x512.Idx) (j' : S256x64x512.Idx) (h : ∀ x, (j' x).val = f x * S8x64x512.size x + 1 * (j x).val) :
    downBlk P b j = downAll P j' := by
  subst hf
  have h0 : (j' 0).val = b * 8 + 1 * (j 0).val := h 0
  have h1 : j' 1 = j 1 := Fin.ext ((h 1).trans (show 0 * 64 + 1 * (j 1).val = (j 1).val by omega))
  have h2 : j' 2 = j 2 := Fin.ext ((h 2).trans (show 0 * 512 + 1 * (j 2).val = (j 2).val by omega))
  unfold downBlk downAll
  rw [h1, h2, show (j' 0).val = 8 * b + (j 0).val by omega]

/-- What the region leaves in its first result. -/
theorem arr_up : (dat a V c).arrAt 8 grid0.N = upAll (arrsOf (V c)) := by
  refine (dat a V c).arrAt_eq_of_covers 8 _ covers_up fun t hf y => ?_
  exact up_block (arrsOf (V c)) t.val (N_0 ▸ t.isLt) _ (back_index t) y _ fun x => rfl

/-- What the region leaves in its second result. -/
theorem arr_down : (dat a V c).arrAt 9 grid0.N = downAll (arrsOf (V c)) := by
  refine (dat a V c).arrAt_eq_of_covers 9 _ covers_down fun t hf y => ?_
  exact down_block (arrsOf (V c)) t.val (N_0 ▸ t.isLt) _ (forth_index t) y _ fun x => rfl

end Region

section Launch

variable (m : (ℓ : Loc nD τ sig) → Buf (Elt F) ℓ) (g : Dev nD → PrngReg)

/-- The contents of the buffers when the region is entered. -/
abbrev atEntry (c : Dev nD) : Valuation τ sig (Elt F) := StableHlo.after [hostOps0].flatten (fun b => m (c, b))

/-- The table of heads as the region prefetches it. -/
def adm : (p : Fin 1) → (pcfgs (F := F) p).Adm :=
  fun _ => ⟨fun k => atEntry m 0 (Proc.devRef .tc (pre0.ref k)), trivial⟩

/-- The proof data of the program's one region. -/
def dats (p : Fin 1) (c : Dev nD) : Pipeline.Dat τ (Elt F) Unit ℕ (UR sig nD τ) ℕ (Pipeline.pin (pcfgs (F := F)) (adm m) p) c :=
  dat (adm m 0) (atEntry m) c

/-- The first result of `main`, from the two results of the region. -/
def join0 (A B : Vec F S256x64x512 .bf16) : Vec F S64x256x1024 .f32 :=
  extf .f32 (transpose S64x256x1024 [1, 0, 2] (concatenate S256x64x1024 2 [⟨S256x64x512, A⟩, ⟨S256x64x512, B⟩]
    concatenates_S256x64x512_S256x64x512_S256x64x1024_d2) transposes_S256x64x1024_S64x256x1024_1_0_2) bitsLt_bf16_f32

/-- The second result of `main`, from the two results of the region. -/
def join1 (A B : Vec F S256x64x512 .bf16) : Vec F S1x64x1024 .f32 :=
  extf .f32 (broadcastInDim S1x64x1024 ![1, 2] bcast_S64x1024_S1x64x1024_1_2
    (concatenate S64x1024 1
      [⟨S64x512, shapeCast S64x512 (extractStridedSlice S1x64x512 ![0, 0, 0] A slices_S256x64x512_S1x64x512_0_0_0) shapeCasts_S1x64x512_S64x512⟩,
       ⟨S64x512, shapeCast S64x512 (extractStridedSlice S1x64x512 ![255, 0, 0] B slices_S256x64x512_S1x64x512_255_0_0) shapeCasts_S1x64x512_S64x512⟩]
      concatenates_S64x512_S64x512_S64x1024_d1)) bitsLt_bf16_f32

/-- The first result of `main`, from the arrays the region reads. -/
def result0 (P : Arrs F) : Vec F S64x256x1024 .f32 := join0 (upAll P) (downAll P)

/-- The second result of `main`, from the arrays the region reads. -/
def result1 (P : Arrs F) : Vec F S1x64x1024 .f32 := join1 (upAll P) (downAll P)

/-- The region's invariant at its entry. -/
theorem enter (c : Dev nD) :
    iprop((Pipeline.ΦA spec0 c : sProp (MT nD τ sig Unit (Elt F) ℕ (UR sig nD τ) ℕ))
      ∗ Pipeline.ΦT pre0 (adm m 0).1 c) ⊢ between (atEntry m) c 0 := by
  unfold Pipeline.ΦA Pipeline.ΦT Pipeline.prefHeld between scratch
  rw [scopedRest0_eq, show (Finset.univ : Finset (Fin pre0.K)) = {0} from rfl, Idealize.SL.BI.bigSep_singleton]
  simp only [owns_whole]
  iintro ⟨⟨⟨⟨%f0, H0⟩, ⟨%f1, H1⟩, ⟨%f2, H2⟩, ⟨%f3, H3⟩, ⟨%f4, H4⟩⟩, Hp⟩, Ht⟩
  iexists (⟨fun _ => Scalar.ofBits .bf16 0, fun _ => Scalar.ofBits .bf16 0, f0, f1, f2, f3, f4⟩ : Bufs F)
  isplitr
  · ipureintro; exact ⟨fun h => absurd rfl h, fun h => absurd rfl h⟩
  isplitl [H0 H1 H2 H3 H4]
  · isplitl [H0]; · iexact H0
    isplitl [H1]; · iexact H1
    isplitl [H2]; · iexact H2
    isplitl [H3]; · iexact H3
    iexact H4
  isplitl [Ht]
  · rw [Subsingleton.elim c 0]
    iexact Ht
  iexact Hp

/-- The region gives the buffers back at its exit. -/
theorem leave (c : Dev nD) :
    between (atEntry m) c grid0.N ⊢ (Pipeline.ΦA spec0 c : sProp (MT nD τ sig Unit (Elt F) ℕ (UR sig nD τ) ℕ)) := by
  unfold Pipeline.ΦA between scratch
  rw [scopedRest0_eq]
  simp only [owns_whole]
  iintro ⟨%s, -, ⟨H0, H1, H2, H3, H4⟩, -, Hp⟩
  isplitr [Hp]
  · isplitl [H0]; · iexists s.cs; iexact H0
    isplitl [H1]; · iexists s.hid; iexact H1
    isplitl [H2]; · iexists s.gx; iexact H2
    isplitl [H3]; · iexists s.gy; iexact H3
    iexists s.hp; iexact H4
  iexact Hp

/-- A buffer that is none of an operation's two is not among them. -/
theorem not_mem_two {r x y : Ref sig .tc} (hx : r ≠ x) (hy : r ≠ y) :
    Proc.devRef .tc r ∉ ({Proc.devRef .tc x, Proc.devRef .tc y} : Finset (DevRef τ sig)) := fun h => by
  rcases Finset.mem_insert.mp h with h | h
  · exact hx (Proc.devRef_injective (τ := τ) _ h)
  · exact hy (Proc.devRef_injective (τ := τ) _ (Finset.mem_singleton.mp h))

/-- A buffer that is none of an operation's three is not among them. -/
theorem not_mem_three {r x y z : Ref sig .tc} (hx : r ≠ x) (hy : r ≠ y) (hz : r ≠ z) :
    Proc.devRef .tc r ∉ ({Proc.devRef .tc x, Proc.devRef .tc y, Proc.devRef .tc z} : Finset (DevRef τ sig)) := fun h => by
  rcases Finset.mem_insert.mp h with h | h
  · exact hx (Proc.devRef_injective (τ := τ) _ h)
  · exact not_mem_two hy hz h

/-- No operation after the region touches the table of heads. -/
theorem tail_table : (hostOps1 (F := F)).Forall fun op => Proc.devRef .tc main_arg1 ∉ op.bufs := by
  refine ⟨?_, ?_, ?_, ?_, ?_, ?_, ?_, ?_, ?_, ?_⟩
  all_goals first
    | exact not_mem_two (by decide) (by decide)
    | exact not_mem_three (by decide) (by decide) (by decide)

/-- The operations after the region touch its arrays and the buffers it leaves alone. -/
theorem tail_sub (op : HloOp τ sig (Elt F)) (hop : op ∈ hostOps1 (F := F)) : op.bufs ⊆ Pipeline.tailRefs sig pre0 spec0 :=
  Pipeline.sub_tailRefs _ _ op (List.forall_iff_forall_mem.mp hostOps1_sub op hop) fun k => by
    rw [Subsingleton.elim (α := Fin 1) k 0]
    exact List.forall_iff_forall_mem.mp tail_table op hop

/-- The operations after the region take no buffer of their own. -/
theorem tail_fresh : (hostOps1 (F := F)).Forall fun op => op.fresh = ∅ :=
  ⟨rfl, rfl, rfl, rfl, rfl, rfl, rfl, rfl, rfl, rfl⟩

/-- A buffer other than the one an operation writes is not among what it writes. -/
theorem not_mem_one {y : Ref sig .tc} (h : ∀ w, Pipeline.arrRef spec0 w ≠ y) (w : Fin 10) :
    Proc.devRef .tc (Pipeline.arrRef spec0 w) ∉ ({Proc.devRef .tc y} : Finset (DevRef τ sig)) :=
  fun hm => h w (Proc.devRef_injective (τ := τ) _ (Finset.mem_singleton.mp hm))

/-- The operations after the region write no array of the region. -/
theorem tail_keep : (hostOps1 (F := F)).Forall fun op => ∀ w : Fin 10, Proc.devRef .tc (Pipeline.arrRef spec0 w) ∉ op.writes :=
  ⟨not_mem_one (by decide), not_mem_one (by decide), not_mem_one (by decide), not_mem_one (by decide), not_mem_one (by decide),
    not_mem_one (by decide), not_mem_one (by decide), not_mem_one (by decide), not_mem_one (by decide), not_mem_one (by decide)⟩

/-- The contents of the buffers when the region is left. -/
def atExit (c : Dev nD) : Valuation τ sig (Elt F) :=
  Pipeline.withArrays spec0 c (atEntry m c) fun w => (dats m 0 c).arrAt w grid0.N

/-- The first result of the region when it is left. -/
theorem atExit_up (c : Dev nD) : atExit m c (Proc.devRef .tc main_v2_0) = upAll (arrsOf (atEntry m c)) :=
  ((dats m 0 c).withArrays_arrAt sharedIn0 (atEntry m c) (fun _ => rfl) 8).trans (arr_up _ _ _)

/-- The second result of the region when it is left. -/
theorem atExit_down (c : Dev nD) : atExit m c (Proc.devRef .tc main_v2_1) = downAll (arrsOf (atEntry m c)) :=
  ((dats m 0 c).withArrays_arrAt sharedIn0 (atEntry m c) (fun _ => rfl) 9).trans (arr_down _ _ _)

/-- The operations before the region write two buffers only. -/
theorem atEntry_keep (c : Dev nD) (b : Ref sig .tc) (h0 : b ≠ main_v0) (h1 : b ≠ main_v1) :
    atEntry m c (Proc.devRef .tc b) = m ((c.tc : Thread nD τ).loc b) :=
  StableHlo.after_unwritten [main_v0, main_v1] rfl (by simp [h0, h1]) _

/-- The operations after the region write ten buffers only, and the region its arrays only. -/
theorem after_tail_keep (c : Dev nD) (b : Ref sig .tc)
    (h : b ∉ [main_v3, main_v4, main_v5, main_v6, main_v7, main_v8, main_v9, main_v10, main_v11, main_v12] ∧ ∀ w, Pipeline.arrRef spec0 w ≠ b) :
    StableHlo.after hostOps1 (atExit m c) (Proc.devRef .tc b) = atEntry m c (Proc.devRef .tc b) :=
  (StableHlo.after_unwritten _ rfl h.1 _).trans (Pipeline.withArrays_of_ne _ c _ _ _ h.2)

/-- The first result of `main`, from the arrays of the region. -/
theorem tail_v5 (W : Valuation τ sig (Elt F)) : StableHlo.after hostOps1 W (Proc.devRef .tc main_v5) =
    join0 (W (Proc.devRef .tc main_v2_0)) (W (Proc.devRef .tc main_v2_1)) := by
  after_reads_simp
  rfl

/-- The second result of `main`, from the arrays of the region. -/
theorem tail_v12 (W : Valuation τ sig (Elt F)) : StableHlo.after hostOps1 W (Proc.devRef .tc main_v12) =
    join1 (W (Proc.devRef .tc main_v2_0)) (W (Proc.devRef .tc main_v2_1)) := by
  after_reads_simp
  rfl

/-- What every run of `main` ends with: the two results, and the arguments as they were. -/
theorem run (hE : ∀ c, Earlier (arrsOf (atEntry m c)).H) :
    θ_run (defs (F := F)) (onTc main) ⟨m, fun _ => 0, g⟩ fun r =>
      (∀ c : Dev nD, r.2.mem ((c.tc : Thread nD τ).loc main_v5) = result0 (arrsOf (atEntry m c))
        ∧ r.2.mem ((c.tc : Thread nD τ).loc main_v12) = result1 (arrsOf (atEntry m c))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0 := by
  refine Pipeline.θ_run_frameP_around_track_shared pcfgs (adm m) (fun p c => dats m p c) 0 launch₀0 defs₀ Variants.none m g main
    (fun c => (body_obligation (adm m 0) (atEntry m) c (hE c)).loose) (fun _ _ _ => rfl) (fun _ _ => rfl) (atEntry m) [hostOps1]
    ?_ ?_ ?_ ?_ (fun _ _ => rfl) ?_ (enter m) (leave m) _ ?_
  · exact fun ops hops op hop => tail_sub op (List.mem_singleton.mp hops ▸ hop)
  · exact fun ops hops op hop => List.forall_iff_forall_mem.mp tail_fresh op (List.mem_singleton.mp hops ▸ hop)
  · exact fun ops hops op hop => List.forall_iff_forall_mem.mp tail_keep op (List.mem_singleton.mp hops ▸ hop)
  · exact Pipeline.hmainP_around (pcs := pcfgs) (p := 0) (defs₀ := defs₀) (𝒱₀ := Variants.none) m main [hostOps0] [hostOps1] hostOps0_sub ⟨rfl, rfl⟩ (fun c => main_chain c)
  · intro c k
    rw [Subsingleton.elim c 0]
    rfl
  · rintro r ⟨h, hs⟩
    refine ⟨fun c => ?_, hs⟩
    obtain ⟨ha, hr'⟩ := h c
    have hr : ∀ b ∈ Pipeline.restRefs sig spec0, r.2.mem ((c.tc : Thread nD τ).loc b) = StableHlo.after hostOps1 (atExit m c) (Proc.devRef .tc b) := hr'
    refine ⟨(hr main_v5 (by decide)).trans ?_, (hr main_v12 (by decide)).trans ?_,
      (ha 0).trans (((dats m 0 c).arrAt_in 0 rfl _).trans ?_),
      (hr main_arg1 (by decide)).trans ((after_tail_keep m c main_arg1 (by decide)).trans ?_),
      (ha 2).trans (((dats m 0 c).arrAt_in 2 rfl _).trans ?_), (ha 3).trans (((dats m 0 c).arrAt_in 3 rfl _).trans ?_),
      (hr main_arg4 (by decide)).trans ((after_tail_keep m c main_arg4 (by decide)).trans ?_),
      (ha 5).trans (((dats m 0 c).arrAt_in 5 rfl _).trans ?_), (ha 6).trans (((dats m 0 c).arrAt_in 6 rfl _).trans ?_),
      (hr main_arg7 (by decide)).trans ((after_tail_keep m c main_arg7 (by decide)).trans ?_)⟩
    · rw [tail_v5, atExit_up, atExit_down]; rfl
    · rw [tail_v12, atExit_up, atExit_down]; rfl
    · exact atEntry_keep m c main_arg0 (by decide) (by decide)
    · exact atEntry_keep m c main_arg1 (by decide) (by decide)
    · exact atEntry_keep m c main_arg2 (by decide) (by decide)
    · exact atEntry_keep m c main_arg3 (by decide) (by decide)
    · exact atEntry_keep m c main_arg4 (by decide) (by decide)
    · exact atEntry_keep m c main_arg5 (by decide) (by decide)
    · exact atEntry_keep m c main_arg6 (by decide) (by decide)
    · exact atEntry_keep m c main_arg7 (by decide) (by decide)

end Launch

end Cert.Proof
-- ==== Proof.Heads.lean ====
module

public import proofs.«01_k».proof.Proof.Whole
public import proofs.«01_k».proof.Pre_earlier_heads
public import proofs.«01_k».proof.Proof.Gen.Pre_earlier_heads
public import Idealize.ShloMosaic.Lib.ReduceAll
public import Idealize.ShloMosaic.Lib.Affine
public import Idealize.ShloMosaic.Lib.Pointwise

@[expose] public section

/-! The precondition, read: every head is the number of an earlier node or the number of the root's row. -/

noncomputable section

namespace Cert.Proof

open Idealize.ShloMosaic

variable {F : FTy → Type} [FloatOps F]

/-- A word that is at least 0 and below `t`, read signed, or is 256, is a number below `t` or 256. -/
theorem word_earlier (v : BitVec 32) (t : Nat) (ht : t < 256)
    (h : IntOp.andi (IntOp.cmpi .sge v 0#32) (IntOp.ori (IntOp.cmpi .slt v (BitVec.ofNat 32 t)) (IntOp.cmpi .eq v 256#32)) = 1#1) :
    v.toNat < t ∨ v.toNat = 256 := by
  have key : ∀ p q r : Bool, IntOp.andi (BitVec.ofBool p) (IntOp.ori (BitVec.ofBool q) (BitVec.ofBool r)) = 1#1 → p = true ∧ (q = true ∨ r = true) := by
    decide
  obtain ⟨h0, h1⟩ := key _ _ _ h
  have hv : 0 ≤ v.toInt := by
    have := of_decide_eq_true h0
    simpa using this
  have hn : v.toInt = v.toNat := by
    rw [BitVec.toInt_eq_toNat_cond] at hv ⊢
    have := v.isLt
    split at hv <;> omega
  rcases h1 with h1 | h1
  · left
    have := of_decide_eq_true h1
    rw [hn, BitVec.toInt_eq_toNat_cond, BitVec.toNat_ofNat, Nat.mod_eq_of_lt (by omega), if_pos (by omega)] at this
    omega
  · right
    have : v = 256#32 := by simpa using h1
    rw [this]
    rfl

/-- Where the precondition is all ones, the heads are earlier nodes or the root's row. -/
theorem earlier_of_pre (x : FVec F Pre_earlier_heads.S256x64x512 .f32) (H : IVec Pre_earlier_heads.S64x256 32)
    (a2 a3 : FVec F Pre_earlier_heads.S512x1536 .f32) (a4 : FVec F Pre_earlier_heads.S1536 .f32)
    (a5 a6 : FVec F Pre_earlier_heads.S512x1536 .f32) (a7 : FVec F Pre_earlier_heads.S1536 .f32)
    (h : Pre_earlier_heads.fn x H a2 a3 a4 a5 a6 a7 = fun _ => 1#1) : Earlier (F := F) H := by
  intro b t hb ht
  have h0 := congrFun h (Shape.Idx.first Pre_earlier_heads.Facts.h_S_)
  dsimp only [Pre_earlier_heads.fn] at h0
  have h1 := Host.reduce_andi_all _ _ _ _ _ h0 (ix2 ⟨b, hb⟩ ⟨t, ht⟩)
  unfold hd
  rw [dif_pos ⟨hb, ht⟩]
  refine word_earlier _ t ht ?_
  exact h1

end Cert.Proof
-- ==== Proof.Bits.lean ====
module

public import proofs.«01_k».proof.Proof.Whole
public import proofs.«01_k».proof.Kernel
public import proofs.«01_k».proof.Proof.Gen.Kernel

@[expose] public section

/-! The program as printed for the machine's own numbers is the same text as the one read over the extended reals. -/

noncomputable section

namespace Cert.Proof

open Idealize.ShloMosaic
open Idealize.ShloMosaic.TcCoe
open Idealize.SL.Sem

variable {F : FTy → Type} [FloatOps F]

/-- The two tables of buffers are one. -/
theorem sig_same : Cert.Kernel.sig = Cert.KernelIdeal.sig := by
  rfl

set_option maxRecDepth 100000 in
set_option maxHeartbeats 4000000 in
/-- The two body tables are one. -/
theorem defs0_same : HEq (Cert.Kernel.defs₀ (F := F)) (Cert.KernelIdeal.defs₀ (F := F)) := by
  refine heq_of_eq (congrArg Defs.onTc ?_)
  funext l x
  match l, x with
  | ⟨0, _⟩, (t, s) => rfl

/-- The two body tables with the pipelines' regions are one. -/
theorem defs_same : HEq (Cert.Kernel.defs (F := F)) (Cert.KernelIdeal.defs (F := F)) := by
  have h := eq_of_heq (defs0_same (F := F))
  exact heq_of_eq (congrArg (Pipeline.defs Cert.KernelIdeal.pcfgs) h)

set_option maxRecDepth 100000 in
set_option maxHeartbeats 4000000 in
/-- The two host programs are one. -/
theorem main_same : HEq (Cert.Kernel.main (F := F)) (Cert.KernelIdeal.main (F := F)) := by
  exact heq_of_eq (by rfl)

end Cert.Proof
-- ==== Proof.Frames.lean ====
module

public import proofs.«01_k».proof.Proof.Heads
public import proofs.«01_k».proof.Proof.Bits
public import proofs.«01_k».proof.Defs

@[expose] public section

/-! The kernel's frames: the run's post, weakened to the arguments and the semaphore counters. -/

noncomputable section

namespace Cert.Proof

open Idealize.ShloMosaic
open Idealize.ShloMosaic.TcCoe
open Idealize.SL.Sem
open Cert.KernelIdeal

variable {F : FTy → Type} [FloatOps F]

/-- The heads the region reads are the second argument. -/
theorem heads_arg (m : (ℓ : Loc nD τ sig) → Buf (Elt F) ℓ) (c : Dev nD) :
    (arrsOf (atEntry m c)).H = m ((c.tc : Thread nD τ).loc main_arg1) :=
  atEntry_keep m c main_arg1 (by decide) (by decide)

/-- The arguments hold in `m'` what they held in `m`. -/
def Kept (m : (ℓ : Loc nD τ sig) → Buf (Elt F) ℓ) (m' : (ℓ : Loc nD τ sig) → Buf (Elt F) ℓ) : Prop :=
  ∀ c : Dev nD, m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)
    ∧ m' ((c.tc : Thread nD τ).loc main_arg7) = m ((c.tc : Thread nD τ).loc main_arg7)

/-- The kernel over the extended reals runs, leaves its arguments alone and its semaphores at zero. -/
theorem frame_ideal : quiescent_KernelIdeal := by
  intro m g h
  refine θ_run_mono (run m g fun c => ?_) fun r hr => ⟨fun c => (hr.1 c).2.2, hr.2⟩
  rw [heads_arg]
  exact earlier_of_pre _ _ _ _ _ _ _ _ (h c)

/-- At any numbers, heads that are earlier nodes or the root's row suffice for the run to leave the arguments alone. -/
theorem kept (m : (ℓ : Loc nD τ sig) → Buf (Elt F) ℓ) (g : Dev nD → PrngReg)
    (h : ∀ c : Dev nD, Earlier (F := F) (m ((c.tc : Thread nD τ).loc main_arg1))) :
    θ_run (defs (F := F)) (onTc main) ⟨m, fun _ => 0, g⟩ (fun r => Kept m r.2.mem ∧ r.2.sem = fun _ => 0) :=
  θ_run_mono (run m g fun c => by rw [heads_arg]; exact h c) fun r hr => ⟨fun c => (hr.1 c).2.2, hr.2⟩

set_option maxRecDepth 100000 in
set_option maxHeartbeats 4000000 in
/-- The kernel at the machine's numbers runs, leaves its arguments alone and its semaphores at zero: it is the same program. -/
theorem frame_bits : quiescent_Kernel := by
  intro m g h
  rw [eq_of_heq (defs_same (F := Bits)), eq_of_heq (main_same (F := Bits))]
  exact kept (F := Bits) m g fun c => earlier_of_pre _ _ _ _ _ _ _ _ (h c)

end Cert.Proof
-- ==== Proof.Ref.lean ====
module

public import proofs.«01_k».proof.Proof.Gen.ReferenceIdeal.StepRun
public import proofs.«01_k».proof.Defs
public import proofs.«01_k».proof.Proof.Gen.Pre_earlier_heads
public import Idealize.ShloMosaic.Lib.Quiescent
public import Idealize.ShloMosaic.Lib.StableHlo.RunHlo

@[expose] public section

/-! The reference as its loop's step iterated, and its frames. -/

noncomputable section

namespace Cert.Proof.Ref

open Idealize.ShloMosaic
open Idealize.ShloMosaic.TcCoe
open Idealize.SL.Sem
open Cert.ReferenceIdeal
open Cert.ReferenceIdeal.Step (State step)
open Cert.ReferenceIdeal.StepRun (initState run_iter)

variable {F : FTy → Type} [FloatOps F]

/-- The loop's state after `n` trips from `s`. -/
def after (s : State F) : Nat → State F
  | 0 => s
  | n + 1 => step n (after s n)

/-- The reference declares no semaphore, so no counter is ever raised. -/
theorem quiet (s : MemSt nD τ sig (Elt F)) : s.sem = fun _ => 0 :=
  sem_eq_zero_of_no_sems (by decide) s

/-- The reference runs, leaves its arguments alone and its semaphores at zero. -/
theorem frame : quiescent_ReferenceIdeal := by
  intro m g _
  exact θ_run_mono (run_iter m g (fun c => after (initState m c)) (fun _ => rfl) fun _ _ => rfl)
    fun r hr => ⟨fun c => (hr c).2.2, quiet r.2⟩

/-- So it does where the heads are earlier nodes. -/
theorem frame_pre : quiescent_ReferenceIdeal_pre_earlier_heads := by
  intro m g _
  exact θ_run_mono (run_iter m g (fun c => after (initState m c)) (fun _ => rfl) fun _ _ => rfl)
    fun r hr => ⟨fun c => (hr c).2.2, quiet r.2⟩

end Cert.Proof.Ref
-- ==== Proof.Cell.lean ====
module

public import proofs.«01_k».proof.Proof.Grid
public import Idealize.ShloMosaic.Lib.Pointwise
public import Idealize.ShloMosaic.PureOps.Ideal

@[expose] public section

/-! The gated recurrent unit over the extended reals, at one row and one column, and the kernel's two units as it. -/

noncomputable section

namespace Cert.Proof

open Idealize.ShloMosaic
open Cert.KernelIdeal Cert.KernelIdeal.Gen

/-- One column of the unit's input product: row `x` by column `c` of `W`. -/
def prod (x : Fin 512 → EReal) (W : Vec Ideal S512x1536 .f32) (c : Fin 1536) : EReal := ∑ k : Fin 512, x k * W (ix2 k c)

/-- Column `j` of the reset gate. -/
def c0 (j : Fin 512) : Fin 1536 := ⟨j.val, by have := j.isLt; omega⟩

/-- Column `j` of the update gate. -/
def c1 (j : Fin 512) : Fin 1536 := ⟨512 + j.val, by have := j.isLt; omega⟩

/-- Column `j` of the candidate. -/
def c2 (j : Fin 512) : Fin 1536 := ⟨1024 + j.val, by have := j.isLt; omega⟩

/-- Column `j` of the unit's new state, of the input row `x` and the state row `h`. -/
def cell (W U : Vec Ideal S512x1536 .f32) (b : Fin 1536 → EReal) (x h : Fin 512 → EReal) (j : Fin 512) : EReal :=
  (1 - Ideal.logistic (prod x W (c1 j) + b (c1 j) + prod h U (c1 j)))
      * Ideal.tanh (prod x W (c2 j) + b (c2 j)
          + Ideal.logistic (prod x W (c0 j) + b (c0 j) + prod h U (c0 j)) * prod h U (c2 j))
    + Ideal.logistic (prod x W (c1 j) + b (c1 j) + prod h U (c1 j)) * h j

/-- The input products of a block of eight nodes, at row `q`: the product of one node's row in one tree. -/
theorem share_at (x : Vec Ideal S8x64x512 .f32) (W : Vec Ideal S512x1536 .f32) (q : Fin 512) (c : Fin 1536) :
    k0_pay170 x W (ix2 q c) = prod (fun k => x (ix3 ⟨q.val / 64, by have := q.isLt; omega⟩ ⟨q.val % 64, by omega⟩ k)) W c := by
  unfold k0_pay170 prod
  pointwise

/-- The kernel's bottom-up unit at one row and one column. -/
theorem upUnit_at (b : Vec Ideal S1x1536 .f32) (U : Vec Ideal S512x1536 .f32) (cs : Vec Ideal S1x64x512 .bf16) (y : Vec Ideal S64x1536 .f32)
    (a : Fin 64) (j : Fin 512) (W : Vec Ideal S512x1536 .f32) (x : Fin 512 → EReal) (hy : ∀ c, y (ix2 a c) = prod x W c) :
    k0_pay84 (k0_pay172 b) U cs y (ix2 a j) = cell W U (fun c => b (ix2 0 c)) x (fun k => cs (ix3 0 a k)) j := by
  unfold k0_pay84 k0_pay172 cell
  pointwise
  simp only [hy]
  rfl

/-- The kernel's top-down unit at one row and one column. -/
theorem downUnit_at (P : Arrs Ideal) (y : Vec Ideal S64x1536 .f32) (p : Vec Ideal S64x512 .bf16)
    (a : Fin 64) (j : Fin 512) (W : Vec Ideal S512x1536 .f32) (x : Fin 512 → EReal) (hy : ∀ c, y (ix2 a c) = prod x W c) :
    unit P y p (ix2 a j) = cell W P.ut (fun c => P.bt (ix2 0 c)) x (fun k => p (ix2 a k)) j := by
  unfold unit k0_pay87 k0_pay86 k0_pay85 k0_pay83 k0_pay82 k0_pay173 cell
  pointwise
  simp only [hy]
  rfl

/-- The rows of trip `k` in the bottom-up products. -/
theorem rows_up : ∀ k : Fin k0_t1_loop.trips, k0_off130 k = ![64 * (7 - k.val), 0] := by
  decide +kernel

/-- The rows of trip `k` in the top-down products. -/
theorem rows_down : ∀ k : Fin k0_t1_loop.trips, k0_off131 k = ![64 * k.val, 0] := by
  decide +kernel

/-- The input's products at step `n` of the bottom-up pass: those of node `255 - n`. -/
theorem gxOf_at (P : Arrs Ideal) (n : Nat) (hn : n < 256) (a : Fin 64) (c : Fin 1536) :
    gxOf P n (ix2 a c) = prod (fun k => P.x (ix3 ⟨255 - n, by omega⟩ a k)) P.wd c := by
  have := a.isLt
  unfold gxOf gxAt
  refine (congrArg (k0_pay170 (blk P.x (31 - n / 8)) P.wd) (?_ : _ = ix2 ⟨64 * (7 - n % 8) + a.val, by omega⟩ c)).trans ?_
  · funext x
    refine Fin.ext ?_
    match x with
    | ⟨0, _⟩ =>
      show k0_off130 (tripOf n) 0 + 1 * a.val = _
      rw [rows_up]
      show 64 * (7 - n % 8) + 1 * a.val = 64 * (7 - n % 8) + a.val
      omega
    | ⟨1, _⟩ =>
      show k0_off130 (tripOf n) 1 + 1 * c.val = _
      rw [rows_up]
      show 0 + 1 * c.val = c.val
      omega
  · rw [share_at]
    refine congrArg (fun x => prod x P.wd c) (funext fun k => congrArg P.x ?_)
    refine congrArg₂ (fun a b => ix3 a b k) (Fin.ext ?_) (Fin.ext ?_)
    · show (8 * (31 - n / 8) + (64 * (7 - n % 8) + a.val) / 64) % 256 = 255 - n
      omega
    · show (64 * (7 - n % 8) + a.val) % 64 = a.val
      omega

/-- The input's products at step `n` of the top-down pass: those of node `n`. -/
theorem gyOf_at (P : Arrs Ideal) (n : Nat) (hn : n < 256) (a : Fin 64) (c : Fin 1536) :
    gyOf P n (ix2 a c) = prod (fun k => P.x (ix3 ⟨n, hn⟩ a k)) P.wt c := by
  have := a.isLt
  unfold gyOf gyAt
  refine (congrArg (k0_pay170 (blk P.x (n / 8)) P.wt) (?_ : _ = ix2 ⟨64 * (n % 8) + a.val, by omega⟩ c)).trans ?_
  · funext x
    refine Fin.ext ?_
    match x with
    | ⟨0, _⟩ =>
      show k0_off131 (tripOf n) 0 + 1 * a.val = _
      rw [rows_down]
      show 64 * (n % 8) + 1 * a.val = 64 * (n % 8) + a.val
      omega
    | ⟨1, _⟩ =>
      show k0_off131 (tripOf n) 1 + 1 * c.val = _
      rw [rows_down]
      show 0 + 1 * c.val = c.val
      omega
  · rw [share_at]
    refine congrArg (fun x => prod x P.wt c) (funext fun k => congrArg P.x ?_)
    refine congrArg₂ (fun a b => ix3 a b k) (Fin.ext ?_) (Fin.ext ?_)
    · show (8 * (n / 8) + (64 * (n % 8) + a.val) / 64) % 256 = n
      omega
    · show (64 * (n % 8) + a.val) % 64 = a.val
      omega

/-- The kernel's bottom-up state of node `255 - n`, at one row and one column. -/
theorem upOf_at (P : Arrs Ideal) (n : Nat) (hn : n < 256) (cs : Vec Ideal S257x64x512 .bf16) (a : Fin 64) (j : Fin 512) :
    upOf P n cs (ix2 a j)
      = cell P.wd P.ud (fun c => P.bd (ix2 0 c)) (fun k => P.x (ix3 ⟨255 - n, by omega⟩ a k)) (fun k => cs (ix3 ⟨255 - n, by omega⟩ a k)) j := by
  unfold upOf
  rw [upUnit_at P.bd P.ud _ _ a j P.wd _ (gxOf_at P n hn a)]
  refine congrArg (fun h => cell _ _ _ _ h j) (funext fun k => congrArg cs ?_)
  exact congrArg (fun r => ix3 r a k) (Fin.ext (by show (255 - n) % 257 = 255 - n; omega))

/-- The kernel's top-down state of node `n`, at one row and one column. -/
theorem downOf_at (P : Arrs Ideal) (n : Nat) (hn : n < 256) (p : Vec Ideal S64x512 .bf16) (a : Fin 64) (j : Fin 512) :
    unit P (gyOf P n) p (ix2 a j)
      = cell P.wt P.ut (fun c => P.bt (ix2 0 c)) (fun k => P.x (ix3 ⟨n, hn⟩ a k)) (fun k => p (ix2 a k)) j :=
  downUnit_at P _ p a j P.wt _ (gyOf_at P n hn a)

end Cert.Proof
-- ==== Proof.RefCell.lean ====
module

public import proofs.«01_k».proof.Proof.Cell
public import proofs.«01_k».proof.Proof.Gen.ReferenceIdeal.Step
public import proofs.«01_k».proof.Proof.Gen.ReferenceIdeal
public import Idealize.ShloMosaic.Lib.Pointwise
public import Idealize.ShloMosaic.Lib.DynamicIndex
public import Idealize.ShloMosaic.Lib.Routing.OpsPair

@[expose] public section

/-! One trip of the reference's loop over the extended reals, at one index. -/

noncomputable section

namespace Cert.Proof.Ref

open Idealize.ShloMosaic
open Cert.ReferenceIdeal Cert.ReferenceIdeal.Gen Cert.ReferenceIdeal.Step

/-- The scalar word that every index of a rank-0 tensor reads. -/
def word (t : Nat) : (⟨S_, .i32⟩ : BufTy).Contents (Elt Ideal) := fun _ => BitVec.ofNat 32 t

/-- A small number's word is not moved by the wrap of an index. -/
theorem wrap_word (t a : Nat) (ht : t < 2 ^ 31) (i : S_.Idx) :
    select (cmpi .slt (word t) (constantI S_ 32 0#32)) (addi (word t) (constantI S_ 32 (BitVec.ofNat 32 a))) (word t) i = BitVec.ofNat 32 t :=
  Routing.wrap_of_lt (BitVec.ofNat 32 t) _ (by rw [BitVec.toNat_ofNat]; omega)

/-- The slice of one node's rows of a table of `n` rows. -/
theorem row_at {n : Nat} (X : (⟨3, ![n, 64, 512]⟩ : Shape).Idx → EReal) (st : Fin 3 → Int)
    (h : (⟨3, ![n, 64, 512]⟩ : Shape).Slices (fun _ => 0) S1x64x512) (h' : S1x64x512.ShapeCasts S64x512) (t : Nat) (ht : t < n)
    (h0 : st 0 = t) (h1 : st 1 = 0) (h2 : st 2 = 0) (a : Fin 64) (k : Fin 512) :
    shapeCast S64x512 (Host.dynamicSlice S1x64x512 X st h) h' (ix2 a k) = X (ix3 ⟨t, ht⟩ a k) := by
  have e0 : Host.clampedStart ⟨3, ![n, 64, 512]⟩ S1x64x512 rfl st 0 = t :=
    Host.clampedStart_of_le _ _ _ _ h0 (by show t + 1 ≤ n; omega)
  have e1 : Host.clampedStart ⟨3, ![n, 64, 512]⟩ S1x64x512 rfl st 1 = 0 := Host.clampedStart_of_le _ _ _ 0 h1 (Nat.le_refl 64)
  have e2 : Host.clampedStart ⟨3, ![n, 64, 512]⟩ S1x64x512 rfl st 2 = 0 := Host.clampedStart_of_le _ _ _ 0 h2 (Nat.le_refl 512)
  pointwise
  refine congrArg X (funext fun x => Fin.ext ?_)
  match x with
  | ⟨0, _⟩ =>
    show Host.clampedStart ⟨3, ![n, 64, 512]⟩ S1x64x512 rfl st 0 + 0 = t
    rw [e0, Nat.add_zero]
  | ⟨1, _⟩ =>
    show Host.clampedStart ⟨3, ![n, 64, 512]⟩ S1x64x512 rfl st 1 + a.val = a.val
    rw [e1, Nat.zero_add]
  | ⟨2, _⟩ =>
    show Host.clampedStart ⟨3, ![n, 64, 512]⟩ S1x64x512 rfl st 2 + k.val = k.val
    rw [e2, Nat.zero_add]

/-- The wrapped word of a small node, read as a signed number. -/
theorem wrap_int (t a : Nat) (ht : t < 256) (i : S_.Idx) :
    (select (cmpi .slt (word t) (constantI S_ 32 0#32)) (addi (word t) (constantI S_ 32 (BitVec.ofNat 32 a))) (word t) i).toInt = t := by
  rw [wrap_word t a (by omega), toInt_ofNat_of_lt (by omega)]

/-- The bottom-up input: the node's row. -/
theorem up_input (j : Nat) (s : State Ideal) (t : Nat) (ht : t < 256) (hs : s.main_v6_12 = word t) (a : Fin 64) (k : Fin 512) :
    b24 j s (ix2 a k) = s.main_v6_0 (ix3 ⟨t, ht⟩ a k) := by
  unfold b24 b23
  refine row_at s.main_v6_0 _ _ _ t ht ?_ rfl rfl a k
  show (b6 j s (Shape.Idx.first h_S_)).toInt = t
  unfold b6 b5 b4 b3 b2
  rw [hs]
  exact wrap_int t 256 ht _

/-- The bottom-up state row: the node's sum of its children's states. -/
theorem up_state (j : Nat) (s : State Ideal) (t : Nat) (ht : t < 256) (hs : s.main_v6_12 = word t) (a : Fin 64) (k : Fin 512) :
    b47 j s (ix2 a k) = s.main_v6_14 (ix3 ⟨t, by omega⟩ a k) := by
  unfold b47 b46
  refine row_at s.main_v6_14 _ _ _ t (by omega) ?_ rfl rfl a k
  show (b29 j s (Shape.Idx.first h_S_)).toInt = t
  unfold b29 b28 b27 b26 b25
  rw [hs]
  exact wrap_int t 257 ht _

/-- The top-down input: the node's row. -/
theorem down_input (j : Nat) (s : State Ideal) (hj : j < 256) (a : Fin 64) (k : Fin 512) :
    b147 j s (ix2 a k) = s.main_v6_0 (ix3 ⟨j, hj⟩ a k) := by
  unfold b147 b146
  refine row_at s.main_v6_0 _ _ _ j hj ?_ rfl rfl a k
  show (b129 j s (Shape.Idx.first h_S_)).toInt = j
  unfold b129 b128 b127 b126 b125
  exact wrap_int j 256 hj _

/-- The heads of one node, wrapped: themselves, when they are in range. -/
theorem column_at (H : IVec S64x256 32) (st : Fin 2 → Int) (h : S64x256.Slices (fun _ => 0) S64x1) (h' : S64x1.ShapeCasts S64)
    (t : Nat) (ht : t < 256) (h0 : st 0 = 0) (h1 : st 1 = t) (b : Fin 64) :
    shapeCast S64 (Host.dynamicSlice S64x1 H st h) h' (ix1 b) = H (ix2 b ⟨t, ht⟩) := by
  have e0 : Host.clampedStart S64x256 S64x1 rfl st 0 = 0 := Host.clampedStart_of_le _ _ _ 0 h0 (by decide)
  have e1 : Host.clampedStart S64x256 S64x1 rfl st 1 = t := Host.clampedStart_of_le _ _ _ t h1 (by show t + 1 ≤ 256; omega)
  pointwise
  simp only [e0, e1, Nat.zero_add]

theorem up_cell (j : Nat) (s : State Ideal) (x h : Fin 512 → EReal) (a : Fin 64) (q : Fin 512)
    (hx : ∀ k, b24 j s (ix2 a k) = x k) (hh : ∀ k, b47 j s (ix2 a k) = h k) :
    b85 j s (ix2 a q) = cell s.main_v6_1 s.main_v6_3 (fun c => s.main_v6_2 (ix1 c)) x h q := by
  unfold b85 b84 b83 b82 b81 b80 b79 b78 b77 b76 b75 b74 b73 b72 b71 b70 b69 b68 b67 b66 b65 b64 b63 b62 b61 b60 b59 b58 b57 b56 b55 b54 b53 b52 b51 b50 b49 b48 cell prod
  pointwise
  simp only [hx, hh]
  rfl

theorem down_cell (j : Nat) (s : State Ideal) (x h : Fin 512 → EReal) (a : Fin 64) (q : Fin 512)
    (hx : ∀ k, b147 j s (ix2 a k) = x k) (hh : ∀ k, b180 j s (ix2 a k) = h k) :
    b218 j s (ix2 a q) = cell s.main_v6_7 s.main_v6_9 (fun c => s.main_v6_8 (ix1 c)) x h q := by
  unfold b218 b217 b216 b215 b214 b213 b212 b211 b210 b209 b208 b207 b206 b205 b204 b203 b202 b201 b200 b199 b198 b197 b196 b195 b194 b193 b192 b191 b190 b189 b188 b187 b186 b185 b184 b183 b182 b181 cell prod
  pointwise
  simp only [hx, hh]
  rfl

theorem select_eq {α : Type} (a b : Nat) (ha : a < 2 ^ 32) (hb : b < 2 ^ 32) (x y : α) :
    Scalar.select (IntOp.cmpi .eq (BitVec.ofNat 32 a) (BitVec.ofNat 32 b)) x y = if a = b then x else y := by
  by_cases h : a = b
  · subst h
    rw [if_pos rfl]
    simp [IntOp.cmpi, Scalar.select]
  · rw [if_neg h]
    have : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    have hb : (BitVec.ofNat 32 a == BitVec.ofNat 32 b) = false := beq_false_of_ne this
    simp only [IntOp.cmpi, Scalar.select, hb]
    rfl

theorem store_at (j : Nat) (s : State Ideal) (t : Nat) (ht : t < 256) (hs : s.main_v6_12 = word t) (r : Fin 256) (a : Fin 64) (q : Fin 512) :
    b124 j s (ix3 r a q) = if r.val = t then b85 j s (ix2 a q) else s.main_v6_15 (ix3 r a q) := by
  unfold b124 b123 b122 b121 b120 b119 K_main_v2 K_main_v1
  pointwise
  rw [hs]
  exact select_eq _ _ (by omega) (by omega) _ _

theorem store_down_at (j : Nat) (s : State Ideal) (hj : j < 256) (r : Fin 257) (a : Fin 64) (q : Fin 512) :
    b223 j s (ix3 r a q) = if r.val = j then b218 j s (ix2 a q) else s.main_v6_16 (ix3 r a q) := by
  unfold b223 b222 b221 b220 b219 K_main_v2 K_main_v1
  pointwise
  exact select_eq _ _ (by omega) (by omega) _ _

theorem lands (b : Fin 64) (e : Fin 512) (idx : IVec S64x2 32) (r : Fin 257) (a : Fin 64) (q : Fin 512) :
    scatter_S257x64x512_S64x2_S64x512_1_01_01_1.resultIdx? (ix2 b e) idx = some (ix3 r a q)
      ↔ (idx (ix2 b 0)).toInt = r.val ∧ (idx (ix2 b 1)).toInt = a.val ∧ e = q := by
  rw [Routing.resultIdx?_eq_some]
  have w0 : scatter_S257x64x512_S64x2_S64x512_1_01_01_1.window (ix2 b e) 0 = 0 := rfl
  have w1 : scatter_S257x64x512_S64x2_S64x512_1_01_01_1.window (ix2 b e) 1 = 0 := rfl
  have w2 : scatter_S257x64x512_S64x2_S64x512_1_01_01_1.window (ix2 b e) 2 = e.val := rfl
  have s2 : scatter_S257x64x512_S64x2_S64x512_1_01_01_1.start (ix2 b e) idx 2 = 0 := rfl
  have s0 : scatter_S257x64x512_S64x2_S64x512_1_01_01_1.start (ix2 b e) idx 0 = (idx (ix2 b 0)).toInt := by
    refine congrArg (fun i => (idx i).toInt) (funext fun x => ?_)
    match x with
    | ⟨0, _⟩ => rfl
    | ⟨1, _⟩ => rfl
  have s1 : scatter_S257x64x512_S64x2_S64x512_1_01_01_1.start (ix2 b e) idx 1 = (idx (ix2 b 1)).toInt := by
    refine congrArg (fun i => (idx i).toInt) (funext fun x => ?_)
    match x with
    | ⟨0, _⟩ => rfl
    | ⟨1, _⟩ => rfl
  constructor
  · intro h
    have h0 := h 0
    have h1 := h 1
    have h2 := h 2
    rw [s0, w0] at h0
    rw [s1, w1] at h1
    rw [s2, w2] at h2
    refine ⟨by simpa using h0, by simpa using h1, Fin.ext ?_⟩
    have : (e.val : Int) = q.val := by simpa using h2
    omega
  · rintro ⟨h0, h1, rfl⟩ x
    match x with
    | ⟨0, _⟩ => exact (congrArg₂ (fun (a : Int) (b : Nat) => a + (b : Int)) s0 w0).trans (by simpa using h0)
    | ⟨1, _⟩ => exact (congrArg₂ (fun (a : Int) (b : Nat) => a + (b : Int)) s1 w1).trans (by simpa using h1)
    | ⟨2, _⟩ => exact (congrArg₂ (fun (a : Int) (b : Nat) => a + (b : Int)) s2 w2).trans (by simp)

/-- The pair of index words of update row `b` in the bottom-up pass. -/
theorem up_pair (j : Nat) (s : State Ideal) (t : Nat) (ht : t < 256) (hs : s.main_v6_12 = word t) (b : Fin 64)
    (hlt : (s.main_v6_4 (ix2 b ⟨t, ht⟩)).toNat < 257) :
    b117 j s (ix2 b 0) = s.main_v6_4 (ix2 b ⟨t, ht⟩) ∧ b117 j s (ix2 b 1) = BitVec.ofNat 32 b.val := by
  have hc : b100 j s (ix1 b) = s.main_v6_4 (ix2 b ⟨t, ht⟩) := by
    unfold b100 b99
    refine column_at s.main_v6_4 _ _ _ t ht rfl ?_ b
    show (b98 j s (Shape.Idx.first h_S_)).toInt = t
    unfold b98 b97 b96 b95 b94
    rw [hs]
    exact wrap_int t 256 ht _
  constructor
  · unfold b117 b115 b107 b106 b105 b104 b103 b102 b101
    pointwise
    rw [hc]
    exact Routing.wrap_of_lt _ _ (by omega)
  · unfold b117 b116 b114 b113 b112 b111 b110 b109 b108 K_main_v0
    pointwise
    exact Routing.wrap_of_lt _ _ (by rw [BitVec.toNat_ofNat]; omega)

/-- The pair of index words of row `b` in the top-down pass. -/
theorem down_pair (j : Nat) (s : State Ideal) (hj : j < 256) (b : Fin 64)
    (hlt : (s.main_v6_4 (ix2 b ⟨j, hj⟩)).toNat < 257) :
    b179 j s (ix2 b 0) = s.main_v6_4 (ix2 b ⟨j, hj⟩) ∧ b179 j s (ix2 b 1) = BitVec.ofNat 32 b.val := by
  have hc : b162 j s (ix1 b) = s.main_v6_4 (ix2 b ⟨j, hj⟩) := by
    unfold b162 b161
    refine column_at s.main_v6_4 _ _ _ j hj rfl ?_ b
    show (b160 j s (Shape.Idx.first h_S_)).toInt = j
    unfold b160 b159 b158 b157 b156
    exact wrap_int j 256 hj _
  constructor
  · unfold b179 b177 b169 b168 b167 b166 b165 b164 b163
    pointwise
    rw [hc]
    exact Routing.wrap_of_lt _ _ (by omega)
  · unfold b179 b178 b176 b175 b174 b173 b172 b171 b170 K_main_v0
    pointwise
    exact Routing.wrap_of_lt _ _ (by rw [BitVec.toNat_ofNat]; omega)

/-- The top-down state row: the head's state. -/
theorem down_state (j : Nat) (s : State Ideal) (hj : j < 256) (a : Fin 64) (q : Fin 512)
    (hlt : (s.main_v6_4 (ix2 a ⟨j, hj⟩)).toNat < 257) :
    b180 j s (ix2 a q) = s.main_v6_16 (ix3 ⟨(s.main_v6_4 (ix2 a ⟨j, hj⟩)).toNat, hlt⟩ a q) := by
  obtain ⟨p0, p1⟩ := down_pair j s hj a hlt
  unfold b180
  generalize b179 j s = idx at p0 p1
  have e0 : gather_S257x64x512_S64x2_S64x512_1_01_n_n_01_1_11512.start (ix2 a q) idx 0 = min (idx (ix2 a 0)).toInt.toNat 256 := by
    refine congrArg (fun i => min (idx i).toInt.toNat 256) (funext fun x => ?_)
    match x with
    | ⟨0, _⟩ => rfl
    | ⟨1, _⟩ => rfl
  have e1 : gather_S257x64x512_S64x2_S64x512_1_01_n_n_01_1_11512.start (ix2 a q) idx 1 = min (idx (ix2 a 1)).toInt.toNat 63 := by
    refine congrArg (fun i => min (idx i).toInt.toNat 63) (funext fun x => ?_)
    match x with
    | ⟨0, _⟩ => rfl
    | ⟨1, _⟩ => rfl
  have t0 : (idx (ix2 a 0)).toInt = (s.main_v6_4 (ix2 a ⟨j, hj⟩)).toNat := by
    rw [p0, BitVec.toInt_eq_toNat_of_lt (by omega)]
  have t1 : (idx (ix2 a 1)).toInt = a.val := by
    rw [p1, toInt_ofNat_of_lt (by omega)]
  have := a.isLt
  refine congrArg s.main_v6_16 (funext fun x => Fin.ext ?_)
  match x with
  | ⟨0, _⟩ =>
    show gather_S257x64x512_S64x2_S64x512_1_01_n_n_01_1_11512.start (ix2 a q) idx 0 + 0 + 0 = _
    rw [e0, t0]
    show min (Int.toNat (s.main_v6_4 (ix2 a ⟨j, hj⟩)).toNat) 256 + 0 + 0 = (s.main_v6_4 (ix2 a ⟨j, hj⟩)).toNat
    omega
  | ⟨1, _⟩ =>
    show gather_S257x64x512_S64x2_S64x512_1_01_n_n_01_1_11512.start (ix2 a q) idx 1 + 0 + 0 = _
    rw [e1, t1]
    show min (Int.toNat a.val) 63 + 0 + 0 = a.val
    omega
  | ⟨2, _⟩ =>
    show 0 + 0 + q.val = q.val
    omega

/-- The sums after the trip: the head's row of a tree takes the state besides. -/
theorem add_at (j : Nat) (s : State Ideal) (t : Nat) (ht : t < 256) (hs : s.main_v6_12 = word t)
    (hlt : ∀ b : Fin 64, (s.main_v6_4 (ix2 b ⟨t, ht⟩)).toNat < 257) (r : Fin 257) (a : Fin 64) (q : Fin 512) :
    b118 j s (ix3 r a q)
      = if r.val = (s.main_v6_4 (ix2 a ⟨t, ht⟩)).toNat then s.main_v6_14 (ix3 r a q) + b85 j s (ix2 a q) else s.main_v6_14 (ix3 r a q) := by
  have hp := fun b => up_pair j s t ht hs b (hlt b)
  unfold b118 Host.scatterAdd
  rw [Ideal.hostScatterAdd_def]
  unfold Ideal.hostScatterAdd
  generalize b117 j s = idx at hp
  generalize b85 j s = u
  have hl : ∀ y : S64x512.Idx, scatter_S257x64x512_S64x2_S64x512_1_01_01_1.resultIdx? y idx = some (ix3 r a q)
      ↔ y = ix2 a q ∧ r.val = (s.main_v6_4 (ix2 a ⟨t, ht⟩)).toNat := by
    intro y
    obtain ⟨b, e, rfl⟩ : ∃ b e, y = ix2 b e := ⟨y 0, y 1, funext fun x => match x with | ⟨0, _⟩ => rfl | ⟨1, _⟩ => rfl⟩
    have hb := hlt b
    rw [lands, (hp b).1, (hp b).2, BitVec.toInt_eq_toNat_of_lt (by omega), toInt_ofNat_of_lt (by omega)]
    constructor
    · rintro ⟨h0, h1, rfl⟩
      have : b = a := Fin.ext (by omega)
      subst this
      exact ⟨rfl, by omega⟩
    · rintro ⟨h0, h1⟩
      have hb : b = a := congrFun h0 0
      have he : e = q := congrFun h0 1
      subst hb he
      exact ⟨by omega, rfl, rfl⟩
  by_cases h : r.val = (s.main_v6_4 (ix2 a ⟨t, ht⟩)).toNat
  · rw [if_pos h]
    refine congrArg (s.main_v6_14 (ix3 r a q) + ·) ?_
    rw [Finset.filter_congr (q := fun y => y = ix2 a q) fun y _ => by rw [hl]; exact ⟨fun z => z.1, fun z => ⟨z, h⟩⟩]
    rw [Finset.filter_eq' , if_pos (Finset.mem_univ _), Finset.sum_singleton]
  · rw [if_neg h, Finset.filter_false_of_mem fun y _ => by rw [hl]; exact fun z => h z.2, Finset.sum_empty, add_zero]

end Cert.Proof.Ref
-- ==== Proof.RefValue.lean ====
module

public import proofs.«01_k».proof.Proof.RefCell
public import proofs.«01_k».proof.Proof.Ref
public import proofs.«01_k».proof.Proof.Whole

@[expose] public section

/-! The reference's loop state, trip by trip, is the kernel's two recursions; so its results are the kernel's. -/

noncomputable section

namespace Cert.Proof.Ref

open Idealize.ShloMosaic
open Cert.ReferenceIdeal Cert.ReferenceIdeal.Gen
open Cert.ReferenceIdeal.Step
open Cert.ReferenceIdeal.StepRun (initState)
open Cert.Proof (Arrs sums up table down unit par gyOf upOf gat sct hd Earlier cell upOf_at downOf_at upAll downAll)

/-- The state before trip `n` holds the arguments, and what the two recursions hold after `n` steps. -/
structure Same (P : Arrs Ideal) (n : Nat) (s : State Ideal) : Prop where
  x : s.main_v6_0 = P.x
  wd : s.main_v6_1 = P.wd
  ud : s.main_v6_3 = P.ud
  bd : ∀ c, s.main_v6_2 (ix1 c) = P.bd (ix2 0 c)
  H : s.main_v6_4 = P.H
  wt : s.main_v6_7 = P.wt
  ut : s.main_v6_9 = P.ut
  bt : ∀ c, s.main_v6_8 (ix1 c) = P.bt (ix2 0 c)
  node : n < 256 → s.main_v6_12 = word (255 - n)
  cs : ∀ (r : Fin 257) (a : Fin 64) (q : Fin 512), s.main_v6_14 (ix3 r a q) = sums P n (ix3 r a q)
  dt : ∀ (r : Fin 256) (a : Fin 64) (q : Fin 512), 256 - n ≤ r.val → s.main_v6_15 (ix3 r a q) = up P (255 - r.val) (ix2 a q)
  td : ∀ (r : Fin 257) (a : Fin 64) (q : Fin 512), s.main_v6_16 (ix3 r a q) = table P n (ix3 r a q)
  last : ∀ k, n = k + 1 → ∀ (a : Fin 64) (q : Fin 512), s.main_v6_17 (ix2 a q) = down P k (ix2 a q)

/-- A head inside the table, looked up. -/
theorem hd_in (H : Vec Ideal S64x256 .i32) (b : Fin 64) (t : Nat) (ht : t < 256) : hd H b.val t = H (ix2 b ⟨t, ht⟩) := by
  unfold hd
  rw [dif_pos ⟨b.isLt, ht⟩]

/-- The bottom-up state the trip computes. -/
theorem Same.up_row {P : Arrs Ideal} {n : Nat} {s : State Ideal} (h : Same P n s) (hn : n < 256) (a : Fin 64) (q : Fin 512) :
    b85 n s (ix2 a q) = up P n (ix2 a q) := by
  have ht : 255 - n < 256 := by omega
  rw [up_cell n s _ _ a q (fun k => up_input n s (255 - n) ht (h.node hn) a k) (fun k => up_state n s (255 - n) ht (h.node hn) a k)]
  refine Eq.trans ?_ (upOf_at P n hn (sums P n) a q).symm
  rw [h.wd, h.ud, h.x, funext h.bd]
  exact congrArg (fun f => cell _ _ _ _ f q) (funext fun k => h.cs _ a k)

/-- The rows of the heads the trip reads. -/
theorem Same.parents {P : Arrs Ideal} {n : Nat} {s : State Ideal} (h : Same P n s) (hE : Earlier P.H) (hn : n < 256) (a : Fin 64) (k : Fin 512) :
    b180 n s (ix2 a k) = par P n (table P n) (ix2 a k) := by
  have hlt : (P.H (ix2 a ⟨n, hn⟩)).toNat < 257 := by
    have := hE.lt a.val n
    rwa [hd_in P.H a n hn] at this
  have e := down_state n s hn a k (by rw [h.H]; exact hlt)
  rw [e, h.td]
  unfold par gat
  show _ = if a.val < 64 then (if g : (hd P.H a.val n).toNat < 257 then table P n (ix3 ⟨(hd P.H a.val n).toNat, g⟩ a k) else _) else _
  rw [if_pos a.isLt, dif_pos (by rw [hd_in P.H a n hn]; exact hlt)]
  refine congrArg (fun r => table P n (ix3 r a k)) (Fin.ext ?_)
  show (s.main_v6_4 (ix2 a ⟨n, hn⟩)).toNat = (hd P.H a.val n).toNat
  rw [hd_in P.H a n hn, h.H]

/-- The top-down state the trip computes. -/
theorem Same.down_row {P : Arrs Ideal} {n : Nat} {s : State Ideal} (h : Same P n s) (hE : Earlier P.H) (hn : n < 256) (a : Fin 64) (q : Fin 512) :
    b218 n s (ix2 a q) = down P n (ix2 a q) := by
  rw [down_cell n s _ _ a q (fun k => down_input n s hn a k) (fun k => h.parents hE hn a k)]
  refine Eq.trans ?_ (downOf_at P n hn (par P n (table P n)) a q).symm
  rw [h.wt, h.ut, h.x, funext h.bt]

/-- A trip advances both recursions by a step. -/
theorem Same.step {P : Arrs Ideal} {n : Nat} {s : State Ideal} (h : Same P n s) (hE : Earlier P.H) (hn : n < 256) : Same P (n + 1) (Step.step n s) where
  x := h.x
  wd := h.wd
  ud := h.ud
  bd := h.bd
  H := h.H
  wt := h.wt
  ut := h.ut
  bt := h.bt
  node hn' := by
    rw [step_main_v6_12]
    unfold b225 b224
    rw [h.node hn]
    funext i
    show BitVec.ofNat 32 (255 - n) - 1#32 = BitVec.ofNat 32 (255 - (n + 1))
    obtain ⟨m, hm⟩ : ∃ m, 255 - n = m + 1 := ⟨254 - n, by omega⟩
    rw [hm, show 255 - (n + 1) = m from by omega, BitVec.ofNat_add]
    exact BitVec.add_sub_cancel _ _
  cs r a q := by
    have hlt : ∀ b : Fin 64, (s.main_v6_4 (ix2 b ⟨255 - n, by omega⟩)).toNat < 257 := fun b => by
      have := hE.lt b.val (255 - n)
      rwa [hd_in P.H b (255 - n) (by omega), ← h.H] at this
    rw [step_main_v6_14, add_at n s (255 - n) (by omega) (h.node hn) hlt r a q, h.up_row hn, h.cs]
    show _ = if a.val < 64 ∧ r.val = (hd P.H a.val (255 - n)).toNat then sums P n (ix3 r a q) + up P n (ix2 a q) else sums P n (ix3 r a q)
    rw [hd_in P.H a (255 - n) (by omega), ← h.H]
    exact if_congr ⟨fun e => ⟨a.isLt, e⟩, fun e => e.2⟩ rfl rfl
  dt r a q hr := by
    rw [step_main_v6_15, store_at n s (255 - n) (by omega) (h.node hn), h.up_row hn]
    by_cases e : r.val = 255 - n
    · rw [if_pos e, e, show 255 - (255 - n) = n from by omega]
    · rw [if_neg e, h.dt r a q (by omega)]
  td r a q := by
    rw [step_main_v6_16, store_down_at n s hn, h.down_row hE hn, h.td]
    rfl
  last k hk a q := by
    obtain rfl : n = k := by omega
    rw [step_main_v6_17, h.down_row hE hn]

/-- So it is after any number of trips. -/
theorem Same.after {P : Arrs Ideal} {s : State Ideal} (h : Same P 0 s) (hE : Earlier P.H) : ∀ n ≤ 256, Same P n (after s n)
  | 0, _ => h
  | n + 1, hn => (Same.after h hE n (by omega)).step hE (by omega)

/-- The table's row of a node that has been visited. -/
theorem table_row (P : Arrs Ideal) (a : Fin 64) (q : Fin 512) (r : Fin 257) : ∀ n, r.val < n → table P n (ix3 r a q) = down P r.val (ix2 a q)
  | n + 1, hr => by
    show (if r.val = n then down P n (ix2 a q) else table P n (ix3 r a q)) = _
    by_cases e : r.val = n
    · rw [if_pos e, e]
    · rw [if_neg e, table_row P a q r n (by omega)]

/-- The bottom-up table when the loop is left. -/
theorem Same.up_all {P : Arrs Ideal} {s : State Ideal} (h : Same P 256 s) : s.main_v6_15 = upAll P := by
  funext j
  idx_vars j
  exact h.dt _ _ _ (by omega)

/-- The top-down table when the loop is left. -/
theorem Same.down_all {P : Arrs Ideal} {s : State Ideal} (h : Same P 256 s) :
    extractStridedSlice S256x64x512 ![0, 0, 0] s.main_v6_16 slices_S257x64x512_S256x64x512_0_0_0 = downAll P := by
  funext j
  obtain ⟨r, a, q, rfl⟩ : ∃ r a q, j = ix3 r a q := ⟨j 0, j 1, j 2, funext fun x => match x with | ⟨0, _⟩ => rfl | ⟨1, _⟩ => rfl | ⟨2, _⟩ => rfl⟩
  pointwise
  rw [h.td, table_row P _ _ _ 256 (r.isLt)]
  rfl

/-- The last top-down state, as the last row of the kernel's second table. -/
theorem Same.last_row {P : Arrs Ideal} {s : State Ideal} (h : Same P 256 s) :
    s.main_v6_17 = shapeCast S64x512 (extractStridedSlice S1x64x512 ![255, 0, 0] (downAll P) Cert.KernelIdeal.Gen.slices_S256x64x512_S1x64x512_255_0_0)
      shapeCasts_S1x64x512_S64x512 := by
  funext j
  obtain ⟨a, q, rfl⟩ : ∃ a q, j = ix2 a q := ⟨j 0, j 1, funext fun x => match x with | ⟨0, _⟩ => rfl | ⟨1, _⟩ => rfl⟩
  pointwise
  exact h.last 255 rfl a q

/-- The first result. -/
theorem Same.result0 {P : Arrs Ideal} {s : State Ideal} (h : Same P 256 s) : R_main_v11 s = Cert.Proof.result0 P := by
  unfold R_main_v11
  rw [h.up_all, h.down_all]
  rfl

/-- The second result. -/
theorem Same.result1 {P : Arrs Ideal} {s : State Ideal} (h : Same P 256 s) : R_main_v13 s = Cert.Proof.result1 P := by
  unfold R_main_v13
  rw [h.up_all, h.last_row]
  rfl

end Cert.Proof.Ref
-- ==== Proof.Value.lean ====
module

public import proofs.«01_k».proof.Proof.RefValue
public import proofs.«01_k».proof.Proof.Frames

@[expose] public section

/-! The kernel and the reference end with equal results over the extended reals. -/

noncomputable section

namespace Cert.Proof.Ref

open Idealize.ShloMosaic
open Idealize.ShloMosaic.TcCoe
open Idealize.SL.Sem
open Cert.ReferenceIdeal.StepRun (initState run_iter)
open Cert.ReferenceIdeal.Step (State)

/-- A bias as the region reads it: one row of the same numbers. -/
theorem bias_row (v : Vec Ideal KernelIdeal.S1536 .f32) (c : Fin 1536) :
    (shapeCast KernelIdeal.S1x1536 v KernelIdeal.Gen.shapeCasts_S1536_S1x1536) (ix2 0 c) = v (ix1 c) := by
  pointwise

/-- What the host leaves in the bottom-up bias the region reads. -/
theorem entry_bd (m : (ℓ : Loc KernelIdeal.nD KernelIdeal.τ KernelIdeal.sig) → Buf (Elt Ideal) ℓ) (c : Dev KernelIdeal.nD) :
    (arrsOf (atEntry m c)).bd
      = shapeCast KernelIdeal.S1x1536 (m ((c.tc : Thread KernelIdeal.nD KernelIdeal.τ).loc KernelIdeal.main_arg4)) KernelIdeal.Gen.shapeCasts_S1536_S1x1536 := by
  unfold arrsOf atEntry
  after_reads_simp
  rfl

/-- What the host leaves in the top-down bias the region reads. -/
theorem entry_bt (m : (ℓ : Loc KernelIdeal.nD KernelIdeal.τ KernelIdeal.sig) → Buf (Elt Ideal) ℓ) (c : Dev KernelIdeal.nD) :
    (arrsOf (atEntry m c)).bt
      = shapeCast KernelIdeal.S1x1536 (m ((c.tc : Thread KernelIdeal.nD KernelIdeal.τ).loc KernelIdeal.main_arg7)) KernelIdeal.Gen.shapeCasts_S1536_S1x1536 := by
  unfold arrsOf atEntry
  after_reads_simp
  rfl

/-- The loop's first state matches the kernel's, where the two memories agree on the arguments. -/
theorem start_same (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7)) :
    Same (arrsOf (atEntry m c)) 0 (initState m' c) where
  x := h0.trans (atEntry_keep m c KernelIdeal.main_arg0 (by decide) (by decide)).symm
  wd := h2.trans (atEntry_keep m c KernelIdeal.main_arg2 (by decide) (by decide)).symm
  ud := h3.trans (atEntry_keep m c KernelIdeal.main_arg3 (by decide) (by decide)).symm
  bd k := (congrFun h4 (ix1 k)).trans (by rw [entry_bd]; exact (bias_row _ k).symm)
  H := h1.trans (heads_arg m c).symm
  wt := h5.trans (atEntry_keep m c KernelIdeal.main_arg5 (by decide) (by decide)).symm
  ut := h6.trans (atEntry_keep m c KernelIdeal.main_arg6 (by decide) (by decide)).symm
  bt k := (congrFun h7 (ix1 k)).trans (by rw [entry_bt]; exact (bias_row _ k).symm)
  node _ := rfl
  cs r a q := by
    show Ideal.ofBits .f32 0x00000000#32 = Ideal.ofBits .bf16 0x0000#16
    rw [Ideal.ofBits_zero, Ideal.ofBits_zero]
  dt r a q h := absurd r.isLt (by omega)
  td r a q := by
    show Ideal.ofBits .f32 0x00000000#32 = Ideal.ofBits .bf16 0x0000#16
    rw [Ideal.ofBits_zero, Ideal.ofBits_zero]
  last k h := absurd h (by omega)

/-- From memories that agree on the arguments, the kernel and the reference end with the same two results. -/
theorem equal : algebraic_KernelIdeal_ReferenceIdeal := by
  intro m g m' g' hpre hagree
  have hE : ∀ c, Earlier (arrsOf (atEntry m c)).H := fun c => by
    rw [heads_arg]
    exact earlier_of_pre _ _ _ _ _ _ _ _ (hpre c)
  refine ⟨fun c => result0 (arrsOf (atEntry m c)), fun c => result1 (arrsOf (atEntry m c)), ?_, ?_⟩
  · exact θ_run_mono (run m g hE) fun r hr => hr.1
  · refine θ_run_mono (run_iter m' g' (fun c => after (initState m' c)) (fun _ => rfl) fun _ _ => rfl) fun r hr c => ?_
    obtain ⟨e0, e1, e2, e3, e4, e5, e6, e7⟩ := hagree c
    have hs := (start_same m m' c e0 e1 e2 e3 e4 e5 e6 e7).after (hE c) 256 (Nat.le_refl _)
    exact ⟨(hr c).1.trans hs.result0, (hr c).2.1.trans hs.result1, (hr c).2.2⟩

end Cert.Proof.Ref
-- ==== Proof.lean ====
/- The claims about the two-pass tree unit: the kernel runs and leaves its arguments alone, at the machine's numbers and over
   the extended reals; the two prints are one program; and over the extended reals the kernel and the reference leave the
   same two results. -/
module

public import proofs.«01_k».proof.Defs
public import proofs.«01_k».proof.Proof.Gen.Kernel
public import proofs.«01_k».proof.Proof.Frames
public import proofs.«01_k».proof.Proof.Ref
public import proofs.«01_k».proof.Proof.Value
public import proofs.«01_k».proof.Proof.Gen.Pre_earlier_heads
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_earlier_heads.Gen.facts,
  frame_bits, frame_ideal, Ref.frame, Ref.frame_pre, trivial, Ref.equal⟩

end Cert.Proof

end
